-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S256x100000 : Shape := ⟨2, ![256, 100000]⟩
abbrev S288x100000 : Shape := ⟨2, ![288, 100000]⟩
abbrev S32 : Shape := ⟨1, ![32]⟩
abbrev S256 : Shape := ⟨1, ![256]⟩
abbrev S32x100000 : Shape := ⟨2, ![32, 100000]⟩
abbrev S_ : Shape := ⟨0, ![]⟩

class Facts : Prop where
  bcast_S_S256x100000 : S_.BroadcastsInDim S256x100000 (![] : Fin 0 → Fin S256x100000.rank)
  bcast_S_S288x100000 : S_.BroadcastsInDim S288x100000 (![] : Fin 0 → Fin S288x100000.rank)
  bcast_S_S32 : S_.BroadcastsInDim S32 (![] : Fin 0 → Fin S32.rank)
  bcast_S_S32x100000 : S_.BroadcastsInDim S32x100000 (![] : Fin 0 → Fin S32x100000.rank)
  bcast_S_S256 : S_.BroadcastsInDim S256 (![] : Fin 0 → Fin S256.rank)

variable [Facts]

def fn_part1 {F : FTy → Type} [FloatOps F] (main_arg4 : FVec F S32x100000 .f32) (main_arg5 : IVec S256 32) (main_arg7 : IVec S32 32) (main_arg8 : IVec S32 1) (main_v4 : IVec S256x100000 1) (main_v9 : IVec S288x100000 1) (main_v14 : IVec S32 1) (main_v16 : IVec S32 1) : IVec S256x100000 1 × IVec S288x100000 1 × IVec S32 1 × IVec S32x100000 1 × IVec S256 1 × IVec S32 1 × IVec S32 1 :=
  let main_v17 : IVec S32 1 := andi main_v14 main_v16
  let main_cst_6 : FVec F S_ .f32 := constant S_ .f32 0x00000000#32
  let main_v18 : FVec F S32x100000 .f32 := broadcastInDim S32x100000 ![] bcast_S_S32x100000 main_cst_6
  let main_v19 : IVec S32x100000 1 := cmpf .ogt main_arg4 main_v18
  let main_cst_7 : FVec F S_ .f32 := constant S_ .f32 0x3F800000#32
  let main_v20 : FVec F S32x100000 .f32 := broadcastInDim S32x100000 ![] bcast_S_S32x100000 main_cst_7
  let main_v21 : IVec S32x100000 1 := cmpf .olt main_arg4 main_v20
  let main_v22 : IVec S32x100000 1 := andi main_v19 main_v21
  let main_c : IVec S_ 32 := constantI S_ 32 0#32
  let main_v23 : IVec S256 32 := broadcastInDim S256 ![] bcast_S_S256 main_c
  let main_v24 : IVec S256 1 := cmpi .sge main_arg5 main_v23
  let main_c_8 : IVec S_ 32 := constantI S_ 32 100000#32
  let main_v25 : IVec S256 32 := broadcastInDim S256 ![] bcast_S_S256 main_c_8
  let main_v26 : IVec S256 1 := cmpi .slt main_arg5 main_v25
  let main_v27 : IVec S256 1 := andi main_v24 main_v26
  let main_v28 : IVec S32 32 := iotaInDim S32 32 0
  let main_c_9 : IVec S_ 32 := constantI S_ 32 1#32
  let main_v29 : IVec S32 32 := broadcastInDim S32 ![] bcast_S_S32 main_c_9
  let main_v30 : IVec S32 32 := addi main_v28 main_v29
  let main_c_10 : IVec S_ 32 := constantI S_ 32 8#32
  let main_v31 : IVec S32 32 := broadcastInDim S32 ![] bcast_S_S32 main_c_10
  let main_v32 : IVec S32 32 := muli main_v30 main_v31
  let main_v33 : IVec S32 1 := cmpi .eq main_arg7 main_v32
  let main_v34 : IVec S32 1 := noti main_arg8
  (main_v4, main_v9, main_v17, main_v22, main_v27, main_v33, main_v34)

def fn {F : FTy → Type} [FloatOps F] (main_arg0 : FVec F S256x100000 .f32) (main_arg1 : FVec F S288x100000 .f32) (main_arg2 : FVec F S32 .f32) (main_arg3 : FVec F S256 .f32) (main_arg4 : FVec F S32x100000 .f32) (main_arg5 : IVec S256 32) (main_arg6 : IVec S32 32) (main_arg7 : IVec S32 32) (main_arg8 : IVec S32 1) : IVec S256x100000 1 × IVec S288x100000 1 × IVec S32 1 × IVec S32x100000 1 × IVec S256 1 × IVec S32 1 × IVec S32 1 :=
  let main_cst : FVec F S_ .f32 := constant S_ .f32 0xFF800000#32
  let main_v0 : FVec F S256x100000 .f32 := broadcastInDim S256x100000 ![] bcast_S_S256x100000 main_cst
  let main_v1 : IVec S256x100000 1 := cmpf .ogt main_arg0 main_v0
  let main_cst_0 : FVec F S_ .f32 := constant S_ .f32 0x7F800000#32
  let main_v2 : FVec F S256x100000 .f32 := broadcastInDim S256x100000 ![] bcast_S_S256x100000 main_cst_0
  let main_v3 : IVec S256x100000 1 := cmpf .olt main_arg0 main_v2
  let main_v4 : IVec S256x100000 1 := andi main_v1 main_v3
  let main_cst_1 : FVec F S_ .f32 := constant S_ .f32 0xFF800000#32
  let main_v5 : FVec F S288x100000 .f32 := broadcastInDim S288x100000 ![] bcast_S_S288x100000 main_cst_1
  let main_v6 : IVec S288x100000 1 := cmpf .ogt main_arg1 main_v5
  let main_cst_2 : FVec F S_ .f32 := constant S_ .f32 0x7F800000#32
  let main_v7 : FVec F S288x100000 .f32 := broadcastInDim S288x100000 ![] bcast_S_S288x100000 main_cst_2
  let main_v8 : IVec S288x100000 1 := cmpf .olt main_arg1 main_v7
  let main_v9 : IVec S288x100000 1 := andi main_v6 main_v8
  let main_cst_3 : FVec F S_ .f32 := constant S_ .f32 0xFF800000#32
  let main_v10 : FVec F S32 .f32 := broadcastInDim S32 ![] bcast_S_S32 main_cst_3
  let main_v11 : IVec S32 1 := cmpf .ogt main_arg2 main_v10
  let main_cst_4 : FVec F S_ .f32 := constant S_ .f32 0x7F800000#32
  let main_v12 : FVec F S32 .f32 := broadcastInDim S32 ![] bcast_S_S32 main_cst_4
  let main_v13 : IVec S32 1 := cmpf .olt main_arg2 main_v12
  let main_v14 : IVec S32 1 := andi main_v11 main_v13
  let main_cst_5 : FVec F S_ .f32 := constant S_ .f32 0x00000000#32
  let main_v15 : FVec F S32 .f32 := broadcastInDim S32 ![] bcast_S_S32 main_cst_5
  let main_v16 : IVec S32 1 := cmpf .une main_arg2 main_v15
  fn_part1 (F := F) main_arg4 main_arg5 main_arg7 main_arg8 main_v4 main_v9 main_v14 main_v16
-- ==== Kernel.lean ====
abbrev S256x100000 : Shape := ⟨2, ![256, 100000]⟩
abbrev S288x100000 : Shape := ⟨2, ![288, 100000]⟩
abbrev S32 : Shape := ⟨1, ![32]⟩
abbrev S256 : Shape := ⟨1, ![256]⟩
abbrev S32x100000 : Shape := ⟨2, ![32, 100000]⟩
abbrev S32x1 : Shape := ⟨2, ![32, 1]⟩
abbrev S32x8 : Shape := ⟨2, ![32, 8]⟩
abbrev S1x256 : Shape := ⟨2, ![1, 256]⟩
abbrev S8x256 : Shape := ⟨2, ![8, 256]⟩
abbrev S100000x256 : Shape := ⟨2, ![100000, 256]⟩
abbrev S256x1 : Shape := ⟨2, ![256, 1]⟩
abbrev S_ : Shape := ⟨0, ![]⟩
abbrev S32x16 : Shape := ⟨2, ![32, 16]⟩
abbrev S32x16x1 : Shape := ⟨3, ![32, 16, 1]⟩
abbrev S32x8x1 : Shape := ⟨3, ![32, 8, 1]⟩
abbrev S32x9x1 : Shape := ⟨3, ![32, 9, 1]⟩
abbrev S32x9 : Shape := ⟨2, ![32, 9]⟩
abbrev S1024x256 : Shape := ⟨2, ![1024, 256]⟩
abbrev S256x1024 : Shape := ⟨2, ![256, 1024]⟩
abbrev S1024x1 : Shape := ⟨2, ![1024, 1]⟩
abbrev S8x100000 : Shape := ⟨2, ![8, 100000]⟩
abbrev S1x16x1 : Shape := ⟨3, ![1, 16, 1]⟩
abbrev S1x8x1 : Shape := ⟨3, ![1, 8, 1]⟩
abbrev S8x1 : Shape := ⟨2, ![8, 1]⟩
abbrev S2x16x100000 : Shape := ⟨3, ![2, 16, 100000]⟩
abbrev S2x8x100000 : Shape := ⟨3, ![2, 8, 100000]⟩
abbrev S1x100000 : Shape := ⟨2, ![1, 100000]⟩
abbrev S2 : Shape := ⟨1, ![2]⟩
abbrev S1 : Shape := ⟨1, ![1]⟩
abbrev S1x16x100000 : Shape := ⟨3, ![1, 16, 100000]⟩
abbrev S16x100000 : Shape := ⟨2, ![16, 100000]⟩
abbrev S1x8x100000 : Shape := ⟨3, ![1, 8, 100000]⟩
abbrev S1x1024 : Shape := ⟨2, ![1, 1024]⟩
abbrev S8x1024 : Shape := ⟨2, ![8, 1024]⟩
abbrev S1x16x1024 : Shape := ⟨3, ![1, 16, 1024]⟩
abbrev S16x1024 : Shape := ⟨2, ![16, 1024]⟩
abbrev S8 : Shape := ⟨1, ![8]⟩
abbrev S16x1 : Shape := ⟨2, ![16, 1]⟩
abbrev S1x8x1024 : Shape := ⟨3, ![1, 8, 1024]⟩
abbrev S1x1 : Shape := ⟨2, ![1, 1]⟩

abbrev nBuf : Space → Nat
  | .hbm => 28
  | .vmem => 20
  | .smem => 2
  | _ => 0

abbrev bufTy : (tb : Table) → Fin (tcTables nBuf tb) → BufTy
  | .hbm, ⟨0, _⟩ => ⟨S256x100000, .f32⟩
  | .hbm, ⟨1, _⟩ => ⟨S288x100000, .f32⟩
  | .hbm, ⟨2, _⟩ => ⟨S32, .f32⟩
  | .hbm, ⟨3, _⟩ => ⟨S256, .f32⟩
  | .hbm, ⟨4, _⟩ => ⟨S32x100000, .f32⟩
  | .hbm, ⟨5, _⟩ => ⟨S256, .i32⟩
  | .hbm, ⟨6, _⟩ => ⟨S32, .i32⟩
  | .hbm, ⟨7, _⟩ => ⟨S32, .i32⟩
  | .hbm, ⟨8, _⟩ => ⟨S32, .i1⟩
  | .hbm, ⟨9, _⟩ => ⟨S32x1, .f32⟩
  | .hbm, ⟨10, _⟩ => ⟨S32x8, .f32⟩
  | .hbm, ⟨11, _⟩ => ⟨S256, .f32⟩
  | .hbm, ⟨12, _⟩ => ⟨S1x256, .f32⟩
  | .hbm, ⟨13, _⟩ => ⟨S8x256, .f32⟩
  | .hbm, ⟨14, _⟩ => ⟨S100000x256, .f32⟩
  | .hbm, ⟨15, _⟩ => ⟨S256x100000, .f32⟩
  | .hbm, ⟨16, _⟩ => ⟨S8x256, .f32⟩
  | .hbm, ⟨17, _⟩ => ⟨S1x256, .f32⟩
  | .hbm, ⟨18, _⟩ => ⟨S256x1, .f32⟩
  | .hbm, ⟨19, _⟩ => ⟨S32x8, .i32⟩
  | .hbm, ⟨20, _⟩ => ⟨S_, .i32⟩
  | .hbm, ⟨21, _⟩ => ⟨S_, .i32⟩
  | .hbm, ⟨22, _⟩ => ⟨S32x16, .i32⟩
  | .hbm, ⟨23, _⟩ => ⟨S32x16x1, .i32⟩
  | .hbm, ⟨24, _⟩ => ⟨S32x8x1, .f32⟩
  | .hbm, ⟨25, _⟩ => ⟨S32x16x1, .i32⟩
  | .hbm, ⟨26, _⟩ => ⟨S32x9x1, .i32⟩
  | .hbm, ⟨27, _⟩ => ⟨S32x9, .i32⟩
  | .local _ .vmem, ⟨0, _⟩ => ⟨S1024x256, .f32⟩
  | .local _ .vmem, ⟨1, _⟩ => ⟨S1024x256, .f32⟩
  | .local _ .vmem, ⟨2, _⟩ => ⟨S8x256, .f32⟩
  | .local _ .vmem, ⟨3, _⟩ => ⟨S256x1024, .f32⟩
  | .local _ .vmem, ⟨4, _⟩ => ⟨S256x1024, .f32⟩
  | .local _ .vmem, ⟨5, _⟩ => ⟨S8x256, .f32⟩
  | .local _ .vmem, ⟨6, _⟩ => ⟨S8x100000, .f32⟩
  | .local _ .vmem, ⟨7, _⟩ => ⟨S8x100000, .f32⟩
  | .local _ .vmem, ⟨8, _⟩ => ⟨S1x16x1, .i32⟩
  | .local _ .vmem, ⟨9, _⟩ => ⟨S1x16x1, .i32⟩
  | .local _ .vmem, ⟨10, _⟩ => ⟨S1x8x1, .f32⟩
  | .local _ .vmem, ⟨11, _⟩ => ⟨S1x8x1, .f32⟩
  | .local _ .vmem, ⟨12, _⟩ => ⟨S8x1, .f32⟩
  | .local _ .vmem, ⟨13, _⟩ => ⟨S8x1, .f32⟩
  | .local _ .vmem, ⟨14, _⟩ => ⟨S1x16x1, .i32⟩
  | .local _ .vmem, ⟨15, _⟩ => ⟨S1x16x1, .i32⟩
  | .local _ .vmem, ⟨16, _⟩ => ⟨S2x16x100000, .f32⟩
  | .local _ .vmem, ⟨17, _⟩ => ⟨S2x8x100000, .f32⟩
  | .local _ .vmem, ⟨18, _⟩ => ⟨S8x100000, .f32⟩
  | .local _ .vmem, ⟨19, _⟩ => ⟨S1x100000, .f32⟩
  | .local _ .smem, ⟨0, _⟩ => ⟨S32, .f32⟩
  | .local _ .smem, ⟨1, _⟩ => ⟨S32, .i32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6_0 : Ref sig .tc := ⟨.hbm, 15, rfl⟩
abbrev main_call0_v6_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c : Ref sig .tc := ⟨.hbm, 20, rfl⟩
abbrev main_call0_call0_v0 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![98], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_6 : BitVec 32 := 0#32
  let v23 : BitVec 1 := Scalar.cmpi .ne v22 c0_i32_6
  v23

def k0_cond2 (i : grid0.Coords) : BitVec 1 :=
  let arg0 : BitVec 32 := BitVec.ofNat 32 (i 0).val
  let c0_i32_7 : BitVec 32 := 0#32
  let v24 : BitVec 1 := Scalar.cmpi .ne arg0 c0_i32_7
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let v2 : Index := Scalar.indexCast v1
  ![v2.toNat]
def k1_cond1 (i : grid1.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k1_off2 (i : grid1.Coords) : Fin 2 → Nat :=
  let c9_i32_1756 : BitVec 32 := 9#32
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let v4990 : BitVec 32 := Scalar.muli c9_i32_1756 v1
  let c0_i32_1758 : BitVec 32 := 0#32
  let v4992 : BitVec 1 := Scalar.cmpi .sgt v4990 c0_i32_1758
  let v4993 : BitVec 32 := Scalar.extui v4992
  let c0_i32_1759 : BitVec 32 := 0#32
  let v4994 : BitVec 1 := Scalar.cmpi .slt v4990 c0_i32_1759
  let v4995 : BitVec 32 := Scalar.extui v4994
  let v4996 : BitVec 32 := Scalar.subi v4993 v4995
  let c8_i32_1757 : BitVec 32 := 8#32
  let c0_i32_1760 : BitVec 32 := 0#32
  let v4997 : BitVec 1 := Scalar.cmpi .sgt c8_i32_1757 c0_i32_1760
  let v4998 : BitVec 32 := Scalar.extui v4997
  let c0_i32_1761 : BitVec 32 := 0#32
  let v4999 : BitVec 1 := Scalar.cmpi .slt c8_i32_1757 c0_i32_1761
  let v5000 : BitVec 32 := Scalar.extui v4999
  let v5001 : BitVec 32 := Scalar.subi v4998 v5000
  let v5002 : BitVec 1 := Scalar.cmpi .ne v4996 v5001
  let v5003 : BitVec 32 := Scalar.remsi v4990 c8_i32_1757
  let c0_i32_1762 : BitVec 32 := 0#32
  let v5004 : BitVec 1 := Scalar.cmpi .ne v5003 c0_i32_1762
  let v5005 : BitVec 1 := Scalar.andi v5002 v5004
  let v4991 : BitVec 32 := Scalar.divsi v4990 c8_i32_1757
  let c1_i32_1763 : BitVec 32 := 1#32
  let v5006 : BitVec 32 := Scalar.subi v4991 c1_i32_1763
  let v5007 : BitVec 32 := Scalar.select v5005 v5006 v4991
  let c8_i32_1764 : BitVec 32 := 8#32
  let v5008 : BitVec 32 := Scalar.muli v5007 c8_i32_1764
  let c0_i32_1769 : BitVec 32 := 0#32
  ![v5008.toNat, 0]
def k1_off3 (i : grid1.Coords) : Fin 2 → Nat :=
  let c8_i32_1770 : BitVec 32 := 8#32
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let v5014 : BitVec 32 := Scalar.muli c8_i32_1770 v1
  let c0_i32_1775 : BitVec 32 := 0#32
  ![v5014.toNat, 0]
def k1_cond2 (i : grid1.Coords) : BitVec 1 :=
  let arg1 : BitVec 32 := BitVec.ofNat 32 (i 1).val
  let c1_i32 : BitVec 32 := 1#32
  let v7 : BitVec 32 := Scalar.addi arg1 c1_i32
  let c16_i32_1 : BitVec 32 := 16#32
  let v8 : BitVec 1 := Scalar.cmpi .slt v7 c16_i32_1
  let v9 : BitVec 32 := Scalar.extui v8
  let c0_i32_2 : BitVec 32 := 0#32
  let v10 : BitVec 1 := Scalar.cmpi .ne v9 c0_i32_2
  v10

def k1_off4 (i : grid1.Coords) : Fin 1 → Nat :=
  let arg1 : BitVec 32 := BitVec.ofNat 32 (i 1).val
  let c1_i32_1757 : BitVec 32 := 1#32
  let v4991 : BitVec 32 := Scalar.addi arg1 c1_i32_1757
  let c2_i32_1758 : BitVec 32 := 2#32
  let c0_i32_1759 : BitVec 32 := 0#32
  let v4992 : BitVec 1 := Scalar.cmpi .eq c2_i32_1758 c0_i32_1759
  let c1_i32_1760 : BitVec 32 := 1#32
  let v4993 : BitVec 32 := Scalar.select v4992 c1_i32_1760 c2_i32_1758
  let v4994 : BitVec 32 := Scalar.remsi v4991 v4993
  let c0_i32_1762 : BitVec 32 := 0#32
  let v4996 : BitVec 1 := Scalar.cmpi .slt v4994 c0_i32_1762
  let c0_i32_1763 : BitVec 32 := 0#32
  let v4997 : BitVec 1 := Scalar.cmpi .slt v4993 c0_i32_1763
  let v4998 : BitVec 1 := Scalar.xori v4996 v4997
  let c0_i32_1761 : BitVec 32 := 0#32
  let v4995 : BitVec 1 := Scalar.cmpi .ne v4994 c0_i32_1761
  let v4999 : BitVec 1 := Scalar.andi v4998 v4995
  let v5000 : BitVec 32 := Scalar.addi v4994 v4993
  let v5001 : BitVec 32 := Scalar.select v4999 v5000 v4994
  ![v5001.toNat]
def k1_off5 (i : grid1.Coords) : Fin 3 → Nat :=
  let arg1 : BitVec 32 := BitVec.ofNat 32 (i 1).val
  let c1_i32_1757 : BitVec 32 := 1#32
  let v4991 : BitVec 32 := Scalar.addi arg1 c1_i32_1757
  let c2_i32_1758 : BitVec 32 := 2#32
  let c0_i32_1759 : BitVec 32 := 0#32
  let v4992 : BitVec 1 := Scalar.cmpi .eq c2_i32_1758 c0_i32_1759
  let c1_i32_1760 : BitVec 32 := 1#32
  let v4993 : BitVec 32 := Scalar.select v4992 c1_i32_1760 c2_i32_1758
  let v4994 : BitVec 32 := Scalar.remsi v4991 v4993
  let c0_i32_1762 : BitVec 32 := 0#32
  let v4996 : BitVec 1 := Scalar.cmpi .slt v4994 c0_i32_1762
  let c0_i32_1763 : BitVec 32 := 0#32
  let v4997 : BitVec 1 := Scalar.cmpi .slt v4993 c0_i32_1763
  let v4998 : BitVec 1 := Scalar.xori v4996 v4997
  let c0_i32_1761 : BitVec 32 := 0#32
  let v4995 : BitVec 1 := Scalar.cmpi .ne v4994 c0_i32_1761
  let v4999 : BitVec 1 := Scalar.andi v4998 v4995
  let v5000 : BitVec 32 := Scalar.addi v4994 v4993
  let v5001 : BitVec 32 := Scalar.select v4999 v5000 v4994
  let c0_i32_1773 : BitVec 32 := 0#32
  let c0_i32_1774 : BitVec 32 := 0#32
  ![v5001.toNat, 0, 0]
def k1_off6 (i : grid1.Coords) : Fin 2 → Nat :=
  let c9_i32_1764 : BitVec 32 := 9#32
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let c1_i32_1756 : BitVec 32 := 1#32
  let v4990 : BitVec 32 := Scalar.addi v1 c1_i32_1756
  let v5002 : BitVec 32 := Scalar.muli c9_i32_1764 v4990
  let c0_i32_1766 : BitVec 32 := 0#32
  let v5004 : BitVec 1 := Scalar.cmpi .sgt v5002 c0_i32_1766
  let v5005 : BitVec 32 := Scalar.extui v5004
  let c0_i32_1767 : BitVec 32 := 0#32
  let v5006 : BitVec 1 := Scalar.cmpi .slt v5002 c0_i32_1767
  let v5007 : BitVec 32 := Scalar.extui v5006
  let v5008 : BitVec 32 := Scalar.subi v5005 v5007
  let c8_i32_1765 : BitVec 32 := 8#32
  let c0_i32_1768 : BitVec 32 := 0#32
  let v5009 : BitVec 1 := Scalar.cmpi .sgt c8_i32_1765 c0_i32_1768
  let v5010 : BitVec 32 := Scalar.extui v5009
  let c0_i32_1769 : BitVec 32 := 0#32
  let v5011 : BitVec 1 := Scalar.cmpi .slt c8_i32_1765 c0_i32_1769
  let v5012 : BitVec 32 := Scalar.extui v5011
  let v5013 : BitVec 32 := Scalar.subi v5010 v5012
  let v5014 : BitVec 1 := Scalar.cmpi .ne v5008 v5013
  let v5015 : BitVec 32 := Scalar.remsi v5002 c8_i32_1765
  let c0_i32_1770 : BitVec 32 := 0#32
  let v5016 : BitVec 1 := Scalar.cmpi .ne v5015 c0_i32_1770
  let v5017 : BitVec 1 := Scalar.andi v5014 v5016
  let v5003 : BitVec 32 := Scalar.divsi v5002 c8_i32_1765
  let c1_i32_1771 : BitVec 32 := 1#32
  let v5018 : BitVec 32 := Scalar.subi v5003 c1_i32_1771
  let v5019 : BitVec 32 := Scalar.select v5017 v5018 v5003
  let c8_i32_1772 : BitVec 32 := 8#32
  let v5020 : BitVec 32 := Scalar.muli v5019 c8_i32_1772
  let c0_i32_1775 : BitVec 32 := 0#32
  ![v5020.toNat, 0]
def k1_off7 (i : grid1.Coords) : Fin 3 → Nat :=
  let arg1 : BitVec 32 := BitVec.ofNat 32 (i 1).val
  let c1_i32_1777 : BitVec 32 := 1#32
  let v5027 : BitVec 32 := Scalar.addi arg1 c1_i32_1777
  let c2_i32_1778 : BitVec 32 := 2#32
  let c0_i32_1779 : BitVec 32 := 0#32
  let v5028 : BitVec 1 := Scalar.cmpi .eq c2_i32_1778 c0_i32_1779
  let c1_i32_1780 : BitVec 32 := 1#32
  let v5029 : BitVec 32 := Scalar.select v5028 c1_i32_1780 c2_i32_1778
  let v5030 : BitVec 32 := Scalar.remsi v5027 v5029
  let c0_i32_1782 : BitVec 32 := 0#32
  let v5032 : BitVec 1 := Scalar.cmpi .slt v5030 c0_i32_1782
  let c0_i32_1783 : BitVec 32 := 0#32
  let v5033 : BitVec 1 := Scalar.cmpi .slt v5029 c0_i32_1783
  let v5034 : BitVec 1 := Scalar.xori v5032 v5033
  let c0_i32_1781 : BitVec 32 := 0#32
  let v5031 : BitVec 1 := Scalar.cmpi .ne v5030 c0_i32_1781
  let v5035 : BitVec 1 := Scalar.andi v5034 v5031
  let v5036 : BitVec 32 := Scalar.addi v5030 v5029
  let v5037 : BitVec 32 := Scalar.select v5035 v5036 v5030
  let c0_i32_1785 : BitVec 32 := 0#32
  let c0_i32_1786 : BitVec 32 := 0#32
  ![v5037.toNat, 0, 0]
def k1_off8 (i : grid1.Coords) : Fin 2 → Nat :=
  let c8_i32_1784 : BitVec 32 := 8#32
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let c1_i32_1776 : BitVec 32 := 1#32
  let v5026 : BitVec 32 := Scalar.addi v1 c1_i32_1776
  let v5038 : BitVec 32 := Scalar.muli c8_i32_1784 v5026
  let c0_i32_1787 : BitVec 32 := 0#32
  ![v5038.toNat, 0]
def k1_off9 (i : grid1.Coords) : Fin 1 → Nat :=
  let arg1 : BitVec 32 := BitVec.ofNat 32 (i 1).val
  let c2_i32 : BitVec 32 := 2#32
  let c0_i32_3 : BitVec 32 := 0#32
  let v11 : BitVec 1 := Scalar.cmpi .eq c2_i32 c0_i32_3
  let c1_i32_4 : BitVec 32 := 1#32
  let v12 : BitVec 32 := Scalar.select v11 c1_i32_4 c2_i32
  let v13 : BitVec 32 := Scalar.remsi arg1 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  ![v20.toNat]
def k1_off10 (i : grid1.Coords) : Fin 3 → Nat :=
  let arg1 : BitVec 32 := BitVec.ofNat 32 (i 1).val
  let c2_i32 : BitVec 32 := 2#32
  let c0_i32_3 : BitVec 32 := 0#32
  let v11 : BitVec 1 := Scalar.cmpi .eq c2_i32 c0_i32_3
  let c1_i32_4 : BitVec 32 := 1#32
  let v12 : BitVec 32 := Scalar.select v11 c1_i32_4 c2_i32
  let v13 : BitVec 32 := Scalar.remsi arg1 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_15 : BitVec 32 := 0#32
  let c0_i32_16 : BitVec 32 := 0#32
  ![v20.toNat, 0, 0]
def k1_off11 (i : grid1.Coords) : Fin 2 → Nat :=
  let c9_i32 : BitVec 32 := 9#32
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let v21 : BitVec 32 := Scalar.muli c9_i32 v1
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c8_i32 : BitVec 32 := 8#32
  let c0_i32_10 : BitVec 32 := 0#32
  let v28 : BitVec 1 := Scalar.cmpi .sgt c8_i32 c0_i32_10
  let v29 : BitVec 32 := Scalar.extui v28
  let c0_i32_11 : BitVec 32 := 0#32
  let v30 : BitVec 1 := Scalar.cmpi .slt c8_i32 c0_i32_11
  let v31 : BitVec 32 := Scalar.extui v30
  let v32 : BitVec 32 := Scalar.subi v29 v31
  let v33 : BitVec 1 := Scalar.cmpi .ne v27 v32
  let v34 : BitVec 32 := Scalar.remsi v21 c8_i32
  let c0_i32_12 : BitVec 32 := 0#32
  let v35 : BitVec 1 := Scalar.cmpi .ne v34 c0_i32_12
  let v36 : BitVec 1 := Scalar.andi v33 v35
  let v22 : BitVec 32 := Scalar.divsi v21 c8_i32
  let c1_i32_13 : BitVec 32 := 1#32
  let v37 : BitVec 32 := Scalar.subi v22 c1_i32_13
  let v38 : BitVec 32 := Scalar.select v36 v37 v22
  let c8_i32_14 : BitVec 32 := 8#32
  let v39 : BitVec 32 := Scalar.muli v38 c8_i32_14
  let c0_i32_17 : BitVec 32 := 0#32
  ![v39.toNat, 0]
def k1_off12 (i : grid1.Coords) : Fin 3 → Nat :=
  let arg1 : BitVec 32 := BitVec.ofNat 32 (i 1).val
  let c2_i32_18 : BitVec 32 := 2#32
  let c0_i32_19 : BitVec 32 := 0#32
  let v45 : BitVec 1 := Scalar.cmpi .eq c2_i32_18 c0_i32_19
  let c1_i32_20 : BitVec 32 := 1#32
  let v46 : BitVec 32 := Scalar.select v45 c1_i32_20 c2_i32_18
  let v47 : BitVec 32 := Scalar.remsi arg1 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let c0_i32_26 : BitVec 32 := 0#32
  ![v54.toNat, 0, 0]
def k1_off13 (i : grid1.Coords) : Fin 2 → Nat :=
  let c8_i32_24 : BitVec 32 := 8#32
  let c16_i32 : BitVec 32 := 16#32
  let arg0 : BitVec 32 := BitVec.ofNat 32 (i 0).val
  let v0 : BitVec 32 := Scalar.muli c16_i32 arg0
  let arg1 : BitVec 32 := BitVec.ofNat 32 (i 1).val
  let v1 : BitVec 32 := Scalar.addi v0 arg1
  let v55 : BitVec 32 := Scalar.muli c8_i32_24 v1
  let c0_i32_27 : BitVec 32 := 0#32
  ![v55.toNat, 0]
def k1_off14 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v105 : Index := Scalar.indexCast v102
  let c0 : Index := 0#32
  let c0_54 : Index := 0#32
  ![v105.toNat, 0, 0]
def k1_off15 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v126 : Index := Scalar.indexCast v102
  let c0_62 : Index := 0#32
  let c1024 : Index := 1024#32
  ![v126.toNat, 0, 1024]
def k1_off16 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v147 : Index := Scalar.indexCast v102
  let c0_70 : Index := 0#32
  let c2048 : Index := 2048#32
  ![v147.toNat, 0, 2048]
def k1_off17 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v168 : Index := Scalar.indexCast v102
  let c0_78 : Index := 0#32
  let c3072 : Index := 3072#32
  ![v168.toNat, 0, 3072]
def k1_off18 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v189 : Index := Scalar.indexCast v102
  let c0_86 : Index := 0#32
  let c4096 : Index := 4096#32
  ![v189.toNat, 0, 4096]
def k1_off19 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v210 : Index := Scalar.indexCast v102
  let c0_94 : Index := 0#32
  let c5120 : Index := 5120#32
  ![v210.toNat, 0, 5120]
def k1_off20 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v231 : Index := Scalar.indexCast v102
  let c0_102 : Index := 0#32
  let c6144 : Index := 6144#32
  ![v231.toNat, 0, 6144]
def k1_off21 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v252 : Index := Scalar.indexCast v102
  let c0_110 : Index := 0#32
  let c7168 : Index := 7168#32
  ![v252.toNat, 0, 7168]
def k1_off22 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v273 : Index := Scalar.indexCast v102
  let c0_118 : Index := 0#32
  let c8192 : Index := 8192#32
  ![v273.toNat, 0, 8192]
def k1_off23 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v294 : Index := Scalar.indexCast v102
  let c0_126 : Index := 0#32
  let c9216 : Index := 9216#32
  ![v294.toNat, 0, 9216]
def k1_off24 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v315 : Index := Scalar.indexCast v102
  let c0_134 : Index := 0#32
  let c10240 : Index := 10240#32
  ![v315.toNat, 0, 10240]
def k1_off25 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v336 : Index := Scalar.indexCast v102
  let c0_142 : Index := 0#32
  let c11264 : Index := 11264#32
  ![v336.toNat, 0, 11264]
def k1_off26 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v357 : Index := Scalar.indexCast v102
  let c0_150 : Index := 0#32
  let c12288 : Index := 12288#32
  ![v357.toNat, 0, 12288]
def k1_off27 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v378 : Index := Scalar.indexCast v102
  let c0_158 : Index := 0#32
  let c13312 : Index := 13312#32
  ![v378.toNat, 0, 13312]
def k1_off28 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v399 : Index := Scalar.indexCast v102
  let c0_166 : Index := 0#32
  let c14336 : Index := 14336#32
  ![v399.toNat, 0, 14336]
def k1_off29 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v420 : Index := Scalar.indexCast v102
  let c0_174 : Index := 0#32
  let c15360 : Index := 15360#32
  ![v420.toNat, 0, 15360]
def k1_off30 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v441 : Index := Scalar.indexCast v102
  let c0_182 : Index := 0#32
  let c16384 : Index := 16384#32
  ![v441.toNat, 0, 16384]
def k1_off31 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v462 : Index := Scalar.indexCast v102
  let c0_190 : Index := 0#32
  let c17408 : Index := 17408#32
  ![v462.toNat, 0, 17408]
def k1_off32 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v483 : Index := Scalar.indexCast v102
  let c0_198 : Index := 0#32
  let c18432 : Index := 18432#32
  ![v483.toNat, 0, 18432]
def k1_off33 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v504 : Index := Scalar.indexCast v102
  let c0_206 : Index := 0#32
  let c19456 : Index := 19456#32
  ![v504.toNat, 0, 19456]
def k1_off34 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v525 : Index := Scalar.indexCast v102
  let c0_214 : Index := 0#32
  let c20480 : Index := 20480#32
  ![v525.toNat, 0, 20480]
def k1_off35 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v546 : Index := Scalar.indexCast v102
  let c0_222 : Index := 0#32
  let c21504 : Index := 21504#32
  ![v546.toNat, 0, 21504]
def k1_off36 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v567 : Index := Scalar.indexCast v102
  let c0_230 : Index := 0#32
  let c22528 : Index := 22528#32
  ![v567.toNat, 0, 22528]
def k1_off37 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v588 : Index := Scalar.indexCast v102
  let c0_238 : Index := 0#32
  let c23552 : Index := 23552#32
  ![v588.toNat, 0, 23552]
def k1_off38 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v609 : Index := Scalar.indexCast v102
  let c0_246 : Index := 0#32
  let c24576 : Index := 24576#32
  ![v609.toNat, 0, 24576]
def k1_off39 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v630 : Index := Scalar.indexCast v102
  let c0_254 : Index := 0#32
  let c25600 : Index := 25600#32
  ![v630.toNat, 0, 25600]
def k1_off40 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v651 : Index := Scalar.indexCast v102
  let c0_262 : Index := 0#32
  let c26624 : Index := 26624#32
  ![v651.toNat, 0, 26624]
def k1_off41 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v672 : Index := Scalar.indexCast v102
  let c0_270 : Index := 0#32
  let c27648 : Index := 27648#32
  ![v672.toNat, 0, 27648]
def k1_off42 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v693 : Index := Scalar.indexCast v102
  let c0_278 : Index := 0#32
  let c28672 : Index := 28672#32
  ![v693.toNat, 0, 28672]
def k1_off43 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v714 : Index := Scalar.indexCast v102
  let c0_286 : Index := 0#32
  let c29696 : Index := 29696#32
  ![v714.toNat, 0, 29696]
def k1_off44 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v735 : Index := Scalar.indexCast v102
  let c0_294 : Index := 0#32
  let c30720 : Index := 30720#32
  ![v735.toNat, 0, 30720]
def k1_off45 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v756 : Index := Scalar.indexCast v102
  let c0_302 : Index := 0#32
  let c31744 : Index := 31744#32
  ![v756.toNat, 0, 31744]
def k1_off46 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v777 : Index := Scalar.indexCast v102
  let c0_310 : Index := 0#32
  let c32768 : Index := 32768#32
  ![v777.toNat, 0, 32768]
def k1_off47 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v798 : Index := Scalar.indexCast v102
  let c0_318 : Index := 0#32
  let c33792 : Index := 33792#32
  ![v798.toNat, 0, 33792]
def k1_off48 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v819 : Index := Scalar.indexCast v102
  let c0_326 : Index := 0#32
  let c34816 : Index := 34816#32
  ![v819.toNat, 0, 34816]
def k1_off49 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v840 : Index := Scalar.indexCast v102
  let c0_334 : Index := 0#32
  let c35840 : Index := 35840#32
  ![v840.toNat, 0, 35840]
def k1_off50 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v861 : Index := Scalar.indexCast v102
  let c0_342 : Index := 0#32
  let c36864 : Index := 36864#32
  ![v861.toNat, 0, 36864]
def k1_off51 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v882 : Index := Scalar.indexCast v102
  let c0_350 : Index := 0#32
  let c37888 : Index := 37888#32
  ![v882.toNat, 0, 37888]
def k1_off52 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v903 : Index := Scalar.indexCast v102
  let c0_358 : Index := 0#32
  let c38912 : Index := 38912#32
  ![v903.toNat, 0, 38912]
def k1_off53 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v924 : Index := Scalar.indexCast v102
  let c0_366 : Index := 0#32
  let c39936 : Index := 39936#32
  ![v924.toNat, 0, 39936]
def k1_off54 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v945 : Index := Scalar.indexCast v102
  let c0_374 : Index := 0#32
  let c40960 : Index := 40960#32
  ![v945.toNat, 0, 40960]
def k1_off55 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v966 : Index := Scalar.indexCast v102
  let c0_382 : Index := 0#32
  let c41984 : Index := 41984#32
  ![v966.toNat, 0, 41984]
def k1_off56 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v987 : Index := Scalar.indexCast v102
  let c0_390 : Index := 0#32
  let c43008 : Index := 43008#32
  ![v987.toNat, 0, 43008]
def k1_off57 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1008 : Index := Scalar.indexCast v102
  let c0_398 : Index := 0#32
  let c44032 : Index := 44032#32
  ![v1008.toNat, 0, 44032]
def k1_off58 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1029 : Index := Scalar.indexCast v102
  let c0_406 : Index := 0#32
  let c45056 : Index := 45056#32
  ![v1029.toNat, 0, 45056]
def k1_off59 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1050 : Index := Scalar.indexCast v102
  let c0_414 : Index := 0#32
  let c46080 : Index := 46080#32
  ![v1050.toNat, 0, 46080]
def k1_off60 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1071 : Index := Scalar.indexCast v102
  let c0_422 : Index := 0#32
  let c47104 : Index := 47104#32
  ![v1071.toNat, 0, 47104]
def k1_off61 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1092 : Index := Scalar.indexCast v102
  let c0_430 : Index := 0#32
  let c48128 : Index := 48128#32
  ![v1092.toNat, 0, 48128]
def k1_off62 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1113 : Index := Scalar.indexCast v102
  let c0_438 : Index := 0#32
  let c49152 : Index := 49152#32
  ![v1113.toNat, 0, 49152]
def k1_off63 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1134 : Index := Scalar.indexCast v102
  let c0_446 : Index := 0#32
  let c50176 : Index := 50176#32
  ![v1134.toNat, 0, 50176]
def k1_off64 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1155 : Index := Scalar.indexCast v102
  let c0_454 : Index := 0#32
  let c51200 : Index := 51200#32
  ![v1155.toNat, 0, 51200]
def k1_off65 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1176 : Index := Scalar.indexCast v102
  let c0_462 : Index := 0#32
  let c52224 : Index := 52224#32
  ![v1176.toNat, 0, 52224]
def k1_off66 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1197 : Index := Scalar.indexCast v102
  let c0_470 : Index := 0#32
  let c53248 : Index := 53248#32
  ![v1197.toNat, 0, 53248]
def k1_off67 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1218 : Index := Scalar.indexCast v102
  let c0_478 : Index := 0#32
  let c54272 : Index := 54272#32
  ![v1218.toNat, 0, 54272]
def k1_off68 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1239 : Index := Scalar.indexCast v102
  let c0_486 : Index := 0#32
  let c55296 : Index := 55296#32
  ![v1239.toNat, 0, 55296]
def k1_off69 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1260 : Index := Scalar.indexCast v102
  let c0_494 : Index := 0#32
  let c56320 : Index := 56320#32
  ![v1260.toNat, 0, 56320]
def k1_off70 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1281 : Index := Scalar.indexCast v102
  let c0_502 : Index := 0#32
  let c57344 : Index := 57344#32
  ![v1281.toNat, 0, 57344]
def k1_off71 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1302 : Index := Scalar.indexCast v102
  let c0_510 : Index := 0#32
  let c58368 : Index := 58368#32
  ![v1302.toNat, 0, 58368]
def k1_off72 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1323 : Index := Scalar.indexCast v102
  let c0_518 : Index := 0#32
  let c59392 : Index := 59392#32
  ![v1323.toNat, 0, 59392]
def k1_off73 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1344 : Index := Scalar.indexCast v102
  let c0_526 : Index := 0#32
  let c60416 : Index := 60416#32
  ![v1344.toNat, 0, 60416]
def k1_off74 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1365 : Index := Scalar.indexCast v102
  let c0_534 : Index := 0#32
  let c61440 : Index := 61440#32
  ![v1365.toNat, 0, 61440]
def k1_off75 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1386 : Index := Scalar.indexCast v102
  let c0_542 : Index := 0#32
  let c62464 : Index := 62464#32
  ![v1386.toNat, 0, 62464]
def k1_off76 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1407 : Index := Scalar.indexCast v102
  let c0_550 : Index := 0#32
  let c63488 : Index := 63488#32
  ![v1407.toNat, 0, 63488]
def k1_off77 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1428 : Index := Scalar.indexCast v102
  let c0_558 : Index := 0#32
  let c64512 : Index := 64512#32
  ![v1428.toNat, 0, 64512]
def k1_off78 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1449 : Index := Scalar.indexCast v102
  let c0_566 : Index := 0#32
  let c65536 : Index := 65536#32
  ![v1449.toNat, 0, 65536]
def k1_off79 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1470 : Index := Scalar.indexCast v102
  let c0_574 : Index := 0#32
  let c66560 : Index := 66560#32
  ![v1470.toNat, 0, 66560]
def k1_off80 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1491 : Index := Scalar.indexCast v102
  let c0_582 : Index := 0#32
  let c67584 : Index := 67584#32
  ![v1491.toNat, 0, 67584]
def k1_off81 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1512 : Index := Scalar.indexCast v102
  let c0_590 : Index := 0#32
  let c68608 : Index := 68608#32
  ![v1512.toNat, 0, 68608]
def k1_off82 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1533 : Index := Scalar.indexCast v102
  let c0_598 : Index := 0#32
  let c69632 : Index := 69632#32
  ![v1533.toNat, 0, 69632]
def k1_off83 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1554 : Index := Scalar.indexCast v102
  let c0_606 : Index := 0#32
  let c70656 : Index := 70656#32
  ![v1554.toNat, 0, 70656]
def k1_off84 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1575 : Index := Scalar.indexCast v102
  let c0_614 : Index := 0#32
  let c71680 : Index := 71680#32
  ![v1575.toNat, 0, 71680]
def k1_off85 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1596 : Index := Scalar.indexCast v102
  let c0_622 : Index := 0#32
  let c72704 : Index := 72704#32
  ![v1596.toNat, 0, 72704]
def k1_off86 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1617 : Index := Scalar.indexCast v102
  let c0_630 : Index := 0#32
  let c73728 : Index := 73728#32
  ![v1617.toNat, 0, 73728]
def k1_off87 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1638 : Index := Scalar.indexCast v102
  let c0_638 : Index := 0#32
  let c74752 : Index := 74752#32
  ![v1638.toNat, 0, 74752]
def k1_off88 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1659 : Index := Scalar.indexCast v102
  let c0_646 : Index := 0#32
  let c75776 : Index := 75776#32
  ![v1659.toNat, 0, 75776]
def k1_off89 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1680 : Index := Scalar.indexCast v102
  let c0_654 : Index := 0#32
  let c76800 : Index := 76800#32
  ![v1680.toNat, 0, 76800]
def k1_off90 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1701 : Index := Scalar.indexCast v102
  let c0_662 : Index := 0#32
  let c77824 : Index := 77824#32
  ![v1701.toNat, 0, 77824]
def k1_off91 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1722 : Index := Scalar.indexCast v102
  let c0_670 : Index := 0#32
  let c78848 : Index := 78848#32
  ![v1722.toNat, 0, 78848]
def k1_off92 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1743 : Index := Scalar.indexCast v102
  let c0_678 : Index := 0#32
  let c79872 : Index := 79872#32
  ![v1743.toNat, 0, 79872]
def k1_off93 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1764 : Index := Scalar.indexCast v102
  let c0_686 : Index := 0#32
  let c80896 : Index := 80896#32
  ![v1764.toNat, 0, 80896]
def k1_off94 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1785 : Index := Scalar.indexCast v102
  let c0_694 : Index := 0#32
  let c81920 : Index := 81920#32
  ![v1785.toNat, 0, 81920]
def k1_off95 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1806 : Index := Scalar.indexCast v102
  let c0_702 : Index := 0#32
  let c82944 : Index := 82944#32
  ![v1806.toNat, 0, 82944]
def k1_off96 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1827 : Index := Scalar.indexCast v102
  let c0_710 : Index := 0#32
  let c83968 : Index := 83968#32
  ![v1827.toNat, 0, 83968]
def k1_off97 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1848 : Index := Scalar.indexCast v102
  let c0_718 : Index := 0#32
  let c84992 : Index := 84992#32
  ![v1848.toNat, 0, 84992]
def k1_off98 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1869 : Index := Scalar.indexCast v102
  let c0_726 : Index := 0#32
  let c86016 : Index := 86016#32
  ![v1869.toNat, 0, 86016]
def k1_off99 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1890 : Index := Scalar.indexCast v102
  let c0_734 : Index := 0#32
  let c87040 : Index := 87040#32
  ![v1890.toNat, 0, 87040]
def k1_off100 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1911 : Index := Scalar.indexCast v102
  let c0_742 : Index := 0#32
  let c88064 : Index := 88064#32
  ![v1911.toNat, 0, 88064]
def k1_off101 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1932 : Index := Scalar.indexCast v102
  let c0_750 : Index := 0#32
  let c89088 : Index := 89088#32
  ![v1932.toNat, 0, 89088]
def k1_off102 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1953 : Index := Scalar.indexCast v102
  let c0_758 : Index := 0#32
  let c90112 : Index := 90112#32
  ![v1953.toNat, 0, 90112]
def k1_off103 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1974 : Index := Scalar.indexCast v102
  let c0_766 : Index := 0#32
  let c91136 : Index := 91136#32
  ![v1974.toNat, 0, 91136]
def k1_off104 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v1995 : Index := Scalar.indexCast v102
  let c0_774 : Index := 0#32
  let c92160 : Index := 92160#32
  ![v1995.toNat, 0, 92160]
def k1_off105 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2016 : Index := Scalar.indexCast v102
  let c0_782 : Index := 0#32
  let c93184 : Index := 93184#32
  ![v2016.toNat, 0, 93184]
def k1_off106 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2037 : Index := Scalar.indexCast v102
  let c0_790 : Index := 0#32
  let c94208 : Index := 94208#32
  ![v2037.toNat, 0, 94208]
def k1_off107 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2058 : Index := Scalar.indexCast v102
  let c0_798 : Index := 0#32
  let c95232 : Index := 95232#32
  ![v2058.toNat, 0, 95232]
def k1_off108 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2079 : Index := Scalar.indexCast v102
  let c0_806 : Index := 0#32
  let c96256 : Index := 96256#32
  ![v2079.toNat, 0, 96256]
def k1_off109 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2100 : Index := Scalar.indexCast v102
  let c0_814 : Index := 0#32
  let c97280 : Index := 97280#32
  ![v2100.toNat, 0, 97280]
def k1_off110 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2121 : Index := Scalar.indexCast v102
  let c0_822 : Index := 0#32
  let c98304 : Index := 98304#32
  ![v2121.toNat, 0, 98304]
def k1_off111 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2142 : Index := Scalar.indexCast v102
  let c0_830 : Index := 0#32
  let c98976 : Index := 98976#32
  ![v2142.toNat, 0, 98976]
def k1_off112 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2184 : Index := Scalar.indexCast v102
  let c0_851 : Index := 0#32
  let c0_852 : Index := 0#32
  ![v2184.toNat, 0, 0]
def k1_off113 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2212 : Index := Scalar.indexCast v102
  let c0_861 : Index := 0#32
  let c1024_862 : Index := 1024#32
  ![v2212.toNat, 0, 1024]
def k1_off114 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2240 : Index := Scalar.indexCast v102
  let c0_870 : Index := 0#32
  let c2048_871 : Index := 2048#32
  ![v2240.toNat, 0, 2048]
def k1_off115 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2268 : Index := Scalar.indexCast v102
  let c0_879 : Index := 0#32
  let c3072_880 : Index := 3072#32
  ![v2268.toNat, 0, 3072]
def k1_off116 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2296 : Index := Scalar.indexCast v102
  let c0_888 : Index := 0#32
  let c4096_889 : Index := 4096#32
  ![v2296.toNat, 0, 4096]
def k1_off117 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2324 : Index := Scalar.indexCast v102
  let c0_897 : Index := 0#32
  let c5120_898 : Index := 5120#32
  ![v2324.toNat, 0, 5120]
def k1_off118 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2352 : Index := Scalar.indexCast v102
  let c0_906 : Index := 0#32
  let c6144_907 : Index := 6144#32
  ![v2352.toNat, 0, 6144]
def k1_off119 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2380 : Index := Scalar.indexCast v102
  let c0_915 : Index := 0#32
  let c7168_916 : Index := 7168#32
  ![v2380.toNat, 0, 7168]
def k1_off120 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2408 : Index := Scalar.indexCast v102
  let c0_924 : Index := 0#32
  let c8192_925 : Index := 8192#32
  ![v2408.toNat, 0, 8192]
def k1_off121 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2436 : Index := Scalar.indexCast v102
  let c0_933 : Index := 0#32
  let c9216_934 : Index := 9216#32
  ![v2436.toNat, 0, 9216]
def k1_off122 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2464 : Index := Scalar.indexCast v102
  let c0_942 : Index := 0#32
  let c10240_943 : Index := 10240#32
  ![v2464.toNat, 0, 10240]
def k1_off123 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2492 : Index := Scalar.indexCast v102
  let c0_951 : Index := 0#32
  let c11264_952 : Index := 11264#32
  ![v2492.toNat, 0, 11264]
def k1_off124 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2520 : Index := Scalar.indexCast v102
  let c0_960 : Index := 0#32
  let c12288_961 : Index := 12288#32
  ![v2520.toNat, 0, 12288]
def k1_off125 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2548 : Index := Scalar.indexCast v102
  let c0_969 : Index := 0#32
  let c13312_970 : Index := 13312#32
  ![v2548.toNat, 0, 13312]
def k1_off126 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2576 : Index := Scalar.indexCast v102
  let c0_978 : Index := 0#32
  let c14336_979 : Index := 14336#32
  ![v2576.toNat, 0, 14336]
def k1_off127 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2604 : Index := Scalar.indexCast v102
  let c0_987 : Index := 0#32
  let c15360_988 : Index := 15360#32
  ![v2604.toNat, 0, 15360]
def k1_off128 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2632 : Index := Scalar.indexCast v102
  let c0_996 : Index := 0#32
  let c16384_997 : Index := 16384#32
  ![v2632.toNat, 0, 16384]
def k1_off129 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2660 : Index := Scalar.indexCast v102
  let c0_1005 : Index := 0#32
  let c17408_1006 : Index := 17408#32
  ![v2660.toNat, 0, 17408]
def k1_off130 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2688 : Index := Scalar.indexCast v102
  let c0_1014 : Index := 0#32
  let c18432_1015 : Index := 18432#32
  ![v2688.toNat, 0, 18432]
def k1_off131 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2716 : Index := Scalar.indexCast v102
  let c0_1023 : Index := 0#32
  let c19456_1024 : Index := 19456#32
  ![v2716.toNat, 0, 19456]
def k1_off132 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2744 : Index := Scalar.indexCast v102
  let c0_1032 : Index := 0#32
  let c20480_1033 : Index := 20480#32
  ![v2744.toNat, 0, 20480]
def k1_off133 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2772 : Index := Scalar.indexCast v102
  let c0_1041 : Index := 0#32
  let c21504_1042 : Index := 21504#32
  ![v2772.toNat, 0, 21504]
def k1_off134 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2800 : Index := Scalar.indexCast v102
  let c0_1050 : Index := 0#32
  let c22528_1051 : Index := 22528#32
  ![v2800.toNat, 0, 22528]
def k1_off135 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2828 : Index := Scalar.indexCast v102
  let c0_1059 : Index := 0#32
  let c23552_1060 : Index := 23552#32
  ![v2828.toNat, 0, 23552]
def k1_off136 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2856 : Index := Scalar.indexCast v102
  let c0_1068 : Index := 0#32
  let c24576_1069 : Index := 24576#32
  ![v2856.toNat, 0, 24576]
def k1_off137 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2884 : Index := Scalar.indexCast v102
  let c0_1077 : Index := 0#32
  let c25600_1078 : Index := 25600#32
  ![v2884.toNat, 0, 25600]
def k1_off138 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2912 : Index := Scalar.indexCast v102
  let c0_1086 : Index := 0#32
  let c26624_1087 : Index := 26624#32
  ![v2912.toNat, 0, 26624]
def k1_off139 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2940 : Index := Scalar.indexCast v102
  let c0_1095 : Index := 0#32
  let c27648_1096 : Index := 27648#32
  ![v2940.toNat, 0, 27648]
def k1_off140 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2968 : Index := Scalar.indexCast v102
  let c0_1104 : Index := 0#32
  let c28672_1105 : Index := 28672#32
  ![v2968.toNat, 0, 28672]
def k1_off141 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v2996 : Index := Scalar.indexCast v102
  let c0_1113 : Index := 0#32
  let c29696_1114 : Index := 29696#32
  ![v2996.toNat, 0, 29696]
def k1_off142 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3024 : Index := Scalar.indexCast v102
  let c0_1122 : Index := 0#32
  let c30720_1123 : Index := 30720#32
  ![v3024.toNat, 0, 30720]
def k1_off143 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3052 : Index := Scalar.indexCast v102
  let c0_1131 : Index := 0#32
  let c31744_1132 : Index := 31744#32
  ![v3052.toNat, 0, 31744]
def k1_off144 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3080 : Index := Scalar.indexCast v102
  let c0_1140 : Index := 0#32
  let c32768_1141 : Index := 32768#32
  ![v3080.toNat, 0, 32768]
def k1_off145 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3108 : Index := Scalar.indexCast v102
  let c0_1149 : Index := 0#32
  let c33792_1150 : Index := 33792#32
  ![v3108.toNat, 0, 33792]
def k1_off146 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3136 : Index := Scalar.indexCast v102
  let c0_1158 : Index := 0#32
  let c34816_1159 : Index := 34816#32
  ![v3136.toNat, 0, 34816]
def k1_off147 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3164 : Index := Scalar.indexCast v102
  let c0_1167 : Index := 0#32
  let c35840_1168 : Index := 35840#32
  ![v3164.toNat, 0, 35840]
def k1_off148 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3192 : Index := Scalar.indexCast v102
  let c0_1176 : Index := 0#32
  let c36864_1177 : Index := 36864#32
  ![v3192.toNat, 0, 36864]
def k1_off149 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3220 : Index := Scalar.indexCast v102
  let c0_1185 : Index := 0#32
  let c37888_1186 : Index := 37888#32
  ![v3220.toNat, 0, 37888]
def k1_off150 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3248 : Index := Scalar.indexCast v102
  let c0_1194 : Index := 0#32
  let c38912_1195 : Index := 38912#32
  ![v3248.toNat, 0, 38912]
def k1_off151 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3276 : Index := Scalar.indexCast v102
  let c0_1203 : Index := 0#32
  let c39936_1204 : Index := 39936#32
  ![v3276.toNat, 0, 39936]
def k1_off152 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3304 : Index := Scalar.indexCast v102
  let c0_1212 : Index := 0#32
  let c40960_1213 : Index := 40960#32
  ![v3304.toNat, 0, 40960]
def k1_off153 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3332 : Index := Scalar.indexCast v102
  let c0_1221 : Index := 0#32
  let c41984_1222 : Index := 41984#32
  ![v3332.toNat, 0, 41984]
def k1_off154 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3360 : Index := Scalar.indexCast v102
  let c0_1230 : Index := 0#32
  let c43008_1231 : Index := 43008#32
  ![v3360.toNat, 0, 43008]
def k1_off155 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3388 : Index := Scalar.indexCast v102
  let c0_1239 : Index := 0#32
  let c44032_1240 : Index := 44032#32
  ![v3388.toNat, 0, 44032]
def k1_off156 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3416 : Index := Scalar.indexCast v102
  let c0_1248 : Index := 0#32
  let c45056_1249 : Index := 45056#32
  ![v3416.toNat, 0, 45056]
def k1_off157 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3444 : Index := Scalar.indexCast v102
  let c0_1257 : Index := 0#32
  let c46080_1258 : Index := 46080#32
  ![v3444.toNat, 0, 46080]
def k1_off158 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3472 : Index := Scalar.indexCast v102
  let c0_1266 : Index := 0#32
  let c47104_1267 : Index := 47104#32
  ![v3472.toNat, 0, 47104]
def k1_off159 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3500 : Index := Scalar.indexCast v102
  let c0_1275 : Index := 0#32
  let c48128_1276 : Index := 48128#32
  ![v3500.toNat, 0, 48128]
def k1_off160 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3528 : Index := Scalar.indexCast v102
  let c0_1284 : Index := 0#32
  let c49152_1285 : Index := 49152#32
  ![v3528.toNat, 0, 49152]
def k1_off161 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3556 : Index := Scalar.indexCast v102
  let c0_1293 : Index := 0#32
  let c50176_1294 : Index := 50176#32
  ![v3556.toNat, 0, 50176]
def k1_off162 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3584 : Index := Scalar.indexCast v102
  let c0_1302 : Index := 0#32
  let c51200_1303 : Index := 51200#32
  ![v3584.toNat, 0, 51200]
def k1_off163 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3612 : Index := Scalar.indexCast v102
  let c0_1311 : Index := 0#32
  let c52224_1312 : Index := 52224#32
  ![v3612.toNat, 0, 52224]
def k1_off164 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3640 : Index := Scalar.indexCast v102
  let c0_1320 : Index := 0#32
  let c53248_1321 : Index := 53248#32
  ![v3640.toNat, 0, 53248]
def k1_off165 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3668 : Index := Scalar.indexCast v102
  let c0_1329 : Index := 0#32
  let c54272_1330 : Index := 54272#32
  ![v3668.toNat, 0, 54272]
def k1_off166 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3696 : Index := Scalar.indexCast v102
  let c0_1338 : Index := 0#32
  let c55296_1339 : Index := 55296#32
  ![v3696.toNat, 0, 55296]
def k1_off167 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3724 : Index := Scalar.indexCast v102
  let c0_1347 : Index := 0#32
  let c56320_1348 : Index := 56320#32
  ![v3724.toNat, 0, 56320]
def k1_off168 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3752 : Index := Scalar.indexCast v102
  let c0_1356 : Index := 0#32
  let c57344_1357 : Index := 57344#32
  ![v3752.toNat, 0, 57344]
def k1_off169 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3780 : Index := Scalar.indexCast v102
  let c0_1365 : Index := 0#32
  let c58368_1366 : Index := 58368#32
  ![v3780.toNat, 0, 58368]
def k1_off170 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3808 : Index := Scalar.indexCast v102
  let c0_1374 : Index := 0#32
  let c59392_1375 : Index := 59392#32
  ![v3808.toNat, 0, 59392]
def k1_off171 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3836 : Index := Scalar.indexCast v102
  let c0_1383 : Index := 0#32
  let c60416_1384 : Index := 60416#32
  ![v3836.toNat, 0, 60416]
def k1_off172 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3864 : Index := Scalar.indexCast v102
  let c0_1392 : Index := 0#32
  let c61440_1393 : Index := 61440#32
  ![v3864.toNat, 0, 61440]
def k1_off173 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3892 : Index := Scalar.indexCast v102
  let c0_1401 : Index := 0#32
  let c62464_1402 : Index := 62464#32
  ![v3892.toNat, 0, 62464]
def k1_off174 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3920 : Index := Scalar.indexCast v102
  let c0_1410 : Index := 0#32
  let c63488_1411 : Index := 63488#32
  ![v3920.toNat, 0, 63488]
def k1_off175 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3948 : Index := Scalar.indexCast v102
  let c0_1419 : Index := 0#32
  let c64512_1420 : Index := 64512#32
  ![v3948.toNat, 0, 64512]
def k1_off176 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v3976 : Index := Scalar.indexCast v102
  let c0_1428 : Index := 0#32
  let c65536_1429 : Index := 65536#32
  ![v3976.toNat, 0, 65536]
def k1_off177 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4004 : Index := Scalar.indexCast v102
  let c0_1437 : Index := 0#32
  let c66560_1438 : Index := 66560#32
  ![v4004.toNat, 0, 66560]
def k1_off178 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4032 : Index := Scalar.indexCast v102
  let c0_1446 : Index := 0#32
  let c67584_1447 : Index := 67584#32
  ![v4032.toNat, 0, 67584]
def k1_off179 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4060 : Index := Scalar.indexCast v102
  let c0_1455 : Index := 0#32
  let c68608_1456 : Index := 68608#32
  ![v4060.toNat, 0, 68608]
def k1_off180 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4088 : Index := Scalar.indexCast v102
  let c0_1464 : Index := 0#32
  let c69632_1465 : Index := 69632#32
  ![v4088.toNat, 0, 69632]
def k1_off181 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4116 : Index := Scalar.indexCast v102
  let c0_1473 : Index := 0#32
  let c70656_1474 : Index := 70656#32
  ![v4116.toNat, 0, 70656]
def k1_off182 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4144 : Index := Scalar.indexCast v102
  let c0_1482 : Index := 0#32
  let c71680_1483 : Index := 71680#32
  ![v4144.toNat, 0, 71680]
def k1_off183 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4172 : Index := Scalar.indexCast v102
  let c0_1491 : Index := 0#32
  let c72704_1492 : Index := 72704#32
  ![v4172.toNat, 0, 72704]
def k1_off184 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4200 : Index := Scalar.indexCast v102
  let c0_1500 : Index := 0#32
  let c73728_1501 : Index := 73728#32
  ![v4200.toNat, 0, 73728]
def k1_off185 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4228 : Index := Scalar.indexCast v102
  let c0_1509 : Index := 0#32
  let c74752_1510 : Index := 74752#32
  ![v4228.toNat, 0, 74752]
def k1_off186 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4256 : Index := Scalar.indexCast v102
  let c0_1518 : Index := 0#32
  let c75776_1519 : Index := 75776#32
  ![v4256.toNat, 0, 75776]
def k1_off187 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4284 : Index := Scalar.indexCast v102
  let c0_1527 : Index := 0#32
  let c76800_1528 : Index := 76800#32
  ![v4284.toNat, 0, 76800]
def k1_off188 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4312 : Index := Scalar.indexCast v102
  let c0_1536 : Index := 0#32
  let c77824_1537 : Index := 77824#32
  ![v4312.toNat, 0, 77824]
def k1_off189 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4340 : Index := Scalar.indexCast v102
  let c0_1545 : Index := 0#32
  let c78848_1546 : Index := 78848#32
  ![v4340.toNat, 0, 78848]
def k1_off190 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4368 : Index := Scalar.indexCast v102
  let c0_1554 : Index := 0#32
  let c79872_1555 : Index := 79872#32
  ![v4368.toNat, 0, 79872]
def k1_off191 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4396 : Index := Scalar.indexCast v102
  let c0_1563 : Index := 0#32
  let c80896_1564 : Index := 80896#32
  ![v4396.toNat, 0, 80896]
def k1_off192 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4424 : Index := Scalar.indexCast v102
  let c0_1572 : Index := 0#32
  let c81920_1573 : Index := 81920#32
  ![v4424.toNat, 0, 81920]
def k1_off193 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4452 : Index := Scalar.indexCast v102
  let c0_1581 : Index := 0#32
  let c82944_1582 : Index := 82944#32
  ![v4452.toNat, 0, 82944]
def k1_off194 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4480 : Index := Scalar.indexCast v102
  let c0_1590 : Index := 0#32
  let c83968_1591 : Index := 83968#32
  ![v4480.toNat, 0, 83968]
def k1_off195 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4508 : Index := Scalar.indexCast v102
  let c0_1599 : Index := 0#32
  let c84992_1600 : Index := 84992#32
  ![v4508.toNat, 0, 84992]
def k1_off196 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4536 : Index := Scalar.indexCast v102
  let c0_1608 : Index := 0#32
  let c86016_1609 : Index := 86016#32
  ![v4536.toNat, 0, 86016]
def k1_off197 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4564 : Index := Scalar.indexCast v102
  let c0_1617 : Index := 0#32
  let c87040_1618 : Index := 87040#32
  ![v4564.toNat, 0, 87040]
def k1_off198 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4592 : Index := Scalar.indexCast v102
  let c0_1626 : Index := 0#32
  let c88064_1627 : Index := 88064#32
  ![v4592.toNat, 0, 88064]
def k1_off199 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4620 : Index := Scalar.indexCast v102
  let c0_1635 : Index := 0#32
  let c89088_1636 : Index := 89088#32
  ![v4620.toNat, 0, 89088]
def k1_off200 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4648 : Index := Scalar.indexCast v102
  let c0_1644 : Index := 0#32
  let c90112_1645 : Index := 90112#32
  ![v4648.toNat, 0, 90112]
def k1_off201 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4676 : Index := Scalar.indexCast v102
  let c0_1653 : Index := 0#32
  let c91136_1654 : Index := 91136#32
  ![v4676.toNat, 0, 91136]
def k1_off202 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4704 : Index := Scalar.indexCast v102
  let c0_1662 : Index := 0#32
  let c92160_1663 : Index := 92160#32
  ![v4704.toNat, 0, 92160]
def k1_off203 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4732 : Index := Scalar.indexCast v102
  let c0_1671 : Index := 0#32
  let c93184_1672 : Index := 93184#32
  ![v4732.toNat, 0, 93184]
def k1_off204 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4760 : Index := Scalar.indexCast v102
  let c0_1680 : Index := 0#32
  let c94208_1681 : Index := 94208#32
  ![v4760.toNat, 0, 94208]
def k1_off205 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4788 : Index := Scalar.indexCast v102
  let c0_1689 : Index := 0#32
  let c95232_1690 : Index := 95232#32
  ![v4788.toNat, 0, 95232]
def k1_off206 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4816 : Index := Scalar.indexCast v102
  let c0_1698 : Index := 0#32
  let c96256_1699 : Index := 96256#32
  ![v4816.toNat, 0, 96256]
def k1_off207 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4844 : Index := Scalar.indexCast v102
  let c0_1707 : Index := 0#32
  let c97280_1708 : Index := 97280#32
  ![v4844.toNat, 0, 97280]
def k1_off208 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4872 : Index := Scalar.indexCast v102
  let c0_1716 : Index := 0#32
  let c98304_1717 : Index := 98304#32
  ![v4872.toNat, 0, 98304]
def k1_off209 (i : grid1.Coords) : Fin 3 → Nat :=
  let arg1 : BitVec 32 := BitVec.ofNat 32 (i 1).val
  let c2_i32_48 : BitVec 32 := 2#32
  let c0_i32_49 : BitVec 32 := 0#32
  let v93 : BitVec 1 := Scalar.cmpi .eq c2_i32_48 c0_i32_49
  let c1_i32_50 : BitVec 32 := 1#32
  let v94 : BitVec 32 := Scalar.select v93 c1_i32_50 c2_i32_48
  let v95 : BitVec 32 := Scalar.remsi arg1 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let v4900 : Index := Scalar.indexCast v102
  let c0_1725 : Index := 0#32
  let c98976_1726 : Index := 98976#32
  ![v4900.toNat, 0, 98976]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg0
  let v1 : BitVec 32 := Scalar.addi v0 arg1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc1_transform_5 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg0
  let v1 : BitVec 32 := Scalar.addi v0 arg1
  let c0_i32 : BitVec 32 := 0#32
  let c0_i32_0 : BitVec 32 := 0#32
  ![v1.toNat, c0_i32.toNat]

def cc1_transform_8 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 1 → Memref sig .tc .smem S32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S32 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x16x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S256x100000 : Shape := ⟨2, ![256, 100000]⟩
abbrev S288x100000 : Shape := ⟨2, ![288, 100000]⟩
abbrev S32 : Shape := ⟨1, ![32]⟩
abbrev S256 : Shape := ⟨1, ![256]⟩
abbrev S32x100000 : Shape := ⟨2, ![32, 100000]⟩
abbrev S_ : Shape := ⟨0, ![]⟩
abbrev S1 : Shape := ⟨1, ![1]⟩
abbrev S31 : Shape := ⟨1, ![31]⟩
abbrev S1x32 : Shape := ⟨2, ![1, 32]⟩
abbrev S256x1 : Shape := ⟨2, ![256, 1]⟩
abbrev S256x32 : Shape := ⟨2, ![256, 32]⟩
abbrev S256x1x1 : Shape := ⟨3, ![256, 1, 1]⟩
abbrev S1x1x1 : Shape := ⟨3, ![1, 1, 1]⟩
abbrev S1x1 : Shape := ⟨2, ![1, 1]⟩
abbrev S32x9 : Shape := ⟨2, ![32, 9]⟩
abbrev S256x2 : Shape := ⟨2, ![256, 2]⟩
abbrev S32x1 : Shape := ⟨2, ![32, 1]⟩
abbrev S32x2 : Shape := ⟨2, ![32, 2]⟩

abbrev nBuf : Space → Nat
  | .hbm => 308
  | .vmem => 0
  | .smem => 0
  | _ => 0

abbrev hbmTy0_0 (i : Nat) : BufTy := match i % 128 with
  | 0 => ⟨S256x100000, .f32⟩
  | 1 => ⟨S288x100000, .f32⟩
  | 2 => ⟨S32, .f32⟩
  | 3 => ⟨S256, .f32⟩
  | 4 => ⟨S32x100000, .f32⟩
  | 5 => ⟨S256, .i32⟩
  | 6 => ⟨S32, .i32⟩
  | 7 => ⟨S32, .i32⟩
  | 8 => ⟨S32, .i1⟩
  | 9 => ⟨S256, .i32⟩
  | 10 => ⟨S_, .i32⟩
  | 11 => ⟨S1, .i32⟩
  | 12 => ⟨S31, .i32⟩
  | 13 => ⟨S32, .i32⟩
  | 14 => ⟨S32, .i32⟩
  | 15 => ⟨S32, .i32⟩
  | 16 => ⟨S1x32, .i32⟩
  | 17 => ⟨S256x1, .i32⟩
  | 18 => ⟨S256x32, .i32⟩
  | 19 => ⟨S256x32, .i32⟩
  | 20 => ⟨S256x32, .i1⟩
  | 21 => ⟨S256x32, .i32⟩
  | 22 => ⟨S_, .i32⟩
  | 23 => ⟨S256, .i32⟩
  | 24 => ⟨S_, .i32⟩
  | 25 => ⟨S256, .i32⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256, .i32⟩
  | 33 => ⟨S256, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256, .i32⟩
  | 43 => ⟨S256, .i1⟩
  | 44 => ⟨S256, .i32⟩
  | 45 => ⟨S_, .i32⟩
  | 46 => ⟨S256, .i32⟩
  | 47 => ⟨S256, .i1⟩
  | 48 => ⟨S_, .i32⟩
  | 49 => ⟨S256, .i32⟩
  | 50 => ⟨S256, .i32⟩
  | 51 => ⟨S256, .i32⟩
  | 52 => ⟨S256x1, .i32⟩
  | 53 => ⟨S256, .f32⟩
  | 54 => ⟨S_, .i32⟩
  | 55 => ⟨S256, .i32⟩
  | 56 => ⟨S256, .i1⟩
  | 57 => ⟨S_, .i32⟩
  | 58 => ⟨S256, .i32⟩
  | 59 => ⟨S256, .i32⟩
  | 60 => ⟨S256, .i32⟩
  | 61 => ⟨S256x1, .i32⟩
  | 62 => ⟨S256x100000, .f32⟩
  | 63 => ⟨S256x1, .f32⟩
  | 64 => ⟨S256x100000, .f32⟩
  | 65 => ⟨S256x100000, .f32⟩
  | 66 => ⟨S_, .f32⟩
  | 67 => ⟨S256, .f32⟩
  | 68 => ⟨S_, .f32⟩
  | 69 => ⟨S256, .f32⟩
  | 70 => ⟨S256, .f32⟩
  | 71 => ⟨S256x1, .f32⟩
  | 72 => ⟨S256x100000, .f32⟩
  | 73 => ⟨S256x100000, .f32⟩
  | 74 => ⟨S256x100000, .f32⟩
  | 75 => ⟨S_, .f32⟩
  | 76 => ⟨S256, .f32⟩
  | 77 => ⟨S256x1, .f32⟩
  | 78 => ⟨S256x100000, .f32⟩
  | 79 => ⟨S256x100000, .f32⟩
  | 80 => ⟨S256x1, .f32⟩
  | 81 => ⟨S256x100000, .f32⟩
  | 82 => ⟨S256x100000, .f32⟩
  | 83 => ⟨S_, .f32⟩
  | 84 => ⟨S256, .f32⟩
  | 85 => ⟨S_, .f32⟩
  | 86 => ⟨S256, .f32⟩
  | 87 => ⟨S256, .f32⟩
  | 88 => ⟨S256x1, .f32⟩
  | 89 => ⟨S256x100000, .f32⟩
  | 90 => ⟨S256x100000, .f32⟩
  | 91 => ⟨S256x100000, .f32⟩
  | 92 => ⟨S_, .f32⟩
  | 93 => ⟨S256, .f32⟩
  | 94 => ⟨S256x1, .f32⟩
  | 95 => ⟨S256x100000, .f32⟩
  | 96 => ⟨S256x100000, .f32⟩
  | 97 => ⟨S32x100000, .f32⟩
  | 98 => ⟨S32x100000, .f32⟩
  | 99 => ⟨S_, .i32⟩
  | 100 => ⟨S256, .i32⟩
  | 101 => ⟨S256, .i1⟩
  | 102 => ⟨S_, .i32⟩
  | 103 => ⟨S256, .i32⟩
  | 104 => ⟨S256, .i32⟩
  | 105 => ⟨S256, .i32⟩
  | 106 => ⟨S256x1, .i32⟩
  | 107 => ⟨S256x100000, .f32⟩
  | 108 => ⟨S256x100000, .f32⟩
  | 109 => ⟨S_, .f32⟩
  | 110 => ⟨S256x100000, .f32⟩
  | 111 => ⟨S256x100000, .f32⟩
  | 112 => ⟨S256x100000, .f32⟩
  | 113 => ⟨S256x100000, .i32⟩
  | 114 => ⟨S_, .f32⟩
  | 115 => ⟨S256, .f32⟩
  | 116 => ⟨S256x1, .f32⟩
  | 117 => ⟨S256x100000, .f32⟩
  | 118 => ⟨S256x100000, .i1⟩
  | 119 => ⟨S_, .i32⟩
  | 120 => ⟨S_, .i32⟩
  | 121 => ⟨S256x100000, .i32⟩
  | 122 => ⟨S256x100000, .i32⟩
  | 123 => ⟨S_, .i32⟩
  | 124 => ⟨S256, .i32⟩
  | 125 => ⟨S256x100000, .i32⟩
  | 126 => ⟨S_, .f32⟩
  | 127 => ⟨S256, .f32⟩
  | _ => ⟨S256x100000, .f32⟩

abbrev hbmTy0_1 (i : Nat) : BufTy := match i % 128 with
  | 0 => ⟨S256x1, .f32⟩
  | 1 => ⟨S256x100000, .f32⟩
  | 2 => ⟨S256x100000, .i1⟩
  | 3 => ⟨S_, .i32⟩
  | 4 => ⟨S_, .i32⟩
  | 5 => ⟨S256x100000, .i32⟩
  | 6 => ⟨S256x100000, .i32⟩
  | 7 => ⟨S_, .i32⟩
  | 8 => ⟨S256, .i32⟩
  | 9 => ⟨S256x1, .i32⟩
  | 10 => ⟨S_, .i32⟩
  | 11 => ⟨S256x1, .i32⟩
  | 12 => ⟨S256x1, .i1⟩
  | 13 => ⟨S_, .i32⟩
  | 14 => ⟨S256x1, .i32⟩
  | 15 => ⟨S256x1, .i32⟩
  | 16 => ⟨S256x1, .i32⟩
  | 17 => ⟨S256x1x1, .i32⟩
  | 18 => ⟨S1, .i32⟩
  | 19 => ⟨S_, .i32⟩
  | 20 => ⟨S256x1x1, .i32⟩
  | 21 => ⟨S256x1x1, .i1⟩
  | 22 => ⟨S1x1x1, .i32⟩
  | 23 => ⟨S256x1x1, .i32⟩
  | 24 => ⟨S256x1x1, .i1⟩
  | 25 => ⟨S256x1x1, .i1⟩
  | 26 => ⟨S_, .i1⟩
  | 27 => ⟨S256x1, .i1⟩
  | 28 => ⟨S256x1, .f32⟩
  | 29 => ⟨S_, .f32⟩
  | 30 => ⟨S256x1, .f32⟩
  | 31 => ⟨S256x1, .f32⟩
  | 32 => ⟨S256, .f32⟩
  | 33 => ⟨S256x1, .i32⟩
  | 34 => ⟨S_, .i32⟩
  | 35 => ⟨S256x1, .i32⟩
  | 36 => ⟨S256x1, .i1⟩
  | 37 => ⟨S_, .i32⟩
  | 38 => ⟨S256x1, .i32⟩
  | 39 => ⟨S256x1, .i32⟩
  | 40 => ⟨S256x1, .i32⟩
  | 41 => ⟨S256x1x1, .i32⟩
  | 42 => ⟨S1, .i32⟩
  | 43 => ⟨S_, .i32⟩
  | 44 => ⟨S256x1x1, .i32⟩
  | 45 => ⟨S256x1x1, .i1⟩
  | 46 => ⟨S1x1x1, .i32⟩
  | 47 => ⟨S256x1x1, .i32⟩
  | 48 => ⟨S256x1x1, .i1⟩
  | 49 => ⟨S256x1x1, .i1⟩
  | 50 => ⟨S_, .i1⟩
  | 51 => ⟨S256x1, .i1⟩
  | 52 => ⟨S256x1, .f32⟩
  | 53 => ⟨S_, .f32⟩
  | 54 => ⟨S256x1, .f32⟩
  | 55 => ⟨S256x1, .f32⟩
  | 56 => ⟨S256, .f32⟩
  | 57 => ⟨S_, .f32⟩
  | 58 => ⟨S256, .f32⟩
  | 59 => ⟨S256, .i1⟩
  | 60 => ⟨S_, .f32⟩
  | 61 => ⟨S_, .f32⟩
  | 62 => ⟨S256, .f32⟩
  | 63 => ⟨S256, .f32⟩
  | 64 => ⟨S_, .f32⟩
  | 65 => ⟨S256, .f32⟩
  | 66 => ⟨S256, .i1⟩
  | 67 => ⟨S256, .f32⟩
  | 68 => ⟨S256, .i1⟩
  | 69 => ⟨S256, .i1⟩
  | 70 => ⟨S_, .i32⟩
  | 71 => ⟨S256, .i32⟩
  | 72 => ⟨S256, .i1⟩
  | 73 => ⟨S_, .i32⟩
  | 74 => ⟨S256, .i32⟩
  | 75 => ⟨S256, .i32⟩
  | 76 => ⟨S256, .i32⟩
  | 77 => ⟨S256x1, .i32⟩
  | 78 => ⟨S256, .i1⟩
  | 79 => ⟨S256, .i1⟩
  | 80 => ⟨S256, .i1⟩
  | 81 => ⟨S256, .i1⟩
  | 82 => ⟨S256, .i1⟩
  | 83 => ⟨S256, .i32⟩
  | 84 => ⟨S_, .i32⟩
  | 85 => ⟨S_, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S256, .i32⟩
  | 93 => ⟨S256, .i32⟩
  | 94 => ⟨S256, .i32⟩
  | 95 => ⟨S256x1, .i32⟩
  | 96 => ⟨S256, .i32⟩
  | 97 => ⟨S_, .i32⟩
  | 98 => ⟨S256, .i32⟩
  | 99 => ⟨S256, .i1⟩
  | 100 => ⟨S_, .i32⟩
  | 101 => ⟨S256, .i32⟩
  | 102 => ⟨S256, .i32⟩
  | 103 => ⟨S256, .i32⟩
  | 104 => ⟨S256x1, .i32⟩
  | 105 => ⟨S1, .i32⟩
  | 106 => ⟨S_, .i32⟩
  | 107 => ⟨S256x1, .i32⟩
  | 108 => ⟨S256x1, .i1⟩
  | 109 => ⟨S1x1, .i32⟩
  | 110 => ⟨S256x1, .i32⟩
  | 111 => ⟨S256x1, .i1⟩
  | 112 => ⟨S256x1, .i1⟩
  | 113 => ⟨S_, .i1⟩
  | 114 => ⟨S256, .i1⟩
  | 115 => ⟨S256, .i32⟩
  | 116 => ⟨S_, .i32⟩
  | 117 => ⟨S256, .i32⟩
  | 118 => ⟨S256, .i32⟩
  | 119 => ⟨S256, .i32⟩
  | 120 => ⟨S_, .i32⟩
  | 121 => ⟨S256, .i32⟩
  | 122 => ⟨S256, .i1⟩
  | 123 => ⟨S256, .i1⟩
  | 124 => ⟨S256, .i32⟩
  | 125 => ⟨S256, .i32⟩
  | 126 => ⟨S_, .i32⟩
  | 127 => ⟨S32x9, .i32⟩
  | _ => ⟨S256x100000, .f32⟩

abbrev hbmTy0_2 (i : Nat) : BufTy := match i % 128 with
  | 0 => ⟨S_, .i32⟩
  | 1 => ⟨S_, .i32⟩
  | 2 => ⟨S256, .i32⟩
  | 3 => ⟨S256, .i32⟩
  | 4 => ⟨S_, .i32⟩
  | 5 => ⟨S256, .i32⟩
  | 6 => ⟨S256, .i1⟩
  | 7 => ⟨S_, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S_, .i32⟩
  | 15 => ⟨S256, .i32⟩
  | 16 => ⟨S256, .i32⟩
  | 17 => ⟨S256, .i32⟩
  | 18 => ⟨S256x1, .i32⟩
  | 19 => ⟨S256x1, .i32⟩
  | 20 => ⟨S256x2, .i32⟩
  | 21 => ⟨S32x9, .i32⟩
  | 22 => ⟨S_, .i32⟩
  | 23 => ⟨S32, .i32⟩
  | 24 => ⟨S256x1, .i32⟩
  | 25 => ⟨S32, .i32⟩
  | 26 => ⟨S_, .i32⟩
  | 27 => ⟨S32, .i32⟩
  | 28 => ⟨S32, .i1⟩
  | 29 => ⟨S32, .i32⟩
  | 30 => ⟨S_, .i32⟩
  | 31 => ⟨S_, .i32⟩
  | 32 => ⟨S32, .i32⟩
  | 33 => ⟨S32, .i32⟩
  | 34 => ⟨S_, .i32⟩
  | 35 => ⟨S32, .i32⟩
  | 36 => ⟨S32, .i1⟩
  | 37 => ⟨S_, .i32⟩
  | 38 => ⟨S32, .i32⟩
  | 39 => ⟨S32, .i32⟩
  | 40 => ⟨S32, .i32⟩
  | 41 => ⟨S_, .i32⟩
  | 42 => ⟨S32, .i32⟩
  | 43 => ⟨S32, .i1⟩
  | 44 => ⟨S_, .i32⟩
  | 45 => ⟨S32, .i32⟩
  | 46 => ⟨S32, .i32⟩
  | 47 => ⟨S32, .i32⟩
  | 48 => ⟨S32x1, .i32⟩
  | 49 => ⟨S32x1, .i32⟩
  | 50 => ⟨S32x2, .i32⟩
  | 51 => ⟨S32x9, .i32⟩
  | _ => ⟨S256x100000, .f32⟩

abbrev hbmTy (i : Nat) : BufTy := match i / 128 with
  | 0 => hbmTy0_0 i
  | 1 => hbmTy0_1 i
  | 2 => hbmTy0_2 i
  | _ => ⟨S256x100000, .f32⟩

abbrev bufTy : (tb : Table) → Fin (tcTables nBuf tb) → BufTy
  | .hbm, ⟨i, _⟩ => hbmTy i
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_18 : Ref sig .tc := ⟨.hbm, 119, rfl⟩
abbrev main_call0_v0 : Ref sig .tc := ⟨.hbm, 120, rfl⟩
abbrev main_call0_v1 : Ref sig .tc := ⟨.hbm, 121, rfl⟩
abbrev main_v90 : Ref sig .tc := ⟨.hbm, 122, rfl⟩
abbrev main_c_19 : Ref sig .tc := ⟨.hbm, 123, rfl⟩
abbrev main_v91 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_21 : Ref sig .tc := ⟨.hbm, 131, rfl⟩
abbrev main_call1_v0 : Ref sig .tc := ⟨.hbm, 132, rfl⟩
abbrev main_call1_v1 : Ref sig .tc := ⟨.hbm, 133, rfl⟩
abbrev main_v97 : Ref sig .tc := ⟨.hbm, 134, rfl⟩
abbrev main_c_22 : Ref sig .tc := ⟨.hbm, 135, rfl⟩
abbrev main_v98 : Ref sig .tc := ⟨.hbm, 136, rfl⟩
abbrev main_v99 : Ref sig .tc := ⟨.hbm, 137, rfl⟩
abbrev main_call2_c : Ref sig .tc := ⟨.hbm, 138, rfl⟩
abbrev main_call2_v0 : Ref sig .tc := ⟨.hbm, 139, rfl⟩
abbrev main_call2_v1 : Ref sig .tc := ⟨.hbm, 140, rfl⟩
abbrev main_call2_c_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_c_1 : Ref sig .tc := ⟨.hbm, 146, rfl⟩
abbrev main_call2_c_2 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_c_3 : Ref sig .tc := ⟨.hbm, 154, rfl⟩
abbrev main_call2_v12 : Ref sig .tc := ⟨.hbm, 155, rfl⟩
abbrev main_call2_v13 : Ref sig .tc := ⟨.hbm, 156, rfl⟩
abbrev main_call2_cst : Ref sig .tc := ⟨.hbm, 157, rfl⟩
abbrev main_call2_v14 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_call3_c : Ref sig .tc := ⟨.hbm, 162, rfl⟩
abbrev main_call3_v0 : Ref sig .tc := ⟨.hbm, 163, rfl⟩
abbrev main_call3_v1 : Ref sig .tc := ⟨.hbm, 164, rfl⟩
abbrev main_call3_c_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_c_1 : Ref sig .tc := ⟨.hbm, 170, rfl⟩
abbrev main_call3_c_2 : Ref sig .tc := ⟨.hbm, 171, rfl⟩
abbrev main_call3_v6 : Ref sig .tc := ⟨.hbm, 172, rfl⟩
abbrev main_call3_v7 : Ref sig .tc := ⟨.hbm, 173, rfl⟩
abbrev main_call3_v8 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_c_3 : Ref sig .tc := ⟨.hbm, 178, rfl⟩
abbrev main_call3_v12 : Ref sig .tc := ⟨.hbm, 179, rfl⟩
abbrev main_call3_v13 : Ref sig .tc := ⟨.hbm, 180, rfl⟩
abbrev main_call3_cst : Ref sig .tc := ⟨.hbm, 181, rfl⟩
abbrev main_call3_v14 : Ref sig .tc := ⟨.hbm, 182, rfl⟩
abbrev main_v103 : Ref sig .tc := ⟨.hbm, 183, rfl⟩
abbrev main_v104 : Ref sig .tc := ⟨.hbm, 184, rfl⟩
abbrev main_cst_23 : Ref sig .tc := ⟨.hbm, 185, rfl⟩
abbrev main_v105 : Ref sig .tc := ⟨.hbm, 186, rfl⟩
abbrev main_v106 : Ref sig .tc := ⟨.hbm, 187, rfl⟩
abbrev main_cst_24 : Ref sig .tc := ⟨.hbm, 188, rfl⟩
abbrev main_call4_v0 : Ref sig .tc := ⟨.hbm, 189, rfl⟩
abbrev main_call4_v1 : Ref sig .tc := ⟨.hbm, 190, rfl⟩
abbrev main_v107 : Ref sig .tc := ⟨.hbm, 191, rfl⟩
abbrev main_cst_25 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_c_26 : Ref sig .tc := ⟨.hbm, 198, rfl⟩
abbrev main_v113 : Ref sig .tc := ⟨.hbm, 199, rfl⟩
abbrev main_v114 : Ref sig .tc := ⟨.hbm, 200, rfl⟩
abbrev main_c_27 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_call6_call0_c : Ref sig .tc := ⟨.hbm, 212, rfl⟩
abbrev main_call6_call0_v0 : Ref sig .tc := ⟨.hbm, 213, rfl⟩
abbrev main_v125 : Ref sig .tc := ⟨.hbm, 214, rfl⟩
abbrev main_v126 : Ref sig .tc := ⟨.hbm, 215, rfl⟩
abbrev main_c_28 : Ref sig .tc := ⟨.hbm, 216, rfl⟩
abbrev main_v127 : Ref sig .tc := ⟨.hbm, 217, rfl⟩
abbrev main_v128 : Ref sig .tc := ⟨.hbm, 218, rfl⟩
abbrev main_c_29 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_call7_c : Ref sig .tc := ⟨.hbm, 225, rfl⟩
abbrev main_call7_v0 : Ref sig .tc := ⟨.hbm, 226, rfl⟩
abbrev main_call7_v1 : Ref sig .tc := ⟨.hbm, 227, rfl⟩
abbrev main_call7_c_0 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_c_1 : Ref sig .tc := ⟨.hbm, 233, rfl⟩
abbrev main_call7_c_2 : Ref sig .tc := ⟨.hbm, 234, rfl⟩
abbrev main_call7_v6 : Ref sig .tc := ⟨.hbm, 235, rfl⟩
abbrev main_call7_v7 : Ref sig .tc := ⟨.hbm, 236, rfl⟩
abbrev main_call7_v8 : Ref sig .tc := ⟨.hbm, 237, rfl⟩
abbrev main_call7_v9 : Ref sig .tc := ⟨.hbm, 238, rfl⟩
abbrev main_call7_v10 : Ref sig .tc := ⟨.hbm, 239, rfl⟩
abbrev main_call7_v11 : Ref sig .tc := ⟨.hbm, 240, rfl⟩
abbrev main_call7_c_3 : Ref sig .tc := ⟨.hbm, 241, rfl⟩
abbrev main_call7_v12 : Ref sig .tc := ⟨.hbm, 242, rfl⟩
abbrev main_call7_v13 : Ref sig .tc := ⟨.hbm, 243, rfl⟩
abbrev main_call7_c_4 : Ref sig .tc := ⟨.hbm, 244, rfl⟩
abbrev main_call7_v14 : Ref sig .tc := ⟨.hbm, 245, rfl⟩
abbrev main_v134 : Ref sig .tc := ⟨.hbm, 246, rfl⟩
abbrev main_v135 : Ref sig .tc := ⟨.hbm, 247, rfl⟩
abbrev main_c_30 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_c_31 : Ref sig .tc := ⟨.hbm, 254, rfl⟩
abbrev main_v141 : Ref sig .tc := ⟨.hbm, 255, rfl⟩
abbrev main_c_32 : Ref sig .tc := ⟨.hbm, 256, rfl⟩
abbrev main_call10_v0 : Ref sig .tc := ⟨.hbm, 257, rfl⟩
abbrev main_call10_v1 : Ref sig .tc := ⟨.hbm, 258, rfl⟩
abbrev main_v142 : Ref sig .tc := ⟨.hbm, 259, rfl⟩
abbrev main_c_33 : Ref sig .tc := ⟨.hbm, 260, rfl⟩
abbrev main_v143 : Ref sig .tc := ⟨.hbm, 261, rfl⟩
abbrev main_v144 : Ref sig .tc := ⟨.hbm, 262, rfl⟩
abbrev main_c_34 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_c_35 : Ref sig .tc := ⟨.hbm, 267, rfl⟩
abbrev main_v148 : Ref sig .tc := ⟨.hbm, 268, rfl⟩
abbrev main_v149 : Ref sig .tc := ⟨.hbm, 269, rfl⟩
abbrev main_c_36 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_c_37 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_c_38 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_c_39 : Ref sig .tc := ⟨.hbm, 286, rfl⟩
abbrev main_call11_v0 : Ref sig .tc := ⟨.hbm, 287, rfl⟩
abbrev main_call11_v1 : Ref sig .tc := ⟨.hbm, 288, rfl⟩
abbrev main_v163 : Ref sig .tc := ⟨.hbm, 289, rfl⟩
abbrev main_c_40 : Ref sig .tc := ⟨.hbm, 290, rfl⟩
abbrev main_v164 : Ref sig .tc := ⟨.hbm, 291, rfl⟩
abbrev main_v165 : Ref sig .tc := ⟨.hbm, 292, rfl⟩
abbrev main_c_41 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_c_42 : Ref sig .tc := ⟨.hbm, 297, rfl⟩
abbrev main_v169 : Ref sig .tc := ⟨.hbm, 298, rfl⟩
abbrev main_v170 : Ref sig .tc := ⟨.hbm, 299, rfl⟩
abbrev main_c_43 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩

abbrev nD : Nat := 1
abbrev τ : Topo := Topo.v7x

variable {F : FTy → Type} [FloatOps F]
-- ==== Proof.LoopT.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Affine
public import Idealize.ShloMosaic.Lib.Tactic

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev PG (F : FTy → Type) (α : Type) := Prog (TpuEff nD τ sig (Elt F) Λ₀ .tc) α

theorem inb8 {o : Nat} (h : o + 1024 ≤ 100000) : ∀ a, (![0, o] : Fin 2 → Nat) a + S8x1024.size a ≤ S8x100000.size a := by
  intro a; fin_cases a
  · show 0 + 8 ≤ 8; omega
  · show o + 1024 ≤ 100000; omega

theorem inb1 {o : Nat} (h : o + 1024 ≤ 100000) : ∀ a, (![0, o] : Fin 2 → Nat) a + S1x1024.size a ≤ S1x100000.size a := by
  intro a; fin_cases a
  · show 0 + 1 ≤ 1; omega
  · show o + 1024 ≤ 100000; omega

theorem inbT (i : grid1.Coords) {o : Nat} (h : o + 1024 ≤ 100000) :
    ∀ a, (![k1_off14 i 0, 0, o] : Fin 3 → Nat) a + S1x16x1024.size a ≤ S2x16x100000.size a := by
  intro a; fin_cases a
  · exact k1_off14_inb i 0
  · show 0 + 16 ≤ 16; omega
  · show o + 1024 ≤ 100000; omega

theorem inbE (i : grid1.Coords) {o : Nat} (h : o + 1024 ≤ 100000) :
    ∀ a, (![k1_off112 i 0, 0, o] : Fin 3 → Nat) a + S1x8x1024.size a ≤ S2x8x100000.size a := by
  intro a; fin_cases a
  · exact k1_off112_inb i 0
  · show 0 + 8 ≤ 8; omega
  · show o + 1024 ≤ 100000; omega

/-- What one chunk of the first pass stores: the exponentials of the target rows. -/
def etOf (v3 : Elt F .f32) (v81 : BitVec 32) (x : Vec F S1x16x1024 .f32) : FVec F S8x1024 .f32 :=
  exp (divf (extractStridedSlice S8x1024 ![0, 0] (dynamicRotate 0 v81 none (shapeCast S16x1024 x shapeCasts_S1x16x1024_S16x1024) rotates_S16x1024_d0) slices_S16x1024_o0_0_S8x1024) (broadcast S8x1024 v3))

/-- What one chunk of the first pass stores: the exponential draws. -/
def qOf (v92 : BitVec 32) (x : Vec F S8x1024 .f32) : FVec F S1x1024 .f32 :=
  subf (broadcast S1x1024 (Scalar.ofBits .f32 0x00000000#32 : F .f32)) (log (extractStridedSlice S1x1024 ![0, 0] (dynamicRotate 0 v92 none x rotates_S8x1024_d0) slices_S8x1024_o0_0_S1x1024))

def chunkA (i : grid1.Coords) (arg6 : Memref sig .tc .vmem S8x100000 .f32) (arg11 : Memref sig .tc .vmem S2x16x100000 .f32) (arg13 : Memref sig .tc .vmem S8x100000 .f32) (arg14 : Memref sig .tc .vmem S1x100000 .f32)
    (v3 : Elt F .f32) (v81 v92 : BitVec 32) (o : Nat) (h : o + 1024 ≤ 100000) : PG F (FVec F S8x1024 .f32) := do
  let x : Vec F S1x16x1024 .f32 ← Prog.lift (.load arg11 (Rect.unit (s := S2x16x100000) ![k1_off14 i 0, 0, o] S1x16x1024.size (inbT i h)).toLoadRect (View.loadsAt_vmem h_S1x16x1024))
  let _y : Vec F S8x1024 .f32 ← Prog.lift (.load arg13 (Rect.unit (s := S8x100000) ![0, o] S8x1024.size (inb8 h)).toLoadRect (View.loadsAt_vmem h_S8x1024))
  Prog.lift (.store arg13 (Rect.unit (s := S8x100000) ![0, o] S8x1024.size (inb8 h)) (shapeCast S8x1024 (etOf v3 v81 x) shapeCasts_S8x1024_S8x1024 : Vec F S8x1024 .f32) Finset.univ (View.stores_vmem_bits_univ h_S8x1024 rfl) (.inl rfl))
  let u : Vec F S8x1024 .f32 ← Prog.lift (.load arg6 (Rect.unit (s := S8x100000) ![0, o] S8x1024.size (inb8 h)).toLoadRect (View.loadsAt_vmem h_S8x1024))
  let _z : Vec F S1x1024 .f32 ← Prog.lift (.load arg14 (Rect.unit (s := S1x100000) ![0, o] S1x1024.size (inb1 h)).toLoadRect (View.loadsAt_vmem h_S1x1024))
  Prog.lift (.store arg14 (Rect.unit (s := S1x100000) ![0, o] S1x1024.size (inb1 h)) (shapeCast S1x1024 (qOf v92 u) shapeCasts_S1x1024_S1x1024 : Vec F S1x1024 .f32) Finset.univ (View.stores_vmem_bits_univ h_S1x1024 rfl) (.inl rfl))
  pure (etOf v3 v81 x)

def loopA (i : grid1.Coords) (arg6 : Memref sig .tc .vmem S8x100000 .f32) (arg11 : Memref sig .tc .vmem S2x16x100000 .f32) (arg13 : Memref sig .tc .vmem S8x100000 .f32) (arg14 : Memref sig .tc .vmem S1x100000 .f32)
    (v3 : Elt F .f32) (v81 v92 : BitVec 32) : (n o : Nat) → (h : o + n * 1024 ≤ 99328) → FVec F S8x1024 .f32 → PG F (FVec F S8x1024 .f32)
  | 0, _, _, acc => pure acc
  | n + 1, o, h, acc => do
    let et ← chunkA i arg6 arg11 arg13 arg14 v3 v81 v92 o (by omega)
    loopA i arg6 arg11 arg13 arg14 v3 v81 v92 n (o + 1024) (by omega) (addf acc et)

/-- One chunk's sums of the second pass. -/
def scOf (cf : FVec F S8x1 .f32) (et : Vec F S8x1024 .f32) (ed : FVec F S8x1024 .f32) (q : Vec F S1x1024 .f32) : FVec F S8x1024 .f32 :=
  divf (maximumf (subf (mulf et (broadcastTo S8x1024 cf broadcasts_S8x1_S8x1024)) ed) (broadcast S8x1024 (Scalar.ofBits .f32 0x00000000#32 : F .f32))) (broadcastTo S8x1024 q broadcasts_S1x1024_S8x1024)

def stepBest (best sc : FVec F S8x1024 .f32) : FVec F S8x1024 .f32 := maximumf best sc

def iotaAt (v103 : IVec S1x1024 32) (o : Nat) : IVec S1x1024 32 := addi v103 (broadcast S1x1024 (BitVec.ofNat 32 o))

def stepIdx (v103 : IVec S1x1024 32) (o : Nat) (best : FVec F S8x1024 .f32) (bidx : IVec S8x1024 32) (sc : FVec F S8x1024 .f32) : IVec S8x1024 32 :=
  select (cmpf .ogt sc best) (broadcastTo S8x1024 (shapeCast S1x1024 (iotaAt v103 o) shapeCasts_S1x1024_S1x1024) broadcasts_S1x1024_S8x1024) bidx

def eqAt (v103 : IVec S1x1024 32) (d8 : IVec S8x1 32) (o : Nat) : IVec S8x1024 1 :=
  cmpi .eq (broadcastTo S8x1024 (iotaAt v103 o) broadcasts_S1x1024_S8x1024) (broadcastTo S8x1024 d8 broadcasts_S8x1_S8x1024)

def stepG (m : IVec S8x1024 1) (g x : FVec F S8x1024 .f32) : FVec F S8x1024 .f32 :=
  addf g (select m x (broadcast S8x1024 (Scalar.ofBits .f32 0x00000000#32 : F .f32)))

/-- What the second pass carries: the best score, its index, and the two gathered weights. -/
structure AccB (F : FTy → Type) where
  best : FVec F S8x1024 .f32
  bidx : IVec S8x1024 32
  gt : FVec F S8x1024 .f32
  gd : FVec F S8x1024 .f32

def loadsB (i : grid1.Coords) (arg12 : Memref sig .tc .vmem S2x8x100000 .f32) (arg13 : Memref sig .tc .vmem S8x100000 .f32) (arg14 : Memref sig .tc .vmem S1x100000 .f32)
    (o : Nat) (h : o + 1024 ≤ 100000) : PG F (Vec F S8x1024 .f32 × Vec F S1x8x1024 .f32 × Vec F S1x1024 .f32) := do
  let et : Vec F S8x1024 .f32 ← Prog.lift (.load arg13 (Rect.unit (s := S8x100000) ![0, o] S8x1024.size (inb8 h)).toLoadRect (View.loadsAt_vmem h_S8x1024))
  let ed : Vec F S1x8x1024 .f32 ← Prog.lift (.load arg12 (Rect.unit (s := S2x8x100000) ![k1_off112 i 0, 0, o] S1x8x1024.size (inbE i h)).toLoadRect (View.loadsAt_vmem h_S1x8x1024))
  let q : Vec F S1x1024 .f32 ← Prog.lift (.load arg14 (Rect.unit (s := S1x100000) ![0, o] S1x1024.size (inb1 h)).toLoadRect (View.loadsAt_vmem h_S1x1024))
  pure (et, ed, q)

def ed8 (ed : Vec F S1x8x1024 .f32) : FVec F S8x1024 .f32 := shapeCast S8x1024 ed shapeCasts_S1x8x1024_S8x1024

def stepB (v103 : IVec S1x1024 32) (d8 : IVec S8x1 32) (m : IVec S8x1024 1) (o : Nat) (a : AccB F) (et ed sc : FVec F S8x1024 .f32) : AccB F :=
  ⟨stepBest a.best sc, stepIdx v103 o a.best a.bidx sc, stepG m a.gt et, stepG m a.gd ed⟩

def loopB (i : grid1.Coords) (arg12 : Memref sig .tc .vmem S2x8x100000 .f32) (arg13 : Memref sig .tc .vmem S8x100000 .f32) (arg14 : Memref sig .tc .vmem S1x100000 .f32)
    (v103 : IVec S1x1024 32) (d8 : IVec S8x1 32) (cf : FVec F S8x1 .f32) : (n o : Nat) → (h : o + n * 1024 ≤ 99328) → AccB F → PG F (AccB F)
  | 0, _, _, a => pure a
  | n + 1, o, h, a => do
    let r ← loadsB i arg12 arg13 arg14 o (by omega)
    loopB i arg12 arg13 arg14 v103 d8 cf n (o + 1024) (by omega) (stepB v103 d8 (eqAt v103 d8 o) o a r.1 (ed8 r.2.1) (scOf cf r.1 (ed8 r.2.1) r.2.2))

def newlo (v103 : IVec S1x1024 32) : IVec S1x1024 1 := cmpi .sge (iotaAt v103 98976) (broadcast S1x1024 99328#32)

/-- The first pass, with the masked last chunk: the row sums. -/
def passA (i : grid1.Coords) (arg6 : Memref sig .tc .vmem S8x100000 .f32) (arg11 : Memref sig .tc .vmem S2x16x100000 .f32) (arg13 : Memref sig .tc .vmem S8x100000 .f32) (arg14 : Memref sig .tc .vmem S1x100000 .f32)
    (v3 : Elt F .f32) (v81 v92 : BitVec 32) (v103 : IVec S1x1024 32) : PG F (FVec F S8x1 .f32) := do
  let acc ← loopA i arg6 arg11 arg13 arg14 v3 v81 v92 97 0 (by omega) (broadcast S8x1024 (Scalar.ofBits .f32 0x00000000#32 : F .f32))
  let et ← chunkA i arg6 arg11 arg13 arg14 v3 v81 v92 98976 (by omega)
  pure (shapeCast S8x1 (multiReduction .add [1] S8 (addf acc (select (broadcastTo S8x1024 (shapeCast S1x1024 (newlo v103) shapeCasts_S1x1024_S1x1024) broadcasts_S1x1024_S8x1024) et (broadcast S8x1024 (Scalar.ofBits .f32 0x00000000#32 : F .f32)))) 0x00000000#32 reduces_S8x1024_S8 (.inl rfl) rfl) shapeCasts_S8_S8x1)

/-- The second pass from the second chunk on. -/
def passB (i : grid1.Coords) (arg12 : Memref sig .tc .vmem S2x8x100000 .f32) (arg13 : Memref sig .tc .vmem S8x100000 .f32) (arg14 : Memref sig .tc .vmem S1x100000 .f32)
    (v103 : IVec S1x1024 32) (d8 : IVec S8x1 32) (cf : FVec F S8x1 .f32) (a0 : AccB F) (et0 : Vec F S8x1024 .f32) (ed0 sc0 : FVec F S8x1024 .f32) : PG F (AccB F) := do
  let a ← loopB i arg12 arg13 arg14 v103 d8 cf 96 1024 (by omega) (stepB v103 d8 (eqAt v103 d8 0) 0 a0 et0 ed0 sc0)
  let r ← loadsB i arg12 arg13 arg14 98976 (by omega)
  pure (stepB v103 d8 (andi (eqAt v103 d8 98976) (broadcastTo S8x1024 (newlo v103) broadcasts_S1x1024_S8x1024)) 98976 a r.1 (ed8 r.2.1) (scOf cf r.1 (ed8 r.2.1) r.2.2))

/-- The chosen token of every row: the smallest index among the best scores. -/
def recOf (a : AccB F) : IVec S8 32 :=
  multiReductionI .minsi [1] S8 (select (cmpf .oeq a.best (broadcastTo S8x1024 (shapeCast S8x1 (multiReduction .maximumf [1] S8 a.best 0xFF800000#32 reduces_S8x1024_S8 (.inl rfl) rfl) shapeCasts_S8_S8x1) broadcasts_S8x1_S8x1024)) a.bidx (broadcast S8x1024 100000#32)) 2147483647#32 reduces_S8x1024_S8 rfl

/-- The end of the body: the acceptance tests and the row of tokens stored. -/
def finish (i : grid1.Coords) (arg3 : Memref sig .tc .smem S32 .i32) (arg7 : Memref sig .tc .vmem S1x16x1 .i32) (arg8 : Memref sig .tc .vmem S1x8x1 .f32) (arg10 : Memref sig .tc .vmem S1x16x1 .i32)
    (st sd : FVec F S8x1 .f32) (a : AccB F) : PG F PUnit := do
  let un : Vec F S1x8x1 .f32 ← Prog.lift (.load arg8 (Rect.unit (s := S1x8x1) ![0, 0, 0] S1x8x1.size inb_S1x8x1_S1x8x1_0_0_0).toLoadRect (View.loadsAt_vmem h_S1x8x1))
  let dd : Vec F S1x16x1 .i32 ← Prog.lift (.load arg7 (Rect.unit (s := S1x16x1) ![0, 0, 0] S1x16x1.size inb_S1x16x1_S1x16x1_0_0_0).toLoadRect (View.loadsAt_vmem h_S1x16x1))
  let bo : Elt F .i32 ← smemLoad arg3 (Rect.unit (s := S32) (k1_off1 i) S1.size (k1_off1_inb i)) numel1_S1 rfl
  let _z : Vec F S1x16x1 .i32 ← Prog.lift (.load arg10 (Rect.unit (s := S1x16x1) ![0, 0, 0] S1x16x1.size inb_S1x16x1_S1x16x1_0_0_0).toLoadRect (View.loadsAt_vmem h_S1x16x1))
  Prog.lift (.store arg10 (Rect.unit (s := S1x16x1) ![0, 0, 0] S1x16x1.size inb_S1x16x1_S1x16x1_0_0_0) (k1_pay1 (F := F) (k1_pay1104 st sd a.gt a.gd un) bo (k1_pay1105 st sd a.gt a.gd (recOf a) un dd) k1_pay1106 8#32 : Vec F S1x16x1 .i32) Finset.univ (View.stores_vmem_bits_univ h_S1x16x1 rfl) (.inl rfl))
  pure ⟨⟩

/-- The body's parts from the second chunk of the second pass on, as printed. -/
def late (i : grid1.Coords) (arg2 : Memref sig .tc .smem S32 .f32) (harg2 : arg2.IsWhole) (arg3 : Memref sig .tc .smem S32 .i32) (harg3 : arg3.IsWhole) (arg4 : Memref sig .tc .hbm S288x100000 .f32) (harg4 : arg4.IsWhole) (arg5 : Memref sig .tc .hbm S256x100000 .f32) (harg5 : arg5.IsWhole) (arg6 : Memref sig .tc .vmem S8x100000 .f32) (harg6 : arg6.IsWhole) (arg7 : Memref sig .tc .vmem S1x16x1 .i32) (harg7 : arg7.IsWhole) (arg8 : Memref sig .tc .vmem S1x8x1 .f32) (harg8 : arg8.IsWhole) (arg9 : Memref sig .tc .vmem S8x1 .f32) (harg9 : arg9.IsWhole) (arg10 : Memref sig .tc .vmem S1x16x1 .i32) (harg10 : arg10.IsWhole) (arg11 : Memref sig .tc .vmem S2x16x100000 .f32) (harg11 : arg11.IsWhole) (arg12 : Memref sig .tc .vmem S2x8x100000 .f32) (harg12 : arg12.IsWhole) (arg13 : Memref sig .tc .vmem S8x100000 .f32) (harg13 : arg13.IsWhole) (arg14 : Memref sig .tc .vmem S1x100000 .f32) (harg14 : arg14.IsWhole) (arg15 : DmaSems sig S2) (arg16 : DmaSems sig S2)
    (v1 : BitVec 32) (v102 : BitVec 32) (v103 : IVec S1x1024 32) (v2172 : FVec F S8x1 .f32) (v2175 : IVec S8x1 32) (v2177 : FVec F S8x1 .f32) (v2178 : FVec F S8x1 .f32) (v2179 : FVec F S8x1024 .f32) (v2180 : IVec S8x1024 32) (v2181 : FVec F S8x1024 .f32) (v2182 : FVec F S8x1024 .f32) (v2183 : Vec F S8x1024 .f32) (v2186 : FVec F S8x1024 .f32) (v2194 : FVec F S8x1024 .f32) : PG F PUnit := do
  let ⟨v2226, v2229, v2235, v2238, v2239⟩ : Σ' (v2226 : FVec F S8x1024 .f32) (v2229 : IVec S8x1024 32) (v2235 : FVec F S8x1024 .f32) (v2238 : FVec F S8x1024 .f32), Vec F S8x1024 .f32 ← k1_part58 i arg2 harg2 arg3 harg3 arg4 harg4 arg5 harg5 arg6 harg6 arg7 harg7 arg8 harg8 arg9 harg9 arg10 harg10 arg11 harg11 arg12 harg12 arg13 harg13 arg14 harg14 arg15 arg16 v102 v103 v2175 v2178 v2179 v2180 v2181 v2182 v2183 v2186 v2194
  let ⟨v2257, v2263, v2266, v2267, v2270, v2280, v2281, v2282, v2283⟩ : Σ' (v2257 : IVec S8x1024 32) (v2263 : FVec F S8x1024 .f32) (v2266 : FVec F S8x1024 .f32) (v2267 : Vec F S8x1024 .f32) (v2270 : FVec F S8x1024 .f32) (v2280 : IVec S1x1024 32) (v2281 : IVec S8x1024 1) (v2282 : FVec F S8x1024 .f32), IVec S1x1024 32 ← k1_part59 i arg2 harg2 arg3 harg3 arg4 harg4 arg5 harg5 arg6 harg6 arg7 harg7 arg8 harg8 arg9 harg9 arg10 harg10 arg11 harg11 arg12 harg12 arg13 harg13 arg14 harg14 arg15 arg16 v102 v103 v2175 v2178 v2226 v2229 v2235 v2238 v2239
  let ⟨v2310, v2313, v2319, v2322, v2323, v2326, v2327⟩ : Σ' (v2310 : FVec F S8x1024 .f32) (v2313 : IVec S8x1024 32) (v2319 : FVec F S8x1024 .f32) (v2322 : FVec F S8x1024 .f32) (v2323 : Vec F S8x1024 .f32) (v2326 : FVec F S8x1024 .f32), FVec F S8x1024 .f32 ← k1_part60 i arg2 harg2 arg3 harg3 arg4 harg4 arg5 harg5 arg6 harg6 arg7 harg7 arg8 harg8 arg9 harg9 arg10 harg10 arg11 harg11 arg12 harg12 arg13 harg13 arg14 harg14 arg15 arg16 v102 v103 v2175 v2178 v2257 v2263 v2266 v2267 v2270 v2280 v2281 v2282 v2283
  let ⟨v2347, v2350, v2351, v2354, v2366, v2369, v2372, cst_911⟩ : Σ' (v2347 : FVec F S8x1024 .f32) (v2350 : FVec F S8x1024 .f32) (v2351 : Vec F S8x1024 .f32) (v2354 : FVec F S8x1024 .f32) (v2366 : FVec F S8x1024 .f32) (v2369 : IVec S8x1024 32) (v2372 : IVec S8x1024 1), F .f32 ← k1_part61 i arg2 harg2 arg3 harg3 arg4 harg4 arg5 harg5 arg6 harg6 arg7 harg7 arg8 harg8 arg9 harg9 arg10 harg10 arg11 harg11 arg12 harg12 arg13 harg13 arg14 harg14 arg15 arg16 v102 v103 v2175 v2178 v2310 v2313 v2319 v2322 v2323 v2326 v2327
  let ⟨v4960, v4967, v4978, v4980, c8_i32_1752⟩ : Σ' (v4960 : IVec S1x1 32) (v4967 : Elt F .i32) (v4978 : IVec S16x1 32) (v4980 : IVec S16x1 1), BitVec 32 ← k1_part122 i arg2 harg2 arg3 harg3 arg4 harg4 arg5 harg5 arg6 harg6 arg7 harg7 arg8 harg8 arg9 harg9 arg10 harg10 arg11 harg11 arg12 harg12 arg13 harg13 arg14 harg14 arg15 arg16 v1 v102 v103 v2172 v2175 v2177 v2178 v2347 v2350 v2351 v2354 v2366 v2369 v2372 cst_911
  let v4987 : Vec F S1x16x1 .i32 ← Prog.lift (.load arg10 (Rect.unit (s := S1x16x1) ![0, 0, 0] S1x16x1.size inb_S1x16x1_S1x16x1_0_0_0).toLoadRect (View.loadsAt_vmem h_S1x16x1))
  Prog.lift (.store arg10 (Rect.unit (s := S1x16x1) ![0, 0, 0] S1x16x1.size inb_S1x16x1_S1x16x1_0_0_0) (k1_pay1 v4960 v4967 v4978 v4980 c8_i32_1752) Finset.univ (View.stores_vmem_bits_univ h_S1x16x1 rfl) (.inl rfl))
  pure ⟨⟩

universe vv in
theorem op_congr {E : Type → Type vv} {α : Type} {β : Type} (e : E β) {k k' : β → Prog E α} (h : ∀ x, k x = k' x) : Prog.op e k = Prog.op e k' :=
  congrArg (Prog.op e) (funext h)

set_option maxHeartbeats 0 in
theorem late_eq (i : grid1.Coords) (arg2 : Memref sig .tc .smem S32 .f32) (harg2 : arg2.IsWhole) (arg3 : Memref sig .tc .smem S32 .i32) (harg3 : arg3.IsWhole) (arg4 : Memref sig .tc .hbm S288x100000 .f32) (harg4 : arg4.IsWhole) (arg5 : Memref sig .tc .hbm S256x100000 .f32) (harg5 : arg5.IsWhole) (arg6 : Memref sig .tc .vmem S8x100000 .f32) (harg6 : arg6.IsWhole) (arg7 : Memref sig .tc .vmem S1x16x1 .i32) (harg7 : arg7.IsWhole) (arg8 : Memref sig .tc .vmem S1x8x1 .f32) (harg8 : arg8.IsWhole) (arg9 : Memref sig .tc .vmem S8x1 .f32) (harg9 : arg9.IsWhole) (arg10 : Memref sig .tc .vmem S1x16x1 .i32) (harg10 : arg10.IsWhole) (arg11 : Memref sig .tc .vmem S2x16x100000 .f32) (harg11 : arg11.IsWhole) (arg12 : Memref sig .tc .vmem S2x8x100000 .f32) (harg12 : arg12.IsWhole) (arg13 : Memref sig .tc .vmem S8x100000 .f32) (harg13 : arg13.IsWhole) (arg14 : Memref sig .tc .vmem S1x100000 .f32) (harg14 : arg14.IsWhole) (arg15 : DmaSems sig S2) (arg16 : DmaSems sig S2)
    (v1 : BitVec 32) (v102 : BitVec 32) (v103 : IVec S1x1024 32) (v2172 : FVec F S8x1 .f32) (v2175 : IVec S8x1 32) (v2177 : FVec F S8x1 .f32) (v2178 : FVec F S8x1 .f32) (v2179 : FVec F S8x1024 .f32) (v2180 : IVec S8x1024 32) (v2181 : FVec F S8x1024 .f32) (v2182 : FVec F S8x1024 .f32) (v2183 : Vec F S8x1024 .f32) (v2186 : FVec F S8x1024 .f32) (v2194 : FVec F S8x1024 .f32) :
    late i arg2 harg2 arg3 harg3 arg4 harg4 arg5 harg5 arg6 harg6 arg7 harg7 arg8 harg8 arg9 harg9 arg10 harg10 arg11 harg11 arg12 harg12 arg13 harg13 arg14 harg14 arg15 arg16 v1 v102 v103 v2172 v2175 v2177 v2178 v2179 v2180 v2181 v2182 v2183 v2186 v2194
      = (passB i arg12 arg13 arg14 v103 v2175 v2178 ⟨v2179, v2180, v2181, v2182⟩ v2183 v2186 v2194 >>= fun a => finish i arg3 arg7 arg8 arg10 v2172 v2177 a) := by
  iterate 293 refine op_congr _ fun _ => ?_
  repeat refine op_congr _ fun _ => ?_
  rfl

end Cert.KernelIdeal.Proof
-- ==== Proof.Names.lean ====
module

public import proofs.«01_k».proof.Proof.LoopT

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

theorem entails_of_eq {P Q : sProp 𝕄} (e : P = Q) : P ⊢ Q := e ▸ .rfl

/-! ## Names for the rows, the slots and their semaphores -/

abbrev tgtM : Memref sig .tc .hbm S288x100000 .f32 := Memref.whole main_arg1
abbrev edM : Memref sig .tc .hbm S256x100000 .f32 := Memref.whole main_call0_v6_0
abbrev tbufM : Memref sig .tc .vmem S2x16x100000 .f32 := Memref.whole cc1_scratch0
abbrev ebufM : Memref sig .tc .vmem S2x8x100000 .f32 := Memref.whole cc1_scratch1
abbrev etM : Memref sig .tc .vmem S8x100000 .f32 := Memref.whole cc1_scratch2
abbrev qM : Memref sig .tc .vmem S1x100000 .f32 := Memref.whole cc1_scratch3

abbrev slotOff (s : Fin 2) : Fin 3 → Nat := ![s.val, 0, 0]
theorem slotOff_inbT (s : Fin 2) : ∀ a, slotOff s a + S1x16x100000.size a ≤ S2x16x100000.size a := by
  have := s.isLt; intro a; fin_cases a
  · show s.val + 1 ≤ 2; omega
  · show 0 + 16 ≤ 16; omega
  · show 0 + 100000 ≤ 100000; omega
theorem slotOff_inbE (s : Fin 2) : ∀ a, slotOff s a + S1x8x100000.size a ≤ S2x8x100000.size a := by
  have := s.isLt; intro a; fin_cases a
  · show s.val + 1 ≤ 2; omega
  · show 0 + 8 ≤ 8; omega
  · show 0 + 100000 ≤ 100000; omega
abbrev semOff (s : Fin 2) : Fin 1 → Nat := ![s.val]
theorem semOff_inb (s : Fin 2) : ∀ a, semOff s a + S1.size a ≤ S2.size a := by
  have := s.isLt; intro a; fin_cases a; show s.val + 1 ≤ 2; omega
/-- The first of the sixteen target rows fetched for request `b`. -/
abbrev tOff (b : Fin 32) : Fin 2 → Nat := ![8 * (9 * b.val / 8), 0]
theorem tOff_inb (b : Fin 32) : ∀ a, tOff b a + S16x100000.size a ≤ S288x100000.size a := by
  have := b.isLt; intro a; fin_cases a
  · show 8 * (9 * b.val / 8) + 16 ≤ 288; omega
  · show 0 + 100000 ≤ 100000; omega
abbrev eOff (b : Fin 32) : Fin 2 → Nat := ![8 * b.val, 0]
theorem eOff_inb (b : Fin 32) : ∀ a, eOff b a + S8x100000.size a ≤ S256x100000.size a := by
  have := b.isLt; intro a; fin_cases a
  · show 8 * b.val + 8 ≤ 256; omega
  · show 0 + 100000 ≤ 100000; omega

/-- The sixteen target rows of request `b`, as the body slices them. -/
def tgrp (b : Fin 32) : Memref sig .tc .hbm S16x100000 .f32 :=
  tgtM.slice (Rect.unit (s := S288x100000) (tOff b) S16x100000.size (tOff_inb b)) (fun _ => rfl)
/-- The eight draft rows of request `b`. -/
def egrp (b : Fin 32) : Memref sig .tc .hbm S8x100000 .f32 :=
  edM.slice (Rect.unit (s := S256x100000) (eOff b) S8x100000.size (eOff_inb b)) (fun _ => rfl)
/-- Slot `s` of the target buffer. -/
def tslot (s : Fin 2) : Memref sig .tc .vmem S16x100000 .f32 :=
  (tbufM.slice (Rect.unit (s := S2x16x100000) (slotOff s) S1x16x100000.size (slotOff_inbT s)) (fun _ => rfl)).squeeze S16x100000 squeezes_S1x16x100000_S16x100000
/-- Slot `s` of the draft buffer. -/
def eslot (s : Fin 2) : Memref sig .tc .vmem S8x100000 .f32 :=
  (ebufM.slice (Rect.unit (s := S2x8x100000) (slotOff s) S1x8x100000.size (slotOff_inbE s)) (fun _ => rfl)).squeeze S8x100000 squeezes_S1x8x100000_S8x100000
def tsm (s : Fin 2) : DmaSems sig S_ := (cc1_scratch4.slice (Rect.unit (s := S2) (semOff s) S1.size (semOff_inb s))).squeeze S_ squeezes_S1_S_
def esm (s : Fin 2) : DmaSems sig S_ := (cc1_scratch5.slice (Rect.unit (s := S2) (semOff s) S1.size (semOff_inb s))).squeeze S_ squeezes_S1_S_

instance (s : Fin 2) : ClosedOff (slotOff s) := ⟨slotOff s, rfl⟩

/-! ## The offsets in closed form -/

abbrev jS (i : grid1.Coords) : Fin 2 := Ring.sl 2 (i 1).val
abbrev jN (i : grid1.Coords) : Fin 2 := Ring.sl 2 ((i 1).val + 1)
/-- The request of a grid point. -/
def rq (i : grid1.Coords) : Fin 32 := ⟨16 * (i 0).val + (i 1).val, by
  have h0 : (i 0).val < 2 := (i 0).isLt
  have h1 : (i 1).val < 16 := (i 1).isLt
  omega⟩
/-- The request after it (past the last one: request 0). -/
def rqn (i : grid1.Coords) : Fin 32 := Fin.ofNat 32 (16 * (i 0).val + (i 1).val + 1)

theorem cond1_iff : ∀ i : grid1.Coords, k1_cond1 i = 1#1 ↔ (i 1).val = 0 := by decide +kernel
theorem cond2_iff : ∀ i : grid1.Coords, k1_cond2 i = 1#1 ↔ (i 1).val + 1 < 16 := by decide +kernel
theorem off1_eq : ∀ i : grid1.Coords, k1_off1 i = ![(rq i).val] := by decide +kernel
theorem off2_eq : ∀ i : grid1.Coords, k1_off2 i = tOff (rq i) := by decide +kernel
theorem off3_eq : ∀ i : grid1.Coords, k1_off3 i = eOff (rq i) := by decide +kernel
theorem off4_eq : ∀ i : grid1.Coords, k1_off4 i = semOff (jN i) := by decide +kernel
theorem off5_eq : ∀ i : grid1.Coords, k1_off5 i = slotOff (jN i) := by decide +kernel
theorem off7_eq : ∀ i : grid1.Coords, k1_off7 i = slotOff (jN i) := by decide +kernel
theorem off6_eq : ∀ i : grid1.Coords, (i 1).val + 1 < 16 → k1_off6 i = tOff (rqn i) := by decide +kernel
theorem off8_eq : ∀ i : grid1.Coords, (i 1).val + 1 < 16 → k1_off8 i = eOff (rqn i) := by decide +kernel
theorem off9_eq : ∀ i : grid1.Coords, k1_off9 i = semOff (jS i) := by decide +kernel
theorem off10_eq : ∀ i : grid1.Coords, k1_off10 i = slotOff (jS i) := by decide +kernel
theorem off12_eq : ∀ i : grid1.Coords, k1_off12 i = slotOff (jS i) := by decide +kernel
theorem off11_eq : ∀ i : grid1.Coords, k1_off11 i = tOff (rq i) := by decide +kernel
theorem off13_eq : ∀ i : grid1.Coords, k1_off13 i = eOff (rq i) := by decide +kernel
theorem off14_0 : ∀ i : grid1.Coords, k1_off14 i 0 = (jS i).val := by decide +kernel
theorem off112_0 : ∀ i : grid1.Coords, k1_off112 i 0 = (jS i).val := by decide +kernel

instance (i : grid1.Coords) (o : Nat) : ClosedOff (![k1_off14 i 0, 0, o] : Fin 3 → Nat) := ⟨![(jS i).val, 0, o], by rw [off14_0]⟩
instance (i : grid1.Coords) (o : Nat) : ClosedOff (![k1_off112 i 0, 0, o] : Fin 3 → Nat) := ⟨![(jS i).val, 0, o], by rw [off112_0]⟩

/-! ## The names of the body's slices -/

private theorem tsm_congr {off : Fin 1 → Nat} {s : Fin 2} (e : off = semOff s) (hh) :
    (cc1_scratch4.slice (Rect.unit (s := S2) off S1.size hh)).squeeze S_ squeezes_S1_S_ = tsm s :=
  congrArg (fun A : DmaSems sig S1 => A.squeeze S_ squeezes_S1_S_) (SemArray.slice_unit_congr _ e _ _)
private theorem esm_congr {off : Fin 1 → Nat} {s : Fin 2} (e : off = semOff s) (hh) :
    (cc1_scratch5.slice (Rect.unit (s := S2) off S1.size hh)).squeeze S_ squeezes_S1_S_ = esm s :=
  congrArg (fun A : DmaSems sig S1 => A.squeeze S_ squeezes_S1_S_) (SemArray.slice_unit_congr _ e _ _)
private theorem tslot_congr {off : Fin 3 → Nat} {s : Fin 2} (e : off = slotOff s) (hh hs) :
    (tbufM.slice (Rect.unit (s := S2x16x100000) off S1x16x100000.size hh) hs).squeeze S16x100000 squeezes_S1x16x100000_S16x100000 = tslot s :=
  congrArg (fun M : Memref sig .tc .vmem S1x16x100000 .f32 => M.squeeze S16x100000 squeezes_S1x16x100000_S16x100000) (Memref.slice_unit_congr _ e _ _ _ _)
private theorem eslot_congr {off : Fin 3 → Nat} {s : Fin 2} (e : off = slotOff s) (hh hs) :
    (ebufM.slice (Rect.unit (s := S2x8x100000) off S1x8x100000.size hh) hs).squeeze S8x100000 squeezes_S1x8x100000_S8x100000 = eslot s :=
  congrArg (fun M : Memref sig .tc .vmem S1x8x100000 .f32 => M.squeeze S8x100000 squeezes_S1x8x100000_S8x100000) (Memref.slice_unit_congr _ e _ _ _ _)
private theorem tgrp_congr {off : Fin 2 → Nat} {b : Fin 32} (e : off = tOff b) (hh hs) :
    tgtM.slice (Rect.unit (s := S288x100000) off S16x100000.size hh) hs = tgrp b := Memref.slice_unit_congr _ e _ _ _ (fun _ => rfl)
private theorem egrp_congr {off : Fin 2 → Nat} {b : Fin 32} (e : off = eOff b) (hh hs) :
    edM.slice (Rect.unit (s := S256x100000) off S8x100000.size hh) hs = egrp b := Memref.slice_unit_congr _ e _ _ _ (fun _ => rfl)

section
variable (i : grid1.Coords)
@[sl_canon] theorem tsm0 (hh) : (cc1_scratch4.slice (Rect.unit (s := S2) ![0] S1.size hh)).squeeze S_ squeezes_S1_S_ = tsm 0 := tsm_congr (by decide) _
@[sl_canon] theorem esm0 (hh) : (cc1_scratch5.slice (Rect.unit (s := S2) ![0] S1.size hh)).squeeze S_ squeezes_S1_S_ = esm 0 := esm_congr (by decide) _
@[sl_canon] theorem tsm4 (hh) : (cc1_scratch4.slice (Rect.unit (s := S2) (k1_off4 i) S1.size hh)).squeeze S_ squeezes_S1_S_ = tsm (jN i) := tsm_congr (off4_eq i) _
@[sl_canon] theorem esm4 (hh) : (cc1_scratch5.slice (Rect.unit (s := S2) (k1_off4 i) S1.size hh)).squeeze S_ squeezes_S1_S_ = esm (jN i) := esm_congr (off4_eq i) _
@[sl_canon] theorem tsm9 (hh) : (cc1_scratch4.slice (Rect.unit (s := S2) (k1_off9 i) S1.size hh)).squeeze S_ squeezes_S1_S_ = tsm (jS i) := tsm_congr (off9_eq i) _
@[sl_canon] theorem esm9 (hh) : (cc1_scratch5.slice (Rect.unit (s := S2) (k1_off9 i) S1.size hh)).squeeze S_ squeezes_S1_S_ = esm (jS i) := esm_congr (off9_eq i) _
@[sl_canon] theorem tsl0 (hh hs) : (tbufM.slice (Rect.unit (s := S2x16x100000) ![0, 0, 0] S1x16x100000.size hh) hs).squeeze S16x100000 squeezes_S1x16x100000_S16x100000 = tslot 0 := tslot_congr (by decide) _ _
@[sl_canon] theorem tsl5 (hh hs) : (tbufM.slice (Rect.unit (s := S2x16x100000) (k1_off5 i) S1x16x100000.size hh) hs).squeeze S16x100000 squeezes_S1x16x100000_S16x100000 = tslot (jN i) := tslot_congr (off5_eq i) _ _
@[sl_canon] theorem tsl10 (hh hs) : (tbufM.slice (Rect.unit (s := S2x16x100000) (k1_off10 i) S1x16x100000.size hh) hs).squeeze S16x100000 squeezes_S1x16x100000_S16x100000 = tslot (jS i) := tslot_congr (off10_eq i) _ _
@[sl_canon] theorem esl0 (hh hs) : (ebufM.slice (Rect.unit (s := S2x8x100000) ![0, 0, 0] S1x8x100000.size hh) hs).squeeze S8x100000 squeezes_S1x8x100000_S8x100000 = eslot 0 := eslot_congr (by decide) _ _
@[sl_canon] theorem esl7 (hh hs) : (ebufM.slice (Rect.unit (s := S2x8x100000) (k1_off7 i) S1x8x100000.size hh) hs).squeeze S8x100000 squeezes_S1x8x100000_S8x100000 = eslot (jN i) := eslot_congr (off7_eq i) _ _
@[sl_canon] theorem esl12 (hh hs) : (ebufM.slice (Rect.unit (s := S2x8x100000) (k1_off12 i) S1x8x100000.size hh) hs).squeeze S8x100000 squeezes_S1x8x100000_S8x100000 = eslot (jS i) := eslot_congr (off12_eq i) _ _
@[sl_canon] theorem tg2 (hh hs) : tgtM.slice (Rect.unit (s := S288x100000) (k1_off2 i) S16x100000.size hh) hs = tgrp (rq i) := tgrp_congr (off2_eq i) _ _
@[sl_canon] theorem tg11 (hh hs) : tgtM.slice (Rect.unit (s := S288x100000) (k1_off11 i) S16x100000.size hh) hs = tgrp (rq i) := tgrp_congr (off11_eq i) _ _
@[sl_canon] theorem tg6 (h : (i 1).val + 1 < 16) (hh hs) : tgtM.slice (Rect.unit (s := S288x100000) (k1_off6 i) S16x100000.size hh) hs = tgrp (rqn i) := tgrp_congr (off6_eq i h) _ _
@[sl_canon] theorem eg3 (hh hs) : edM.slice (Rect.unit (s := S256x100000) (k1_off3 i) S8x100000.size hh) hs = egrp (rq i) := egrp_congr (off3_eq i) _ _
@[sl_canon] theorem eg13 (hh hs) : edM.slice (Rect.unit (s := S256x100000) (k1_off13 i) S8x100000.size hh) hs = egrp (rq i) := egrp_congr (off13_eq i) _ _
@[sl_canon] theorem eg8 (h : (i 1).val + 1 < 16) (hh hs) : edM.slice (Rect.unit (s := S256x100000) (k1_off8 i) S8x100000.size hh) hs = egrp (rqn i) := egrp_congr (off8_eq i h) _ _
end

abbrev Bf (c : Dev nD) {sp : Space} {S : Shape} {e : EltTy} (M : Memref sig .tc sp S e) : Type := Buf (Elt F) (M.view.loc (c : Thread nD τ))
/-- A memref held on the elements it names. -/
abbrev pt (c : Dev nD) {sp : Space} {S : Shape} {e : EltTy} (M : Memref sig .tc sp S e) (f : Bf (F := F) c M) : sProp 𝕄 :=
  M.view.loc (c : Thread nD τ) ↦[M.view.set]{fullShare} f

theorem tslot_set (s : Fin 2) : (tslot s).view.set = (Rect.unit (s := S2x16x100000) (slotOff s) S1x16x100000.size (slotOff_inbT s)).set :=
  (View.set_reshape _ _).trans (View.set_slice_whole _ _)
theorem eslot_set (s : Fin 2) : (eslot s).view.set = (Rect.unit (s := S2x8x100000) (slotOff s) S1x8x100000.size (slotOff_inbE s)).set :=
  (View.set_reshape _ _).trans (View.set_slice_whole _ _)

theorem accT_sub (i : grid1.Coords) {o : Nat} (h : o + 1024 ≤ 100000) :
    (tbufM.access (Rect.unit (s := S2x16x100000) ![k1_off14 i 0, 0, o] S1x16x1024.size (inbT i h))).set ⊆ (tslot (jS i)).view.set := by
  rw [tslot_set]
  refine (subset_of_eq (View.set_slice_whole _ _)).trans ?_
  intro y hy
  rw [Rect.mem_set_unit] at hy ⊢
  have h0 : k1_off14 i 0 ≤ (y 0).val ∧ (y 0).val < k1_off14 i 0 + 1 := hy 0
  have h1 : (y 1).val < 16 := (y 1).isLt
  have h2 : (y 2).val < 100000 := (y 2).isLt
  intro a
  fin_cases a
  · exact ⟨(off14_0 i).symm.le.trans h0.1, lt_of_lt_of_eq h0.2 (congrArg (· + 1) (off14_0 i))⟩
  · show 0 ≤ (y 1).val ∧ (y 1).val < 0 + 16; omega
  · show 0 ≤ (y 2).val ∧ (y 2).val < 0 + 100000; omega

theorem accE_sub (i : grid1.Coords) {o : Nat} (h : o + 1024 ≤ 100000) :
    (ebufM.access (Rect.unit (s := S2x8x100000) ![k1_off112 i 0, 0, o] S1x8x1024.size (inbE i h))).set ⊆ (eslot (jS i)).view.set := by
  rw [eslot_set]
  refine (subset_of_eq (View.set_slice_whole _ _)).trans ?_
  intro y hy
  rw [Rect.mem_set_unit] at hy ⊢
  have h0 : k1_off112 i 0 ≤ (y 0).val ∧ (y 0).val < k1_off112 i 0 + 1 := hy 0
  have h1 : (y 1).val < 8 := (y 1).isLt
  have h2 : (y 2).val < 100000 := (y 2).isLt
  intro a
  fin_cases a
  · exact ⟨(off112_0 i).symm.le.trans h0.1, lt_of_lt_of_eq h0.2 (congrArg (· + 1) (off112_0 i))⟩
  · show 0 ≤ (y 1).val ∧ (y 1).val < 0 + 8; omega
  · show 0 ≤ (y 2).val ∧ (y 2).val < 0 + 100000; omega

/-- The half of a buffer's share that the copies into slot `s` read through. -/
def hs (s : Fin 2) : PosShare TreeShare := if s = 0 then fullShare.left else fullShare.right

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- A buffer held whole is its two halves, one for each slot. -/
theorem halves {ℓ : Loc nD τ sig} (f : Buf (Elt F) ℓ) :
    (ℓ ↦{fullShare} f : sProp 𝕄) ⊣⊢ iprop((ℓ ↦{hs 0} f) ∗ (ℓ ↦{hs 1} f)) :=
  pointsTo_share (PosShare.mem_left_op_right fullShare)

end Cert.KernelIdeal.Proof
-- ==== Proof.Pass.lean ====
module

public import proofs.«01_k».proof.Proof.Names
public import Idealize.ShloMosaic.Lib.WritesUnit
public import Idealize.ShloMosaic.Lib.Pointwise

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Windows of the tables -/

/-- Columns `o … o + 1023` of an eight-row table. -/
def win8 {α : Type} (o : Nat) (h : o + 1024 ≤ 100000) (x : S8x100000.Idx → α) : S8x1024.Idx → α :=
  fun y => x ((Rect.unit (s := S8x100000) ![0, o] S8x1024.size (inb8 h)).toLoadRect.idx y)
/-- Columns `o … o + 1023` of a one-row table. -/
def win1 {α : Type} (o : Nat) (h : o + 1024 ≤ 100000) (x : S1x100000.Idx → α) : S1x1024.Idx → α :=
  fun y => x ((Rect.unit (s := S1x100000) ![0, o] S1x1024.size (inb1 h)).toLoadRect.idx y)

/-- The sixteen rows fetched, turned so that the request's first row is row 0. -/
def rowsT (v81 : BitVec 32) (T : Vec F S16x100000 .f32) : FVec F S8x100000 .f32 :=
  fun y => T (ix2 ⟨((y 0).val + 16 - v81.toNat % 16) % 16, Nat.mod_lt _ (by decide)⟩ (y 1))
/-- What the first pass leaves: the exponentials of the request's target rows. -/
def etTab (v3 : Elt F .f32) (v81 : BitVec 32) (T : Vec F S16x100000 .f32) : FVec F S8x100000 .f32 :=
  exp (divf (rowsT v81 T) (broadcast S8x100000 v3))
/-- What the first pass leaves: the request's exponential draws. -/
def qTab (v92 : BitVec 32) (U : Vec F S8x100000 .f32) : FVec F S1x100000 .f32 :=
  subf (broadcast S1x100000 (Scalar.ofBits .f32 0x00000000#32 : F .f32))
    (log (fun y => U (ix2 ⟨((y 0).val + 8 - v92.toNat % 8) % 8, Nat.mod_lt _ (by decide)⟩ (y 1)) : FVec F S1x100000 .f32))

theorem castT : S1x16x100000.ShapeCasts S16x100000 := by decide
theorem castE : S1x8x100000.ShapeCasts S8x100000 := by decide

theorem qOf_win (v92 : BitVec 32) (o : Nat) (h : o + 1024 ≤ 100000) (U : Vec F S8x100000 .f32) :
    qOf v92 (win8 o h U) = win1 o h (qTab v92 U) := by
  funext y
  refine congrArg (FloatOps.subf _) (congrArg FloatOps.log ?_)
  pointwise
  show U _ = U _
  refine congrArg U ?_
  funext a; apply Fin.ext; fin_cases a
  · show 0 + 1 * _ = _; rw [Nat.zero_add, Nat.one_mul]; rfl
  · show o + 1 * _ = _; rw [Nat.one_mul]; rfl

theorem etOf_win (v3 : Elt F .f32) (v81 : BitVec 32) (i : grid1.Coords) (c : Dev nD) (o : Nat) (h : o + 1024 ≤ 100000) (fT : Bf (F := F) c (tslot (jS i))) :
    etOf v3 v81 (tbufM.view.readAt (Elt F) (Rect.unit (s := S2x16x100000) ![k1_off14 i 0, 0, o] S1x16x1024.size (inbT i h)).toLoadRect fT)
      = win8 o h (etTab v3 v81 ((tslot (jS i)).view.read (Elt F) fT)) := by
  funext y
  refine congrArg FloatOps.exp (congrArg₂ FloatOps.divf ?_ rfl)
  simp only [rowsT]
  pointwise
  have e : ∀ y, (tslot (jS i)).view.read (Elt F) fT y = shapeCast S16x100000 (tbufM.view.readAt (Elt F) (Rect.unit (s := S2x16x100000) (slotOff (jS i)) S1x16x100000.size (slotOff_inbT (jS i))).toLoadRect fT) castT y := fun _ => rfl
  refine .trans ?_ ((e _).trans (shapeCast_dropUnit_apply ![16, 100000] _ castT _)).symm
  show View.read (Elt F) (View.whole cc1_scratch0) fT _ = View.read (Elt F) (View.whole cc1_scratch0) fT _
  refine congrArg (View.read (Elt F) (View.whole cc1_scratch0) fT) ?_
  funext a; apply Fin.ext; fin_cases a
  · exact congrArg (· + 1 * 0) (off14_0 i)
  · rfl
  · show o + 1 * (y 1).val = 0 + 1 * (o + (y 1).val); omega

/-- The window of the draft rows a load of the second pass reads. -/
theorem ed8_win (i : grid1.Coords) (c : Dev nD) (o : Nat) (h : o + 1024 ≤ 100000) (fE : Bf (F := F) c (eslot (jS i))) :
    ed8 (ebufM.view.readAt (Elt F) (Rect.unit (s := S2x8x100000) ![k1_off112 i 0, 0, o] S1x8x1024.size (inbE i h)).toLoadRect fE)
      = win8 o h ((eslot (jS i)).view.read (Elt F) fE) := by
  funext y
  simp only [ed8, win8]
  pointwise
  have e : ∀ y, (eslot (jS i)).view.read (Elt F) fE y = shapeCast S8x100000 (ebufM.view.readAt (Elt F) (Rect.unit (s := S2x8x100000) (slotOff (jS i)) S1x8x100000.size (slotOff_inbE (jS i))).toLoadRect fE) castE y := fun _ => rfl
  refine .trans ?_ ((e _).trans (shapeCast_dropUnit_apply ![8, 100000] _ castE _)).symm
  show View.read (Elt F) (View.whole cc1_scratch1) fE _ = View.read (Elt F) (View.whole cc1_scratch1) fE _
  refine congrArg (View.read (Elt F) (View.whole cc1_scratch1) fE) ?_
  funext a; apply Fin.ext; fin_cases a
  · exact congrArg (· + 1 * 0) (off112_0 i)
  · rfl
  · show o + 1 * (y 1).val = 0 + 1 * (o + (y 1).val); omega

/-! ## The first pass -/

/-- The first `n` columns of the exponentials' buffer are the table's. -/
def doneE {c : Dev nD} (n : Nat) (X : FVec F S8x100000 .f32) (f : Bf (F := F) c etM) : Prop :=
  ∀ y : S8x100000.Idx, (y 1).val < n → etM.view.read (Elt F) f y = X y
/-- The first `n` columns of the draws' buffer are the table's. -/
def doneQ {c : Dev nD} (n : Nat) (X : FVec F S1x100000 .f32) (f : Bf (F := F) c qM) : Prop :=
  ∀ y : S1x100000.Idx, (y 1).val < n → qM.view.read (Elt F) f y = X y

theorem doneE_step {c : Dev nD} {n o : Nat} (hn : o ≤ n) (h : o + 1024 ≤ 100000) {X : FVec F S8x100000 .f32} {f : Bf (F := F) c etM} (hf : doneE n X f) :
    doneE (c := c) (o + 1024) X (etM.view.writes (Elt F) f [⟨Rect.unit (s := S8x100000) ![0, o] S8x1024.size (inb8 h), shapeCast S8x1024 (win8 o h X) shapeCasts_S8x1024_S8x1024⟩]) := by
  intro y hy
  by_cases hl : o ≤ (y 1).val
  · rw [View.read_writes_cons_unit_of_mem etM.view f (inb8 h) _ [] y (ix2 (y 0) ⟨(y 1).val - o, by omega⟩) rfl (by
      intro a; fin_cases a
      · exact (Nat.zero_add _).symm
      · show (y 1).val = o + ((y 1).val - o); omega), shapeCast_self]
    refine congrArg X ?_
    funext a; apply Fin.ext; fin_cases a
    · show 0 + 1 * (y 0).val = (y 0).val; omega
    · show o + 1 * ((y 1).val - o) = (y 1).val; omega
  · rw [View.read_writes_cons_unit_of_not_mem etM.view f (inb8 h) _ [] y rfl 1 (.inl (by show (y 1).val < o; omega))]
    exact hf y (by omega)

theorem doneQ_step {c : Dev nD} {n o : Nat} (hn : o ≤ n) (h : o + 1024 ≤ 100000) {X : FVec F S1x100000 .f32} {f : Bf (F := F) c qM} (hf : doneQ n X f) :
    doneQ (c := c) (o + 1024) X (qM.view.writes (Elt F) f [⟨Rect.unit (s := S1x100000) ![0, o] S1x1024.size (inb1 h), shapeCast S1x1024 (win1 o h X) shapeCasts_S1x1024_S1x1024⟩]) := by
  intro y hy
  by_cases hl : o ≤ (y 1).val
  · rw [View.read_writes_cons_unit_of_mem qM.view f (inb1 h) _ [] y (ix2 (y 0) ⟨(y 1).val - o, by omega⟩) rfl (by
      intro a; fin_cases a
      · exact (Nat.zero_add _).symm
      · show (y 1).val = o + ((y 1).val - o); omega), shapeCast_self]
    refine congrArg X ?_
    funext a; apply Fin.ext; fin_cases a
    · show 0 + 1 * (y 0).val = (y 0).val; omega
    · show o + 1 * ((y 1).val - o) = (y 1).val; omega
  · rw [View.read_writes_cons_unit_of_not_mem qM.view f (inb1 h) _ [] y rfl 1 (.inl (by show (y 1).val < o; omega))]
    exact hf y (by omega)

theorem doneE_win {c : Dev nD} {o : Nat} (h : o + 1024 ≤ 100000) {X : FVec F S8x100000 .f32} {f : Bf (F := F) c etM} (hf : doneE 100000 X f) :
    etM.view.readAt (Elt F) (Rect.unit (s := S8x100000) ![0, o] S8x1024.size (inb8 h)).toLoadRect f = win8 o h X :=
  funext fun y => hf _ (Fin.isLt _)
theorem doneQ_win {c : Dev nD} {o : Nat} (h : o + 1024 ≤ 100000) {X : FVec F S1x100000 .f32} {f : Bf (F := F) c qM} (hf : doneQ 100000 X f) :
    qM.view.readAt (Elt F) (Rect.unit (s := S1x100000) ![0, o] S1x1024.size (inb1 h)).toLoadRect f = win1 o h X :=
  funext fun y => hf _ (Fin.isLt _)

section Run
variable (c : Dev nD) (i : grid1.Coords) (M6 : Memref sig .tc .vmem S8x100000 .f32)

theorem chunkA_spec (v3 : Elt F .f32) (v81 v92 : BitVec 32) (n o : Nat) (hn : o ≤ n) (h : o + 1024 ≤ 100000)
    (f6 : Bf (F := F) c M6) (fT : Bf (F := F) c (tslot (jS i))) (fe : Bf (F := F) c etM) (fq : Bf (F := F) c qM)
    (he : doneE n (etTab v3 v81 ((tslot (jS i)).view.read (Elt F) fT)) fe) (hq : doneQ n (qTab v92 (M6.view.read (Elt F) f6)) fq)
    (Q : FVec F S8x1024 .f32 → sProp 𝕄) :
    iprop(pt c M6 f6 ∗ pt c (tslot (jS i)) fT ∗ pt c etM fe ∗ pt c qM fq
        ∗ (∀ fe' fq', iprop(⌜doneE (c := c) (o + 1024) (etTab v3 v81 ((tslot (jS i)).view.read (Elt F) fT)) fe' ∧ doneQ (c := c) (o + 1024) (qTab v92 (M6.view.read (Elt F) f6)) fq'⌝
            ∗ pt c M6 f6 ∗ pt c (tslot (jS i)) fT ∗ pt c etM fe' ∗ pt c qM fq')
          -∗ Q (win8 o h (etTab v3 v81 ((tslot (jS i)).view.read (Elt F) fT)))))
      ⊢ wp frame (wpE (defs₀ (F := F)) 𝒱₀ (c : Thread nD τ) none) Set.univ (chunkA i M6 tbufM etM qM v3 v81 v92 o h) Q := by
  iintro ⟨H6, HT, He, Hq, Hk⟩
  unfold chunkA
  have hs := accT_sub i h
  sl_exec
  sl_step
  have ex : etOf v3 v81 (chunkA_spec.sl.x c i o h fT) = win8 o h (etTab v3 v81 ((tslot (jS i)).view.read (Elt F) fT)) := etOf_win v3 v81 i c o h fT
  rw [ex]
  iapply Hk
  isplitr
  · ipureintro
    exact ⟨doneE_step hn h he, by
      have := doneQ_step hn h hq
      rw [← qOf_win v92 o h] at this
      exact this⟩
  isplitl [H6]; · iexact H6
  isplitl [HT]; · iexact HT
  isplitl [He]; · iexact He
  iexact Hq

/-- The row sums accumulated over the chunks from column `o` on. -/
def foldA (X : FVec F S8x100000 .f32) : (n o : Nat) → (h : o + n * 1024 ≤ 99328) → FVec F S8x1024 .f32 → FVec F S8x1024 .f32
  | 0, _, _, acc => acc
  | n + 1, o, h, acc => foldA X n (o + 1024) (by omega) (addf acc (win8 o (by omega) X))

theorem loopA_spec (v3 : Elt F .f32) (v81 v92 : BitVec 32) (f6 : Bf (F := F) c M6) (fT : Bf (F := F) c (tslot (jS i))) (Q : FVec F S8x1024 .f32 → sProp 𝕄) :
    ∀ (n o : Nat) (h : o + n * 1024 ≤ 99328) (acc : FVec F S8x1024 .f32) (fe : Bf (F := F) c etM) (fq : Bf (F := F) c qM)
    (he : doneE o (etTab v3 v81 ((tslot (jS i)).view.read (Elt F) fT)) fe) (hq : doneQ o (qTab v92 (M6.view.read (Elt F) f6)) fq),
    iprop(pt c M6 f6 ∗ pt c (tslot (jS i)) fT ∗ pt c etM fe ∗ pt c qM fq
        ∗ (∀ fe' fq', iprop(⌜doneE (c := c) (o + n * 1024) (etTab v3 v81 ((tslot (jS i)).view.read (Elt F) fT)) fe' ∧ doneQ (c := c) (o + n * 1024) (qTab v92 (M6.view.read (Elt F) f6)) fq'⌝
            ∗ pt c M6 f6 ∗ pt c (tslot (jS i)) fT ∗ pt c etM fe' ∗ pt c qM fq')
          -∗ Q (foldA (etTab v3 v81 ((tslot (jS i)).view.read (Elt F) fT)) n o h acc)))
      ⊢ wp frame (wpE (defs₀ (F := F)) 𝒱₀ (c : Thread nD τ) none) Set.univ (loopA i M6 tbufM etM qM v3 v81 v92 n o h acc) Q := by
  intro n
  induction n with
  | zero =>
    intro o h acc fe fq he hq
    rw [loopA, foldA, wp_pure]
    iintro ⟨H6, HT, He, Hq, Hk⟩
    imodintro
    iapply Hk
    isplitr
    · ipureintro
      rw [Nat.zero_mul, Nat.add_zero]
      exact ⟨he, hq⟩
    isplitl [H6]; · iexact H6
    isplitl [HT]; · iexact HT
    isplitl [He]; · iexact He
    iexact Hq
  | succ n ih =>
    intro o h acc fe fq he hq
    rw [loopA, foldA, wp_bind]
    refine .trans ?_ (chunkA_spec c i M6 v3 v81 v92 o o le_rfl (by omega) f6 fT fe fq he hq _)
    iintro ⟨H6, HT, He, Hq, Hk⟩
    isplitl [H6]; · iexact H6
    isplitl [HT]; · iexact HT
    isplitl [He]; · iexact He
    isplitl [Hq]; · iexact Hq
    iintro %fe' %fq' ⟨%hh, H6, HT, He, Hq⟩
    iapply (ih (o + 1024) _ _ fe' fq' hh.1 hh.2)
    isplitl [H6]; · iexact H6
    isplitl [HT]; · iexact HT
    isplitl [He]; · iexact He
    isplitl [Hq]; · iexact Hq
    rw [show o + 1024 + n * 1024 = o + (n + 1) * 1024 from by omega]
    iexact Hk

end Run

end Cert.KernelIdeal.Proof
-- ==== Proof.LoopA.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.LoopT
public import Idealize.ShloMosaic.Lib.Ring
public import Idealize.ShloMosaic.Lib.Affine
public import Idealize.ShloMosaic.Lib.Tactic

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local irreducible] late

/-- A rotation amount as the body computes it: `x mod c`, the modulus of the host language. -/
def rotOf (x c : BitVec 32) : BitVec 32 :=
  let v72 : BitVec 1 := Scalar.cmpi .eq c 0#32
  let v73 : BitVec 32 := Scalar.select v72 1#32 c
  let v74 : BitVec 32 := Scalar.remsi x v73
  let v75 : BitVec 1 := Scalar.cmpi .ne v74 0#32
  let v76 : BitVec 1 := Scalar.cmpi .slt v74 0#32
  let v77 : BitVec 1 := Scalar.cmpi .slt v73 0#32
  let v78 : BitVec 1 := Scalar.xori v76 v77
  let v79 : BitVec 1 := Scalar.andi v78 v75
  let v80 : BitVec 32 := Scalar.addi v74 v73
  Scalar.select v79 v80 v74

/-- The body after its waits, with the two passes as loops. -/
def tail (i : grid1.Coords) (arg3 : Memref sig .tc .smem S32 .i32) (arg6 : Memref sig .tc .vmem S8x100000 .f32) (arg7 : Memref sig .tc .vmem S1x16x1 .i32) (arg8 : Memref sig .tc .vmem S1x8x1 .f32) (arg9 : Memref sig .tc .vmem S8x1 .f32) (arg10 : Memref sig .tc .vmem S1x16x1 .i32)
    (arg11 : Memref sig .tc .vmem S2x16x100000 .f32) (arg12 : Memref sig .tc .vmem S2x8x100000 .f32) (arg13 : Memref sig .tc .vmem S8x100000 .f32) (arg14 : Memref sig .tc .vmem S1x100000 .f32)
    (v3 : Elt F .f32) (v81 v92 : BitVec 32) : PG F PUnit := do
  let st ← passA i arg6 arg11 arg13 arg14 v3 v81 v92 (iota .tc S1x1024 32 [1] iota_S1x1024_d1_w32)
  let dd : Vec F S1x16x1 .i32 ← Prog.lift (.load arg7 (Rect.unit (s := S1x16x1) ![0, 0, 0] S1x16x1.size inb_S1x16x1_S1x16x1_0_0_0).toLoadRect (View.loadsAt_vmem h_S1x16x1))
  let sd : Vec F S8x1 .f32 ← Prog.lift (.load arg9 (Rect.unit (s := S8x1) ![0, 0] S8x1.size inb_S8x1_S8x1_0_0).toLoadRect (View.loadsAt_vmem h_S8x1))
  let r ← loadsB i arg12 arg13 arg14 0 (by omega)
  let a ← passB i arg12 arg13 arg14 (iota .tc S1x1024 32 [1] iota_S1x1024_d1_w32) (k1_pay378 (F := F) dd)
    (divf (k1_pay379 sd) st)
    ⟨k1_pay381, k1_pay382, k1_pay383, k1_pay384⟩ r.1 (ed8 r.2.1) (scOf (divf (k1_pay379 sd) st) r.1 (ed8 r.2.1) r.2.2)
  finish i arg3 arg7 arg8 arg10 st (k1_pay379 sd) a

/-- The body's parts after its waits, as printed. -/
def early (i : grid1.Coords) (arg2 : Memref sig .tc .smem S32 .f32) (harg2 : arg2.IsWhole) (arg3 : Memref sig .tc .smem S32 .i32) (harg3 : arg3.IsWhole) (arg4 : Memref sig .tc .hbm S288x100000 .f32) (harg4 : arg4.IsWhole) (arg5 : Memref sig .tc .hbm S256x100000 .f32) (harg5 : arg5.IsWhole) (arg6 : Memref sig .tc .vmem S8x100000 .f32) (harg6 : arg6.IsWhole) (arg7 : Memref sig .tc .vmem S1x16x1 .i32) (harg7 : arg7.IsWhole) (arg8 : Memref sig .tc .vmem S1x8x1 .f32) (harg8 : arg8.IsWhole) (arg9 : Memref sig .tc .vmem S8x1 .f32) (harg9 : arg9.IsWhole) (arg10 : Memref sig .tc .vmem S1x16x1 .i32) (harg10 : arg10.IsWhole) (arg11 : Memref sig .tc .vmem S2x16x100000 .f32) (harg11 : arg11.IsWhole) (arg12 : Memref sig .tc .vmem S2x8x100000 .f32) (harg12 : arg12.IsWhole) (arg13 : Memref sig .tc .vmem S8x100000 .f32) (harg13 : arg13.IsWhole) (arg14 : Memref sig .tc .vmem S1x100000 .f32) (harg14 : arg14.IsWhole) (arg15 : DmaSems sig S2) (arg16 : DmaSems sig S2)
    (arg1 : BitVec 32) (v1 : BitVec 32) (v3 : Elt F .f32) (v70 : BitVec 32) (v71 : BitVec 32) (c16_i32_35 : BitVec 32) : PG F PUnit := do
  let ⟨v81, v92, v102, v103, v104, v109, v110⟩ : Σ' (v81 : BitVec 32) (v92 : BitVec 32) (v102 : BitVec 32) (v103 : IVec S1x1024 32) (v104 : FVec F S8x1024 .f32) (v109 : FVec F S8x1024 .f32), FVec F S8x1024 .f32 ← k1_part4 i arg2 harg2 arg3 harg3 arg4 harg4 arg5 harg5 arg6 harg6 arg7 harg7 arg8 harg8 arg9 harg9 arg10 harg10 arg11 harg11 arg12 harg12 arg13 harg13 arg14 harg14 arg15 arg16 arg1 v3 v70 v71 c16_i32_35
  let ⟨v137, v148⟩ : Σ' (v137 : FVec F S8x1024 .f32), Vec F S1x16x1024 .f32 ← k1_part5 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v104 v109 v110
  let v179 : FVec F S8x1024 .f32 ← k1_part6 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v137 v148
  let ⟨v221, v227⟩ : Σ' (v221 : FVec F S8x1024 .f32), FVec F S1x1024 .f32 ← k1_part7 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v179
  let ⟨v263, v267, cst_115⟩ : Σ' (v263 : FVec F S8x1024 .f32) (v267 : FVec F S1x1024 .f32), F .f32 ← k1_part8 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v221 v227
  let ⟨v305, v306⟩ : Σ' (v305 : FVec F S8x1024 .f32), Vec F S8x1024 .f32 ← k1_part9 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v263 v267 cst_115
  let ⟨v326, v343⟩ : Σ' (v326 : FVec F S8x1024 .f32), FVec F S8x1024 .f32 ← k1_part10 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v305 v306
  let ⟨v368, v385⟩ : Σ' (v368 : FVec F S8x1024 .f32), FVec F S8x1024 .f32 ← k1_part11 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v326 v343
  let ⟨v410, v424, v425⟩ : Σ' (v410 : FVec F S8x1024 .f32) (v424 : FVec F S8x1024 .f32), FVec F S8x1024 .f32 ← k1_part12 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v368 v385
  let ⟨v452, v463⟩ : Σ' (v452 : FVec F S8x1024 .f32), Vec F S1x16x1024 .f32 ← k1_part13 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v410 v424 v425
  let v494 : FVec F S8x1024 .f32 ← k1_part14 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v452 v463
  let ⟨v536, v542⟩ : Σ' (v536 : FVec F S8x1024 .f32), FVec F S1x1024 .f32 ← k1_part15 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v494
  let ⟨v578, v582, cst_235⟩ : Σ' (v578 : FVec F S8x1024 .f32) (v582 : FVec F S1x1024 .f32), F .f32 ← k1_part16 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v536 v542
  let ⟨v620, v621⟩ : Σ' (v620 : FVec F S8x1024 .f32), Vec F S8x1024 .f32 ← k1_part17 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v578 v582 cst_235
  let ⟨v641, v658⟩ : Σ' (v641 : FVec F S8x1024 .f32), FVec F S8x1024 .f32 ← k1_part18 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v620 v621
  let ⟨v683, v700⟩ : Σ' (v683 : FVec F S8x1024 .f32), FVec F S8x1024 .f32 ← k1_part19 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v641 v658
  let ⟨v725, v739, v740⟩ : Σ' (v725 : FVec F S8x1024 .f32) (v739 : FVec F S8x1024 .f32), FVec F S8x1024 .f32 ← k1_part20 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v683 v700
  let ⟨v767, v778⟩ : Σ' (v767 : FVec F S8x1024 .f32), Vec F S1x16x1024 .f32 ← k1_part21 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v725 v739 v740
  let v809 : FVec F S8x1024 .f32 ← k1_part22 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v767 v778
  let ⟨v851, v857⟩ : Σ' (v851 : FVec F S8x1024 .f32), FVec F S1x1024 .f32 ← k1_part23 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v809
  let ⟨v893, v897, cst_355⟩ : Σ' (v893 : FVec F S8x1024 .f32) (v897 : FVec F S1x1024 .f32), F .f32 ← k1_part24 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v851 v857
  let ⟨v935, v936⟩ : Σ' (v935 : FVec F S8x1024 .f32), Vec F S8x1024 .f32 ← k1_part25 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v893 v897 cst_355
  let ⟨v956, v973⟩ : Σ' (v956 : FVec F S8x1024 .f32), FVec F S8x1024 .f32 ← k1_part26 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v935 v936
  let ⟨v998, v1015⟩ : Σ' (v998 : FVec F S8x1024 .f32), FVec F S8x1024 .f32 ← k1_part27 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v956 v973
  let ⟨v1040, v1054, v1055⟩ : Σ' (v1040 : FVec F S8x1024 .f32) (v1054 : FVec F S8x1024 .f32), FVec F S8x1024 .f32 ← k1_part28 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v998 v1015
  let ⟨v1082, v1093⟩ : Σ' (v1082 : FVec F S8x1024 .f32), Vec F S1x16x1024 .f32 ← k1_part29 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1040 v1054 v1055
  let v1124 : FVec F S8x1024 .f32 ← k1_part30 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1082 v1093
  let ⟨v1166, v1172⟩ : Σ' (v1166 : FVec F S8x1024 .f32), FVec F S1x1024 .f32 ← k1_part31 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1124
  let ⟨v1208, v1212, cst_475⟩ : Σ' (v1208 : FVec F S8x1024 .f32) (v1212 : FVec F S1x1024 .f32), F .f32 ← k1_part32 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1166 v1172
  let ⟨v1250, v1251⟩ : Σ' (v1250 : FVec F S8x1024 .f32), Vec F S8x1024 .f32 ← k1_part33 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1208 v1212 cst_475
  let ⟨v1271, v1288⟩ : Σ' (v1271 : FVec F S8x1024 .f32), FVec F S8x1024 .f32 ← k1_part34 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1250 v1251
  let ⟨v1313, v1330⟩ : Σ' (v1313 : FVec F S8x1024 .f32), FVec F S8x1024 .f32 ← k1_part35 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1271 v1288
  let ⟨v1355, v1369, v1370⟩ : Σ' (v1355 : FVec F S8x1024 .f32) (v1369 : FVec F S8x1024 .f32), FVec F S8x1024 .f32 ← k1_part36 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1313 v1330
  let ⟨v1397, v1408⟩ : Σ' (v1397 : FVec F S8x1024 .f32), Vec F S1x16x1024 .f32 ← k1_part37 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1355 v1369 v1370
  let v1439 : FVec F S8x1024 .f32 ← k1_part38 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1397 v1408
  let ⟨v1481, v1487⟩ : Σ' (v1481 : FVec F S8x1024 .f32), FVec F S1x1024 .f32 ← k1_part39 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1439
  let ⟨v1523, v1527, cst_595⟩ : Σ' (v1523 : FVec F S8x1024 .f32) (v1527 : FVec F S1x1024 .f32), F .f32 ← k1_part40 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1481 v1487
  let ⟨v1565, v1566⟩ : Σ' (v1565 : FVec F S8x1024 .f32), Vec F S8x1024 .f32 ← k1_part41 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1523 v1527 cst_595
  let ⟨v1586, v1603⟩ : Σ' (v1586 : FVec F S8x1024 .f32), FVec F S8x1024 .f32 ← k1_part42 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1565 v1566
  let ⟨v1628, v1645⟩ : Σ' (v1628 : FVec F S8x1024 .f32), FVec F S8x1024 .f32 ← k1_part43 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1586 v1603
  let ⟨v1670, v1684, v1685⟩ : Σ' (v1670 : FVec F S8x1024 .f32) (v1684 : FVec F S8x1024 .f32), FVec F S8x1024 .f32 ← k1_part44 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1628 v1645
  let ⟨v1712, v1723⟩ : Σ' (v1712 : FVec F S8x1024 .f32), Vec F S1x16x1024 .f32 ← k1_part45 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1670 v1684 v1685
  let v1754 : FVec F S8x1024 .f32 ← k1_part46 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1712 v1723
  let ⟨v1796, v1802⟩ : Σ' (v1796 : FVec F S8x1024 .f32), FVec F S1x1024 .f32 ← k1_part47 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1754
  let ⟨v1838, v1842, cst_715⟩ : Σ' (v1838 : FVec F S8x1024 .f32) (v1842 : FVec F S1x1024 .f32), F .f32 ← k1_part48 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1796 v1802
  let ⟨v1880, v1881⟩ : Σ' (v1880 : FVec F S8x1024 .f32), Vec F S8x1024 .f32 ← k1_part49 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1838 v1842 cst_715
  let ⟨v1901, v1918⟩ : Σ' (v1901 : FVec F S8x1024 .f32), FVec F S8x1024 .f32 ← k1_part50 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1880 v1881
  let ⟨v1943, v1960⟩ : Σ' (v1943 : FVec F S8x1024 .f32), FVec F S8x1024 .f32 ← k1_part51 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1901 v1918
  let ⟨v1985, v1999, v2000⟩ : Σ' (v1985 : FVec F S8x1024 .f32) (v1999 : FVec F S8x1024 .f32), FVec F S8x1024 .f32 ← k1_part52 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1943 v1960
  let ⟨v2027, v2038⟩ : Σ' (v2027 : FVec F S8x1024 .f32), Vec F S1x16x1024 .f32 ← k1_part53 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v1985 v1999 v2000
  let v2069 : FVec F S8x1024 .f32 ← k1_part54 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v2027 v2038
  let ⟨v2111, v2117⟩ : Σ' (v2111 : FVec F S8x1024 .f32), FVec F S1x1024 .f32 ← k1_part55 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v2069
  let ⟨v2132, v2149, cst_833, v2157⟩ : Σ' (v2132 : FVec F S8x1024 .f32) (v2149 : FVec F S8x1024 .f32) (cst_833 : F .f32), IVec S1x1024 1 ← k1_part56 i arg2 harg2 arg3 harg3 arg4 harg4 arg5 harg5 arg6 harg6 arg7 harg7 arg8 harg8 arg9 harg9 arg10 harg10 arg11 harg11 arg12 harg12 arg13 harg13 arg14 harg14 arg15 arg16 v3 v81 v92 v102 v103 v2111 v2117
  let ⟨v2172, v2175, v2177, v2178, v2179, v2180, v2181, v2182, v2183, v2186, v2194⟩ : Σ' (v2172 : FVec F S8x1 .f32) (v2175 : IVec S8x1 32) (v2177 : FVec F S8x1 .f32) (v2178 : FVec F S8x1 .f32) (v2179 : FVec F S8x1024 .f32) (v2180 : IVec S8x1024 32) (v2181 : FVec F S8x1024 .f32) (v2182 : FVec F S8x1024 .f32) (v2183 : Vec F S8x1024 .f32) (v2186 : FVec F S8x1024 .f32), FVec F S8x1024 .f32 ← k1_part57 i arg2 harg2 arg3 harg3 arg4 harg4 arg5 harg5 arg6 harg6 arg7 harg7 arg8 harg8 arg9 harg9 arg10 harg10 arg11 harg11 arg12 harg12 arg13 harg13 arg14 harg14 arg15 arg16 v92 v102 v2132 v2149 cst_833 v2157
  late i arg2 harg2 arg3 harg3 arg4 harg4 arg5 harg5 arg6 harg6 arg7 harg7 arg8 harg8 arg9 harg9 arg10 harg10 arg11 harg11 arg12 harg12 arg13 harg13 arg14 harg14 arg15 arg16 v1 v102 v103 v2172 v2175 v2177 v2178 v2179 v2180 v2181 v2182 v2183 v2186 v2194

set_option maxHeartbeats 0 in
theorem early_eq (i : grid1.Coords) (arg2 : Memref sig .tc .smem S32 .f32) (harg2 : arg2.IsWhole) (arg3 : Memref sig .tc .smem S32 .i32) (harg3 : arg3.IsWhole) (arg4 : Memref sig .tc .hbm S288x100000 .f32) (harg4 : arg4.IsWhole) (arg5 : Memref sig .tc .hbm S256x100000 .f32) (harg5 : arg5.IsWhole) (arg6 : Memref sig .tc .vmem S8x100000 .f32) (harg6 : arg6.IsWhole) (arg7 : Memref sig .tc .vmem S1x16x1 .i32) (harg7 : arg7.IsWhole) (arg8 : Memref sig .tc .vmem S1x8x1 .f32) (harg8 : arg8.IsWhole) (arg9 : Memref sig .tc .vmem S8x1 .f32) (harg9 : arg9.IsWhole) (arg10 : Memref sig .tc .vmem S1x16x1 .i32) (harg10 : arg10.IsWhole) (arg11 : Memref sig .tc .vmem S2x16x100000 .f32) (harg11 : arg11.IsWhole) (arg12 : Memref sig .tc .vmem S2x8x100000 .f32) (harg12 : arg12.IsWhole) (arg13 : Memref sig .tc .vmem S8x100000 .f32) (harg13 : arg13.IsWhole) (arg14 : Memref sig .tc .vmem S1x100000 .f32) (harg14 : arg14.IsWhole) (arg15 : DmaSems sig S2) (arg16 : DmaSems sig S2)
    (arg1 : BitVec 32) (v1 : BitVec 32) (v3 : Elt F .f32) (v70 : BitVec 32) (v71 : BitVec 32) (c16_i32_35 : BitVec 32) :
    early i arg2 harg2 arg3 harg3 arg4 harg4 arg5 harg5 arg6 harg6 arg7 harg7 arg8 harg8 arg9 harg9 arg10 harg10 arg11 harg11 arg12 harg12 arg13 harg13 arg14 harg14 arg15 arg16 arg1 v1 v3 v70 v71 c16_i32_35
      = tail i arg3 arg6 arg7 arg8 arg9 arg10 arg11 arg12 arg13 arg14 v3 (rotOf v71 c16_i32_35) (rotOf (Scalar.subi 8#32 v70) 8#32) := by
  iterate 593 refine op_congr _ fun _ => ?_
  exact late_eq i arg2 harg2 arg3 harg3 arg4 harg4 arg5 harg5 arg6 harg6 arg7 harg7 arg8 harg8 arg9 harg9 arg10 harg10 arg11 harg11 arg12 harg12 arg13 harg13 arg14 harg14 arg15 arg16 _ _ _ _ _ _ _ _ _ _ _ _ _ _

end Cert.KernelIdeal.Proof
-- ==== Proof.Walk.lean ====
module

public import proofs.«01_k».proof.Proof.Pass
public import proofs.«01_k».proof.Proof.LoopA
public import Idealize.ShloMosaic.Lib.VecWindow
public import Idealize.ShloMosaic.Lib.Pointwise

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the body computes from its operands, as pure functions -/

/-- The lane numbers. -/
abbrev lanes : IVec S1x1024 32 := iota .tc S1x1024 32 [1] iota_S1x1024_d1_w32

/-- The row sums of the table. -/
def stOf (X : FVec F S8x100000 .f32) : FVec F S8x1 .f32 :=
  shapeCast S8x1 (multiReduction .add [1] S8 (addf (foldA X 97 0 (by omega) (broadcast S8x1024 (Scalar.ofBits .f32 0x00000000#32 : F .f32))) (select (broadcastTo S8x1024 (shapeCast S1x1024 (newlo lanes) shapeCasts_S1x1024_S1x1024) broadcasts_S1x1024_S8x1024) (win8 98976 (by omega) X) (broadcast S8x1024 (Scalar.ofBits .f32 0x00000000#32 : F .f32)))) 0x00000000#32 reduces_S8x1024_S8 (.inl rfl) rfl) shapeCasts_S8_S8x1

/-- One step of the second pass, at column `o` of the tables. -/
def stepAt (X D : FVec F S8x100000 .f32) (q : FVec F S1x100000 .f32) (d8 : IVec S8x1 32) (cf : FVec F S8x1 .f32) (m : IVec S8x1024 1) (o : Nat) (h : o + 1024 ≤ 100000) (a : AccB F) : AccB F :=
  stepB lanes d8 m o a (win8 o h X) (win8 o h D) (scOf cf (win8 o h X) (win8 o h D) (win1 o h q))

/-- The second pass's chunks from column `o` on. -/
def foldB (X D : FVec F S8x100000 .f32) (q : FVec F S1x100000 .f32) (d8 : IVec S8x1 32) (cf : FVec F S8x1 .f32) : (n o : Nat) → (h : o + n * 1024 ≤ 99328) → AccB F → AccB F
  | 0, _, _, a => a
  | n + 1, o, h, a => foldB X D q d8 cf n (o + 1024) (by omega) (stepAt X D q d8 cf (eqAt lanes d8 o) o (by omega) a)

/-- The second pass. -/
def accOf (X D : FVec F S8x100000 .f32) (q : FVec F S1x100000 .f32) (d8 : IVec S8x1 32) (cf : FVec F S8x1 .f32) : AccB F :=
  stepAt X D q d8 cf (andi (eqAt lanes d8 98976) (broadcastTo S8x1024 (newlo lanes) broadcasts_S1x1024_S8x1024)) 98976 (by omega)
    (foldB X D q d8 cf 97 0 (by omega) ⟨k1_pay381, k1_pay382, k1_pay383, k1_pay384⟩)

/-- The row of tokens from the sums and the gathered weights. -/
def rowOf (st sd : FVec F S8x1 .f32) (a : AccB F) (un : Vec F S1x8x1 .f32) (dd : Vec F S1x16x1 .i32) (bo : Elt F .i32) : Vec F S1x16x1 .i32 :=
  k1_pay1 (F := F) (k1_pay1104 st sd a.gt a.gd un) bo (k1_pay1105 st sd a.gt a.gd (recOf a) un dd) k1_pay1106 8#32

/-- The row of tokens from the body's operands. -/
def outRow (X D : FVec F S8x100000 .f32) (q : FVec F S1x100000 .f32) (un : Vec F S1x8x1 .f32) (dd : Vec F S1x16x1 .i32) (sd : Vec F S8x1 .f32) (bo : Elt F .i32) : Vec F S1x16x1 .i32 :=
  rowOf (stOf X) (k1_pay379 sd) (accOf X D q (k1_pay378 (F := F) dd) (divf (k1_pay379 sd) (stOf X))) un dd bo

section Run
variable (c : Dev nD) (i : grid1.Coords) (M6 : Memref sig .tc .vmem S8x100000 .f32)

theorem passA_spec (v3 : Elt F .f32) (v81 v92 : BitVec 32) (f6 : Bf (F := F) c M6) (fT : Bf (F := F) c (tslot (jS i))) (fe : Bf (F := F) c etM) (fq : Bf (F := F) c qM)
    (Q : FVec F S8x1 .f32 → sProp 𝕄) :
    iprop(pt c M6 f6 ∗ pt c (tslot (jS i)) fT ∗ pt c etM fe ∗ pt c qM fq
        ∗ (∀ fe' fq', iprop(⌜doneE (c := c) 100000 (etTab v3 v81 ((tslot (jS i)).view.read (Elt F) fT)) fe' ∧ doneQ (c := c) 100000 (qTab v92 (M6.view.read (Elt F) f6)) fq'⌝
            ∗ pt c M6 f6 ∗ pt c (tslot (jS i)) fT ∗ pt c etM fe' ∗ pt c qM fq')
          -∗ Q (stOf (etTab v3 v81 ((tslot (jS i)).view.read (Elt F) fT)))))
      ⊢ wp frame (wpE (defs₀ (F := F)) 𝒱₀ (c : Thread nD τ) none) Set.univ (passA i M6 tbufM etM qM v3 v81 v92 lanes) Q := by
  rw [passA, stOf, wp_bind]
  refine .trans ?_ (loopA_spec c i M6 v3 v81 v92 f6 fT _ 97 0 _ _ fe fq (fun y hy => absurd hy (Nat.not_lt_zero _)) (fun y hy => absurd hy (Nat.not_lt_zero _)))
  iintro ⟨H6, HT, He, Hq, Hk⟩
  isplitl [H6]; · iexact H6
  isplitl [HT]; · iexact HT
  isplitl [He]; · iexact He
  isplitl [Hq]; · iexact Hq
  iintro %fe' %fq' ⟨%hh, H6, HT, He, Hq⟩
  rw [wp_bind]
  iapply (chunkA_spec c i M6 v3 v81 v92 99328 98976 (by omega) _ f6 fT fe' fq' hh.1 hh.2 _)
  isplitl [H6]; · iexact H6
  isplitl [HT]; · iexact HT
  isplitl [He]; · iexact He
  isplitl [Hq]; · iexact Hq
  iintro %fe2 %fq2 ⟨%h2, H6, HT, He, Hq⟩
  rw [wp_pure]
  imodintro
  iapply Hk
  isplitr
  · ipureintro
    exact h2
  isplitl [H6]; · iexact H6
  isplitl [HT]; · iexact HT
  isplitl [He]; · iexact He
  iexact Hq

theorem loadsB_spec (X : FVec F S8x100000 .f32) (q : FVec F S1x100000 .f32) (o : Nat) (h : o + 1024 ≤ 100000)
    (fE : Bf (F := F) c (eslot (jS i))) (fe : Bf (F := F) c etM) (fq : Bf (F := F) c qM) (he : doneE 100000 X fe) (hq : doneQ 100000 q fq)
    (Q : Vec F S8x1024 .f32 × Vec F S1x8x1024 .f32 × Vec F S1x1024 .f32 → sProp 𝕄) :
    iprop(pt c (eslot (jS i)) fE ∗ pt c etM fe ∗ pt c qM fq
        ∗ (∀ r, iprop(⌜r.1 = win8 o h X ∧ ed8 r.2.1 = win8 o h ((eslot (jS i)).view.read (Elt F) fE) ∧ r.2.2 = win1 o h q⌝
            ∗ pt c (eslot (jS i)) fE ∗ pt c etM fe ∗ pt c qM fq) -∗ Q r))
      ⊢ wp frame (wpE (defs₀ (F := F)) 𝒱₀ (c : Thread nD τ) none) Set.univ (loadsB i ebufM etM qM o h) Q := by
  iintro ⟨HE, He, Hq, Hk⟩
  unfold loadsB
  have hs := accE_sub i h
  sl_exec
  sl_step
  iapply Hk
  isplitr
  · ipureintro
    exact ⟨doneE_win h he, ed8_win i c o h fE, doneQ_win h hq⟩
  isplitl [HE]; · iexact HE
  isplitl [He]; · iexact He
  iexact Hq

theorem loopB_spec (X : FVec F S8x100000 .f32) (q : FVec F S1x100000 .f32) (d8 : IVec S8x1 32) (cf : FVec F S8x1 .f32)
    (fE : Bf (F := F) c (eslot (jS i))) (fe : Bf (F := F) c etM) (fq : Bf (F := F) c qM) (he : doneE 100000 X fe) (hq : doneQ 100000 q fq)
    (Q : AccB F → sProp 𝕄) : ∀ (n o : Nat) (h : o + n * 1024 ≤ 99328) (a : AccB F),
    iprop(pt c (eslot (jS i)) fE ∗ pt c etM fe ∗ pt c qM fq
        ∗ (iprop(pt c (eslot (jS i)) fE ∗ pt c etM fe ∗ pt c qM fq) -∗ Q (foldB X ((eslot (jS i)).view.read (Elt F) fE) q d8 cf n o h a)))
      ⊢ wp frame (wpE (defs₀ (F := F)) 𝒱₀ (c : Thread nD τ) none) Set.univ (loopB i ebufM etM qM lanes d8 cf n o h a) Q := by
  intro n
  induction n with
  | zero =>
    intro o h a
    rw [loopB, foldB, wp_pure]
    iintro ⟨HE, He, Hq, Hk⟩
    imodintro
    iapply Hk
    isplitl [HE]; · iexact HE
    isplitl [He]; · iexact He
    iexact Hq
  | succ n ih =>
    intro o h a
    rw [loopB, foldB, wp_bind]
    refine .trans ?_ (loadsB_spec c i X q o (by omega) fE fe fq he hq _)
    iintro ⟨HE, He, Hq, Hk⟩
    isplitl [HE]; · iexact HE
    isplitl [He]; · iexact He
    isplitl [Hq]; · iexact Hq
    iintro %r ⟨%hr, HE, He, Hq⟩
    rw [hr.1, hr.2.1, hr.2.2]
    iapply (ih (o + 1024) _ _)
    isplitl [HE]; · iexact HE
    isplitl [He]; · iexact He
    isplitl [Hq]; · iexact Hq
    iexact Hk

variable (M3 : Memref sig .tc .smem S32 .i32) (M7 : Memref sig .tc .vmem S1x16x1 .i32) (M8 : Memref sig .tc .vmem S1x8x1 .f32) (M9 : Memref sig .tc .vmem S8x1 .f32) (M10 : Memref sig .tc .vmem S1x16x1 .i32)

theorem finish_spec (st sd : FVec F S8x1 .f32) (a : AccB F) (f3 : Bf (F := F) c M3) (f7 : Bf (F := F) c M7) (f8 : Bf (F := F) c M8) (f10 : Bf (F := F) c M10) (Q : PUnit → sProp 𝕄) :
    iprop(pt c M3 f3 ∗ pt c M7 f7 ∗ pt c M8 f8 ∗ pt c M10 f10
        ∗ (∀ f10', iprop(⌜M10.view.read (Elt F) f10' = rowOf st sd a (M8.view.read (Elt F) f8) (M7.view.read (Elt F) f7) (M3.view.read (Elt F) f3 (ix1 (rq i)))⌝
            ∗ pt c M3 f3 ∗ pt c M7 f7 ∗ pt c M8 f8 ∗ pt c M10 f10') -∗ Q ⟨⟩))
      ⊢ wp frame (wpE (defs₀ (F := F)) 𝒱₀ (c : Thread nD τ) none) Set.univ (finish i M3 M7 M8 M10 st sd a) Q := by
  iintro ⟨H3, H7, H8, H10, Hk⟩
  unfold finish
  sl_exec
  sl_step
  iapply Hk
  isplitr; swap
  · isplitl [H3]; · iexact H3
    isplitl [H7]; · iexact H7
    isplitl [H8]; · iexact H8
    iexact H10
  · ipureintro
    have e : finish_spec.sl.r c i M3 f3 = M3.view.read (Elt F) f3 (ix1 (rq i)) :=
      congrArg (M3.view.read (Elt F) f3) (funext fun a => Fin.ext (by
        fin_cases a
        show k1_off1 i 0 + 1 * 0 = (rq i).val
        rw [off1_eq]; rfl))
    rw [e]
    rw [View.readAt_full M8.view f8 inb_S1x8x1_S1x8x1_0_0_0, View.readAt_full M7.view f7 inb_S1x16x1_S1x16x1_0_0_0, rowOf]
    exact View.read_writes_full M10.view f10 inb_S1x16x1_S1x16x1_0_0_0 _ []

theorem load7 (f7 : Bf (F := F) c M7) (Q : Vec F S1x16x1 .i32 → sProp 𝕄) :
    iprop(pt c M7 f7 ∗ (pt c M7 f7 -∗ Q (M7.view.read (Elt F) f7)))
      ⊢ wp frame (wpE (defs₀ (F := F)) 𝒱₀ (c : Thread nD τ) none) Set.univ
        (Prog.lift (.load M7 (Rect.unit (s := S1x16x1) ![0, 0, 0] S1x16x1.size inb_S1x16x1_S1x16x1_0_0_0).toLoadRect (View.loadsAt_vmem h_S1x16x1)) : PG F (Vec F S1x16x1 .i32)) Q := by
  iintro ⟨H, Hk⟩
  sl_exec
  sl_step
  have e : M7.view.readAt (Elt F) (Rect.unit (s := S1x16x1) ![0, 0, 0] S1x16x1.size inb_S1x16x1_S1x16x1_0_0_0).toLoadRect f7 = M7.view.read (Elt F) f7 := View.readAt_full M7.view f7 inb_S1x16x1_S1x16x1_0_0_0
  rw [e]
  iapply Hk
  iexact H

theorem load9 (f9 : Bf (F := F) c M9) (Q : Vec F S8x1 .f32 → sProp 𝕄) :
    iprop(pt c M9 f9 ∗ (pt c M9 f9 -∗ Q (M9.view.read (Elt F) f9)))
      ⊢ wp frame (wpE (defs₀ (F := F)) 𝒱₀ (c : Thread nD τ) none) Set.univ
        (Prog.lift (.load M9 (Rect.unit (s := S8x1) ![0, 0] S8x1.size inb_S8x1_S8x1_0_0).toLoadRect (View.loadsAt_vmem h_S8x1)) : PG F (Vec F S8x1 .f32)) Q := by
  iintro ⟨H, Hk⟩
  sl_exec
  sl_step
  have e : M9.view.readAt (Elt F) (Rect.unit (s := S8x1) ![0, 0] S8x1.size inb_S8x1_S8x1_0_0).toLoadRect f9 = M9.view.read (Elt F) f9 := View.readAt_full M9.view f9 inb_S8x1_S8x1_0_0
  rw [e]
  iapply Hk
  iexact H

/-- The body after its waits. -/
theorem tail_spec (v3 : Elt F .f32) (v81 v92 : BitVec 32) (f3 : Bf (F := F) c M3) (f6 : Bf (F := F) c M6) (f7 : Bf (F := F) c M7) (f8 : Bf (F := F) c M8) (f9 : Bf (F := F) c M9) (f10 : Bf (F := F) c M10)
    (fT : Bf (F := F) c (tslot (jS i))) (fE : Bf (F := F) c (eslot (jS i))) (fe : Bf (F := F) c etM) (fq : Bf (F := F) c qM) (Q : PUnit → sProp 𝕄) :
    iprop(pt c M3 f3 ∗ pt c M6 f6 ∗ pt c M7 f7 ∗ pt c M8 f8 ∗ pt c M9 f9 ∗ pt c M10 f10 ∗ pt c (tslot (jS i)) fT ∗ pt c (eslot (jS i)) fE ∗ pt c etM fe ∗ pt c qM fq
        ∗ (∀ f10' fe' fq', iprop(⌜M10.view.read (Elt F) f10' = outRow (etTab v3 v81 ((tslot (jS i)).view.read (Elt F) fT)) ((eslot (jS i)).view.read (Elt F) fE) (qTab v92 (M6.view.read (Elt F) f6))
              (M8.view.read (Elt F) f8) (M7.view.read (Elt F) f7) (M9.view.read (Elt F) f9) (M3.view.read (Elt F) f3 (ix1 (rq i)))⌝
            ∗ pt c M3 f3 ∗ pt c M6 f6 ∗ pt c M7 f7 ∗ pt c M8 f8 ∗ pt c M9 f9 ∗ pt c M10 f10' ∗ pt c (tslot (jS i)) fT ∗ pt c (eslot (jS i)) fE ∗ pt c etM fe' ∗ pt c qM fq') -∗ Q ⟨⟩))
      ⊢ wp frame (wpE (defs₀ (F := F)) 𝒱₀ (c : Thread nD τ) none) Set.univ (tail i M3 M6 M7 M8 M9 M10 tbufM ebufM etM qM v3 v81 v92) Q := by
  iintro ⟨H3, H6, H7, H8, H9, H10, HT, HE, He, Hq, Hk⟩
  rw [tail, wp_bind]
  iapply (passA_spec c i M6 v3 v81 v92 f6 fT fe fq _)
  isplitl [H6]; · iexact H6
  isplitl [HT]; · iexact HT
  isplitl [He]; · iexact He
  isplitl [Hq]; · iexact Hq
  iintro %fe1 %fq1 ⟨%h1, H6, HT, He, Hq⟩
  rw [wp_bind]
  iapply (load7 c M7 f7 _)
  isplitl [H7]; · iexact H7
  iintro H7
  rw [wp_bind]
  iapply (load9 c M9 f9 _)
  isplitl [H9]; · iexact H9
  iintro H9
  rw [wp_bind]
  iapply (loadsB_spec c i (etTab v3 v81 ((tslot (jS i)).view.read (Elt F) fT)) (qTab v92 (M6.view.read (Elt F) f6)) 0 _ fE fe1 fq1 h1.1 h1.2 _)
  isplitl [HE]; · iexact HE
  isplitl [He]; · iexact He
  isplitl [Hq]; · iexact Hq
  iintro %r ⟨%hr, HE, He, Hq⟩
  rw [hr.1, hr.2.1, hr.2.2, wp_bind, passB, wp_bind]
  iapply (loopB_spec c i (etTab v3 v81 ((tslot (jS i)).view.read (Elt F) fT)) (qTab v92 (M6.view.read (Elt F) f6)) _ _ fE fe1 fq1 h1.1 h1.2 _ 96 1024 _ _)
  isplitl [HE]; · iexact HE
  isplitl [He]; · iexact He
  isplitl [Hq]; · iexact Hq
  iintro ⟨HE, He, Hq⟩
  rw [wp_bind]
  iapply (loadsB_spec c i (etTab v3 v81 ((tslot (jS i)).view.read (Elt F) fT)) (qTab v92 (M6.view.read (Elt F) f6)) 98976 _ fE fe1 fq1 h1.1 h1.2 _)
  isplitl [HE]; · iexact HE
  isplitl [He]; · iexact He
  isplitl [Hq]; · iexact Hq
  iintro %r ⟨%hr, HE, He, Hq⟩
  rw [hr.1, hr.2.1, hr.2.2, wp_pure]
  imodintro
  iapply (finish_spec c i M3 M7 M8 M10 _ _ _ f3 f7 f8 f10 Q)
  isplitl [H3]; · iexact H3
  isplitl [H7]; · iexact H7
  isplitl [H8]; · iexact H8
  isplitl [H10]; · iexact H10
  iintro %f10' ⟨%h10, H3, H7, H8, H10⟩
  iapply Hk
  isplitr
  · ipureintro
    exact h10
  isplitl [H3]; · iexact H3
  isplitl [H6]; · iexact H6
  isplitl [H7]; · iexact H7
  isplitl [H8]; · iexact H8
  isplitl [H9]; · iexact H9
  isplitl [H10]; · iexact H10
  isplitl [HT]; · iexact HT
  isplitl [HE]; · iexact HE
  isplitl [He]; · iexact He
  iexact Hq

end Run

end Cert.KernelIdeal.Proof
-- ==== Proof.Prefix.lean ====
module

public import proofs.«01_k».proof.Proof.Names

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The two slots' copies -/

section Pieces
variable (c : Dev nD) (XT : Bf (F := F) c tgtM) (XE : Bf (F := F) c edM)

abbrev cT (s : Fin 2) : sProp 𝕄 := semVal ((c : Thread nD τ), SemLoc.dma (tsm s).sem) 0
abbrev cE (s : Fin 2) : sProp 𝕄 := semVal ((c : Thread nD τ), SemLoc.dma (esm s).sem) 0
/-- The target logits and the draft weights, read through slot `s`'s half. -/
abbrev hT (s : Fin 2) : sProp 𝕄 := tgtM.view.loc (c : Thread nD τ) ↦{hs s} XT
abbrev hE (s : Fin 2) : sProp 𝕄 := edM.view.loc (c : Thread nD τ) ↦{hs s} XE
/-- What request `b`'s copies leave in slot `s`. -/
abbrev landT (s : Fin 2) (b : Fin 32) (f : Bf (F := F) c (tslot s)) : Bf (F := F) c (tslot s) :=
  (tslot s).view.writes (Elt F) f [⟨Rect.whole S16x100000, ReadAs.same.apply ((tgrp b).view.read (Elt F) XT)⟩]
abbrev landE (s : Fin 2) (b : Fin 32) (f : Bf (F := F) c (eslot s)) : Bf (F := F) c (eslot s) :=
  (eslot s).view.writes (Elt F) f [⟨Rect.whole S8x100000, ReadAs.same.apply ((egrp b).view.read (Elt F) XE)⟩]
abbrev NT (s : Fin 2) : ℕ := 200192
abbrev NE (s : Fin 2) : ℕ := 100096
/-- Slot `s`'s target rows on their way for request `b`, with what is left of the half. -/
abbrev flyT (s : Fin 2) (b : Fin 32) (f : Bf (F := F) c (tslot s)) : sProp 𝕄 :=
  iprop(Transfers.Flight countersEmb (c : Thread nD τ) (SemLoc.dma (tsm s).sem) () (NT s)
      iprop(pt c (tslot s) (landT c XT s b f) ∗ (tgrp b).view.loc (c : Thread nD τ) ↦[(tgrp b).view.set]{hs s} XT)
    ∗ (tgrp b).view.loc (c : Thread nD τ) ↦[Finset.univ \ (tgrp b).view.set]{hs s} XT)
abbrev flyE (s : Fin 2) (b : Fin 32) (f : Bf (F := F) c (eslot s)) : sProp 𝕄 :=
  iprop(Transfers.Flight countersEmb (c : Thread nD τ) (SemLoc.dma (esm s).sem) () (NE s)
      iprop(pt c (eslot s) (landE c XE s b f) ∗ (egrp b).view.loc (c : Thread nD τ) ↦[(egrp b).view.set]{hs s} XE)
    ∗ (egrp b).view.loc (c : Thread nD τ) ↦[Finset.univ \ (egrp b).view.set]{hs s} XE)
/-- Slot `s` idle. -/
abbrev free (s : Fin 2) : sProp 𝕄 :=
  iprop((∃ f, pt c (tslot s) f) ∗ (∃ f, pt c (eslot s) f) ∗ cT c s ∗ cE c s ∗ hT c XT s ∗ hE c XE s)
/-- Slot `s` being filled for request `b`. -/
abbrev fly (s : Fin 2) (b : Fin 32) : sProp 𝕄 :=
  iprop((∃ f, flyT c XT s b f) ∗ (∃ f, flyE c XE s b f))

end Pieces

section Start
variable (c : Dev nD) (XT : Bf (F := F) c tgtM) (XE : Bf (F := F) c edM) (i : grid1.Coords)

/-- The copies into slot `s` for request `b`. -/
def startP (s : Fin 2) (b : Fin 32) : PG F PUnit := do
  Prog.lift (.enqueueDma (tgrp b) (.here (tslot s)) (.dma (tsm s).sem) (View.wordExact_bits rfl) ((View.wordExact_bits rfl).reshape _ _) ⟨Or.inl rfl, trivial⟩)
  Prog.lift (.enqueueDma (egrp b) (.here (eslot s)) (.dma (esm s).sem) (View.wordExact_bits rfl) ((View.wordExact_bits rfl).reshape _ _) ⟨Or.inl rfl, trivial⟩)
  pure ⟨⟩

/-- The waits for slot `s`'s copies for request `b`. -/
def waitP (s : Fin 2) (b : Fin 32) : PG F PUnit := do
  Prog.lift (.waitDma2 (tsm s).sem (tgrp b) (tslot s) (View.wordExact_bits rfl) ((View.wordExact_bits rfl).reshape _ _))
  Prog.lift (.waitDma2 (esm s).sem (egrp b) (eslot s) (View.wordExact_bits rfl) ((View.wordExact_bits rfl).reshape _ _))
  pure ⟨⟩

theorem start_spec (s : Fin 2) (b : Fin 32) (W : Waits sig Unit) (Q : PUnit → sProp 𝕄) :
    iprop(free c XT XE s ∗ owes (c : Thread nD τ) 0 W ∗ (iprop(fly c XT XE s b ∗ ∃ W', owes (c : Thread nD τ) 0 W') -∗ Q ⟨⟩))
      ⊢ wp frame (wpE (defs₀ (F := F)) 𝒱₀ (c : Thread nD τ) none) Set.univ (startP (F := F) s b) Q := by
  iintro ⟨⟨⟨%f, HT⟩, ⟨%g, HE⟩, HcT, HcE, HhT, HhE⟩, HW, Hk⟩
  unfold startP
  sl_exec
  sl_step
  iapply Hk
  isplitr [HW]
  · isplitl [HcT HhT]
    · iexists f
      isplitl [HcT]
      · iexact HcT
      · iexact HhT
    · iexists g
      isplitl [HcE]
      · iexact HcE
      · iexact HhE
  · iexists _
    iexact HW

theorem wait_spec (s : Fin 2) (b : Fin 32) (W : Waits sig Unit) (Q : PUnit → sProp 𝕄) :
    iprop(fly c XT XE s b ∗ owes (c : Thread nD τ) 0 W
        ∗ (∀ f g, iprop(⌜(tslot s).view.read (Elt F) f = (tgrp b).view.read (Elt F) XT ∧ (eslot s).view.read (Elt F) g = (egrp b).view.read (Elt F) XE⌝
          ∗ pt c (tslot s) f ∗ pt c (eslot s) g ∗ cT c s ∗ cE c s ∗ hT c XT s ∗ hE c XE s ∗ ∃ W', owes (c : Thread nD τ) 0 W') -∗ Q ⟨⟩))
      ⊢ wp frame (wpE (defs₀ (F := F)) 𝒱₀ (c : Thread nD τ) none) Set.univ (waitP (F := F) s b) Q := by
  iintro ⟨⟨⟨%f, HT, HrT⟩, ⟨%g, HE, HrE⟩⟩, HW, Hk⟩
  unfold waitP
  sl_exec
  sl_step
  iapply Hk
  isplitr
  · ipureintro
    exact ⟨View.read_writes_whole (tslot s).view f ((tgrp b).view.read (Elt F) XT), View.read_writes_whole (eslot s).view g ((egrp b).view.read (Elt F) XE)⟩
  isplitl [HT_dst]; · iexact HT_dst
  isplitl [HE_dst]; · iexact HE_dst
  isplitl [HT]; · iexact HT
  isplitl [HE]; · iexact HE
  isplitl [HrT]; · iexact HrT
  isplitl [HrE]; · iexact HrE
  iexists _
  iexact HW

end Start

end Cert.KernelIdeal.Proof
-- ==== Proof.BodyEq.lean ====
module

public import proofs.«01_k».proof.Proof.Walk
public import proofs.«01_k».proof.Proof.Prefix

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Eqs
variable (i : grid1.Coords) (arg2 : Memref sig .tc .smem S32 .f32) (harg2 : arg2.IsWhole) (arg3 : Memref sig .tc .smem S32 .i32) (harg3 : arg3.IsWhole) (arg4 : Memref sig .tc .hbm S288x100000 .f32) (harg4 : arg4.IsWhole) (arg5 : Memref sig .tc .hbm S256x100000 .f32) (harg5 : arg5.IsWhole) (arg6 : Memref sig .tc .vmem S8x100000 .f32) (harg6 : arg6.IsWhole) (arg7 : Memref sig .tc .vmem S1x16x1 .i32) (harg7 : arg7.IsWhole) (arg8 : Memref sig .tc .vmem S1x8x1 .f32) (harg8 : arg8.IsWhole) (arg9 : Memref sig .tc .vmem S8x1 .f32) (harg9 : arg9.IsWhole) (arg10 : Memref sig .tc .vmem S1x16x1 .i32) (harg10 : arg10.IsWhole) (arg11 : Memref sig .tc .vmem S2x16x100000 .f32) (harg11 : arg11.IsWhole) (arg12 : Memref sig .tc .vmem S2x8x100000 .f32) (harg12 : arg12.IsWhole) (arg13 : Memref sig .tc .vmem S8x100000 .f32) (harg13 : arg13.IsWhole) (arg14 : Memref sig .tc .vmem S1x100000 .f32) (harg14 : arg14.IsWhole) (arg15 : DmaSems sig S2) (arg16 : DmaSems sig S2)

set_option maxHeartbeats 0 in
theorem body_eq : cc1__sampler_kernel (F := F) i arg2 harg2 arg3 harg3 arg4 harg4 arg5 harg5 arg6 harg6 arg7 harg7 arg8 harg8 arg9 harg9 arg10 harg10 arg11 harg11 arg12 harg12 arg13 harg13 arg14 harg14 arg15 arg16
    = (k1_part2_skel (F := F) i arg2 harg2 arg3 harg3 arg4 harg4 arg5 harg5 arg6 harg6 arg7 harg7 arg8 harg8 arg9 harg9 arg10 harg10 arg11 harg11 arg12 harg12 arg13 harg13 arg14 harg14 arg15 arg16 >>= fun r => k1_part3_skel (F := F) i arg2 harg2 arg3 harg3 arg4 harg4 arg5 harg5 arg6 harg6 arg7 harg7 arg8 harg8 arg9 harg9 arg10 harg10 arg11 harg11 arg12 harg12 arg13 harg13 arg14 harg14 arg15 arg16 r.1 r.2.1 r.2.2.2.1 r.2.2.2.2 >>= fun s =>
        early i arg2 harg2 arg3 harg3 arg4 harg4 arg5 harg5 arg6 harg6 arg7 harg7 arg8 harg8 arg9 harg9 arg10 harg10 arg11 harg11 arg12 harg12 arg13 harg13 arg14 harg14 arg15 arg16 r.1 r.2.1 r.2.2.1 s.1 s.2.1 s.2.2) := by
  rw [cc1__sampler_kernel_eq_skeleton, ← k1_part2_eq_skeleton, ← k1_part3_eq_skeleton]
  unfold cc1__sampler_kernel_skel
  rw [k1_part121_eq_skeleton]
  unfold k1_part121_skel early late
  simp only [bind_assoc, pure_bind]

end Eqs

end Cert.KernelIdeal.Proof
-- ==== Proof.Parts.lean ====
module

public import proofs.«01_k».proof.Proof.BodyEq

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Parts
/-- The request as the body computes it. -/
def r1 (i : grid1.Coords) : BitVec 32 := Scalar.addi (Scalar.muli 16#32 (BitVec.ofNat 32 (i 0).val)) (BitVec.ofNat 32 (i 1).val)
/-- The rotation of the target rows and of the rows of `u_exp`. -/
def b81 (i : grid1.Coords) : BitVec 32 := rotOf (Scalar.subi 16#32 (rotOf (r1 i) 8#32)) 16#32
def b92 (i : grid1.Coords) : BitVec 32 := rotOf (Scalar.subi 8#32 (rotOf (r1 i) 8#32)) 8#32
def w22 (i : grid1.Coords) : BitVec 32 := Scalar.divsi (Scalar.muli 9#32 (r1 i)) 8#32
def w36 (i : grid1.Coords) : BitVec 1 :=
  Scalar.andi (Scalar.cmpi .ne (Scalar.subi (Scalar.extui (Scalar.cmpi .sgt (Scalar.muli 9#32 (r1 i)) 0#32)) (Scalar.extui (Scalar.cmpi .slt (Scalar.muli 9#32 (r1 i)) 0#32)))
    (Scalar.subi (Scalar.extui (Scalar.cmpi .sgt 8#32 0#32)) (Scalar.extui (Scalar.cmpi .slt 8#32 0#32))))
    (Scalar.cmpi .ne (Scalar.remsi (Scalar.muli 9#32 (r1 i)) 8#32) 0#32)

variable (i : grid1.Coords) (M2 : Memref sig .tc .smem S32 .f32) (h2 : M2.IsWhole) (M3 : Memref sig .tc .smem S32 .i32) (h3 : M3.IsWhole) (h4 : tgtM.IsWhole) (h5 : edM.IsWhole) (M6 : Memref sig .tc .vmem S8x100000 .f32) (h6 : M6.IsWhole) (M7 : Memref sig .tc .vmem S1x16x1 .i32) (h7 : M7.IsWhole) (M8 : Memref sig .tc .vmem S1x8x1 .f32) (h8 : M8.IsWhole) (M9 : Memref sig .tc .vmem S8x1 .f32) (h9 : M9.IsWhole) (M10 : Memref sig .tc .vmem S1x16x1 .i32) (h10 : M10.IsWhole) (h11 : tbufM.IsWhole) (h12 : ebufM.IsWhole) (h13 : etM.IsWhole) (h14 : qM.IsWhole)

/-- Two starts, and two waits, of any source and destination. -/
def startG (p : DmaSems sig S_) (a : Memref sig .tc .hbm S16x100000 .f32) (b : Memref sig .tc .vmem S16x100000 .f32)
    (q : DmaSems sig S_) (a' : Memref sig .tc .hbm S8x100000 .f32) (b' : Memref sig .tc .vmem S8x100000 .f32) : PG F PUnit := do
  Prog.lift (.enqueueDma a (.here b) (.dma p.sem) (View.wordExact_bits rfl) (View.wordExact_bits rfl) ⟨Or.inl rfl, trivial⟩)
  Prog.lift (.enqueueDma a' (.here b') (.dma q.sem) (View.wordExact_bits rfl) (View.wordExact_bits rfl) ⟨Or.inl rfl, trivial⟩)
  pure ⟨⟩
def waitG (p : DmaSems sig S_) (a : Memref sig .tc .hbm S16x100000 .f32) (b : Memref sig .tc .vmem S16x100000 .f32)
    (q : DmaSems sig S_) (a' : Memref sig .tc .hbm S8x100000 .f32) (b' : Memref sig .tc .vmem S8x100000 .f32) : PG F PUnit := do
  Prog.lift (.waitDma2 p.sem a b (View.wordExact_bits rfl) (View.wordExact_bits rfl))
  Prog.lift (.waitDma2 q.sem a' b' (View.wordExact_bits rfl) (View.wordExact_bits rfl))
  pure ⟨⟩

theorem part3_eq (a v : BitVec 32) (v22 : BitVec 32) (v36 : BitVec 1) : k1_part3_skel (F := F) i M2 h2 M3 h3 tgtM h4 edM h5 M6 h6 M7 h7 M8 h8 M9 h9 M10 h10 tbufM h11 ebufM h12 etM h13 qM h14 cc1_scratch4 cc1_scratch5 a v v22 v36
    = (waitP (jS i) (rq i) >>= fun _ => pure ⟨rotOf v 8#32, Scalar.subi 16#32 (rotOf v 8#32), 16#32⟩) := by
  refine Eq.trans (b := waitG ((cc1_scratch4.slice (Rect.unit (s := S2) (k1_off9 i) S1.size (k1_off9_inb i))).squeeze S_ squeezes_S1_S_) (tgtM.slice (Rect.unit (s := S288x100000) (k1_off11 i) S16x100000.size (k1_off11_inb i)) (fun _ => rfl)) ((tbufM.slice (Rect.unit (s := S2x16x100000) (k1_off10 i) S1x16x100000.size (k1_off10_inb i)) (fun _ => rfl)).squeeze S16x100000 squeezes_S1x16x100000_S16x100000) ((cc1_scratch5.slice (Rect.unit (s := S2) (k1_off9 i) S1.size (k1_off9_inb i))).squeeze S_ squeezes_S1_S_) (edM.slice (Rect.unit (s := S256x100000) (k1_off13 i) S8x100000.size (k1_off13_inb i)) (fun _ => rfl)) ((ebufM.slice (Rect.unit (s := S2x8x100000) (k1_off12 i) S1x8x100000.size (k1_off12_inb i)) (fun _ => rfl)).squeeze S8x100000 squeezes_S1x8x100000_S8x100000) >>= fun _ => pure ⟨rotOf v 8#32, Scalar.subi 16#32 (rotOf v 8#32), 16#32⟩) rfl ?_
  rw [tsm9, esm9, tsl10, esl12, tg11, eg13]
  rfl

/-- The body's starts, named. -/
def startA (i : grid1.Coords) : PG F PUnit := if k1_cond1 i = 1#1 then startP 0 (rq i) else pure ⟨⟩
def startB (i : grid1.Coords) : PG F PUnit := if k1_cond2 i = 1#1 then startP (jN i) (rqn i) else pure ⟨⟩
def tempAt (i : grid1.Coords) (M2 : Memref sig .tc .smem S32 .f32) : PG F (Elt F .f32) :=
  smemLoad M2 (Rect.unit (s := S32) (k1_off1 i) S1.size (k1_off1_inb i)) numel1_S1 rfl

theorem startA_raw (h1 : k1_cond1 i = 1#1) : startG ((cc1_scratch4.slice (Rect.unit (s := S2) ![0] S1.size inb_S2_S1_0)).squeeze S_ squeezes_S1_S_) (tgtM.slice (Rect.unit (s := S288x100000) (k1_off2 i) S16x100000.size (k1_off2_inb i h1)) (fun _ => rfl)) ((tbufM.slice (Rect.unit (s := S2x16x100000) ![0, 0, 0] S1x16x100000.size inb_S2x16x100000_S1x16x100000_0_0_0) (fun _ => rfl)).squeeze S16x100000 squeezes_S1x16x100000_S16x100000) ((cc1_scratch5.slice (Rect.unit (s := S2) ![0] S1.size inb_S2_S1_0)).squeeze S_ squeezes_S1_S_) (edM.slice (Rect.unit (s := S256x100000) (k1_off3 i) S8x100000.size (k1_off3_inb i h1)) (fun _ => rfl)) ((ebufM.slice (Rect.unit (s := S2x8x100000) ![0, 0, 0] S1x8x100000.size inb_S2x8x100000_S1x8x100000_0_0_0) (fun _ => rfl)).squeeze S8x100000 squeezes_S1x8x100000_S8x100000) = startP (F := F) 0 (rq i) := by
  rw [tsm0, esm0, tsl0, esl0, tg2, eg3]
  rfl
theorem startB_raw (h2 : k1_cond2 i = 1#1) : startG ((cc1_scratch4.slice (Rect.unit (s := S2) (k1_off4 i) S1.size (k1_off4_inb i h2))).squeeze S_ squeezes_S1_S_) (tgtM.slice (Rect.unit (s := S288x100000) (k1_off6 i) S16x100000.size (k1_off6_inb i h2)) (fun _ => rfl)) ((tbufM.slice (Rect.unit (s := S2x16x100000) (k1_off5 i) S1x16x100000.size (k1_off5_inb i h2)) (fun _ => rfl)).squeeze S16x100000 squeezes_S1x16x100000_S16x100000) ((cc1_scratch5.slice (Rect.unit (s := S2) (k1_off4 i) S1.size (k1_off4_inb i h2))).squeeze S_ squeezes_S1_S_) (edM.slice (Rect.unit (s := S256x100000) (k1_off8 i) S8x100000.size (k1_off8_inb i h2)) (fun _ => rfl)) ((ebufM.slice (Rect.unit (s := S2x8x100000) (k1_off7 i) S1x8x100000.size (k1_off7_inb i h2)) (fun _ => rfl)).squeeze S8x100000 squeezes_S1x8x100000_S8x100000) = startP (F := F) (jN i) (rqn i) := by
  rw [tsm4, esm4, tsl5, esl7, tg6 (h := (cond2_iff i).1 h2), eg8 (h := (cond2_iff i).1 h2)]
  rfl

theorem part2_eq : k1_part2_skel (F := F) i M2 h2 M3 h3 tgtM h4 edM h5 M6 h6 M7 h7 M8 h8 M9 h9 M10 h10 tbufM h11 ebufM h12 etM h13 qM h14 cc1_scratch4 cc1_scratch5
    = (tempAt i M2 >>= fun v3 => startA i >>= fun _ => startB i >>= fun _ =>
        pure ⟨BitVec.ofNat 32 (i 1).val, r1 i, v3, w22 i, w36 i⟩) := by
  unfold k1_part2_skel startA startB
  by_cases h1 : k1_cond1 i = 1#1 <;> by_cases h2 : k1_cond2 i = 1#1
  · rw [if_pos h1, if_pos h2, ← startA_raw i h1, ← startB_raw i h2, k1_part1_eq_skeleton]
    simp only [dif_pos h1, dif_pos h2]
    rfl
  · rw [if_pos h1, if_neg h2, ← startA_raw i h1]
    simp only [dif_pos h1, dif_neg h2]
    rfl
  · rw [if_neg h1, if_pos h2, ← startB_raw i h2, k1_part1_eq_skeleton]
    simp only [dif_neg h1, dif_pos h2]
    rfl
  · rw [if_neg h1, if_neg h2]
    simp only [dif_neg h1, dif_neg h2]
    rfl

variable (c : Dev nD) (XT : Bf (F := F) c tgtM) (XE : Bf (F := F) c edM)

/-- The slots' state a grid point meets, and the one it leaves. -/
def ent (i : grid1.Coords) : sProp 𝕄 :=
  if (i 1).val = 0 then iprop(free c XT XE 0 ∗ free c XT XE 1) else iprop(fly c XT XE (jS i) (rq i) ∗ free c XT XE (jN i))
def nxt (i : grid1.Coords) : sProp 𝕄 :=
  if (i 1).val + 1 < 16 then fly c XT XE (jN i) (rqn i) else free c XT XE (jN i)

theorem startA_spec (W : Waits sig Unit) (Q : PUnit → sProp 𝕄) :
    iprop(ent c XT XE i ∗ owes (c : Thread nD τ) 0 W ∗ (iprop((fly c XT XE (jS i) (rq i) ∗ free c XT XE (jN i)) ∗ ∃ W', owes (c : Thread nD τ) 0 W') -∗ Q ⟨⟩))
      ⊢ wp frame (wpE (defs₀ (F := F)) 𝒱₀ (c : Thread nD τ) none) Set.univ (startA (F := F) i) Q := by
  rw [startA, ent]
  by_cases h : (i 1).val = 0
  · have e0 : jS i = 0 := by unfold jS; rw [h]; rfl
    have e1 : jN i = 1 := by unfold jN; rw [h]; rfl
    rw [if_pos h, if_pos ((cond1_iff i).2 h), e0, e1]
    iintro ⟨⟨H0, H1⟩, HW, Hk⟩
    iapply (start_spec c XT XE 0 (rq i) W Q)
    isplitl [H0]; · iexact H0
    isplitl [HW]; · iexact HW
    iintro ⟨Hf, HW⟩
    iapply Hk
    isplitr [HW]
    · isplitl [Hf]; · iexact Hf
      iexact H1
    · iexact HW
  · rw [if_neg h, if_neg (fun h' => h ((cond1_iff i).1 h')), wp_pure]
    iintro ⟨H, HW, Hk⟩
    imodintro
    iapply Hk
    isplitl [H]; · iexact H
    iexists _
    iexact HW

theorem startB_spec (W : Waits sig Unit) (Q : PUnit → sProp 𝕄) :
    iprop(free c XT XE (jN i) ∗ owes (c : Thread nD τ) 0 W ∗ (iprop(nxt c XT XE i ∗ ∃ W', owes (c : Thread nD τ) 0 W') -∗ Q ⟨⟩))
      ⊢ wp frame (wpE (defs₀ (F := F)) 𝒱₀ (c : Thread nD τ) none) Set.univ (startB (F := F) i) Q := by
  rw [startB, nxt]
  by_cases h : (i 1).val + 1 < 16
  · rw [if_pos h, if_pos ((cond2_iff i).2 h)]
    exact start_spec c XT XE (jN i) (rqn i) W Q
  · rw [if_neg h, if_neg (fun h' => h ((cond2_iff i).1 h')), wp_pure]
    iintro ⟨H, HW, Hk⟩
    imodintro
    iapply Hk
    isplitl [H]; · iexact H
    iexists _
    iexact HW

theorem temp_spec (f2 : Bf (F := F) c M2) (Q : Elt F .f32 → sProp 𝕄) :
    iprop(pt c M2 f2 ∗ (pt c M2 f2 -∗ Q (M2.view.read (Elt F) f2 (ix1 (rq i)))))
      ⊢ wp frame (wpE (defs₀ (F := F)) 𝒱₀ (c : Thread nD τ) none) Set.univ (tempAt (F := F) i M2) Q := by
  unfold tempAt
  iintro ⟨H, Hk⟩
  sl_exec
  sl_step
  have e : ∀ hh, M2.view.readAt (Elt F) (Rect.unit (s := S32) (k1_off1 i) S1.size (k1_off1_inb i)).toLoadRect f2 (Shape.Idx.first hh) = M2.view.read (Elt F) f2 (ix1 (rq i)) := fun hh =>
    congrArg (M2.view.read (Elt F) f2) (funext fun a => Fin.ext (by
      fin_cases a
      show k1_off1 i 0 + 1 * 0 = (rq i).val
      rw [off1_eq]; rfl))
  rw [e]
  iapply Hk
  iexact H

/-- One grid point: the copies' starts and waits, then the body on the slot that landed. -/
theorem point_spec (f2 : Bf (F := F) c M2) (f3 : Bf (F := F) c M3) (f6 : Bf (F := F) c M6) (f7 : Bf (F := F) c M7) (f8 : Bf (F := F) c M8) (f9 : Bf (F := F) c M9) (f10 : Bf (F := F) c M10)
    (fe : Bf (F := F) c etM) (fq : Bf (F := F) c qM) (W : Waits sig Unit) (Q : PUnit → sProp 𝕄) :
    iprop(pt c M2 f2 ∗ pt c M3 f3 ∗ pt c M6 f6 ∗ pt c M7 f7 ∗ pt c M8 f8 ∗ pt c M9 f9 ∗ pt c M10 f10 ∗ pt c etM fe ∗ pt c qM fq
        ∗ ent c XT XE i ∗ owes (c : Thread nD τ) 0 W
        ∗ (∀ f10' fe' fq', iprop(⌜M10.view.read (Elt F) f10' = outRow (etTab (M2.view.read (Elt F) f2 (ix1 (rq i))) (b81 i) ((tgrp (rq i)).view.read (Elt F) XT)) ((egrp (rq i)).view.read (Elt F) XE)
              (qTab (b92 i) (M6.view.read (Elt F) f6)) (M8.view.read (Elt F) f8) (M7.view.read (Elt F) f7) (M9.view.read (Elt F) f9) (M3.view.read (Elt F) f3 (ix1 (rq i)))⌝
            ∗ pt c M2 f2 ∗ pt c M3 f3 ∗ pt c M6 f6 ∗ pt c M7 f7 ∗ pt c M8 f8 ∗ pt c M9 f9 ∗ pt c M10 f10' ∗ pt c etM fe' ∗ pt c qM fq'
            ∗ (free c XT XE (jS i) ∗ nxt c XT XE i) ∗ ∃ W', owes (c : Thread nD τ) 0 W') -∗ Q ⟨⟩))
      ⊢ wp frame (wpE (defs₀ (F := F)) 𝒱₀ (c : Thread nD τ) none) Set.univ (cc1__sampler_kernel (F := F) i M2 h2 M3 h3 tgtM h4 edM h5 M6 h6 M7 h7 M8 h8 M9 h9 M10 h10 tbufM h11 ebufM h12 etM h13 qM h14 cc1_scratch4 cc1_scratch5) Q := by
  rw [body_eq, part2_eq]
  simp only [bind_assoc, pure_bind]
  rw [part3_eq]
  simp only [bind_assoc, pure_bind, early_eq]
  iintro ⟨H2, H3, H6, H7, H8, H9, H10, He, Hq, Hs, HW, Hk⟩
  rw [wp_bind]
  iapply (temp_spec (i := i) (M2 := M2) c f2 _)
  isplitl [H2]; · iexact H2
  iintro H2
  rw [wp_bind]
  iapply (startA_spec (i := i) c XT XE W _)
  isplitl [Hs]; · iexact Hs
  isplitl [HW]; · iexact HW
  iintro ⟨⟨Hf, Hn⟩, ⟨%W1, HW⟩⟩
  rw [wp_bind]
  iapply (startB_spec (i := i) c XT XE W1 _)
  isplitl [Hn]; · iexact Hn
  isplitl [HW]; · iexact HW
  iintro ⟨Hn, ⟨%W2, HW⟩⟩
  rw [wp_bind]
  iapply (wait_spec c XT XE (jS i) (rq i) W2 _)
  isplitl [Hf]; · iexact Hf
  isplitl [HW]; · iexact HW
  iintro %fT %fE ⟨%hr, HT, HE, HcT, HcE, HhT, HhE, HW⟩
  iapply (tail_spec c i M6 M3 M7 M8 M9 M10 _ _ _ f3 f6 f7 f8 f9 f10 fT fE fe fq Q)
  isplitl [H3]; · iexact H3
  isplitl [H6]; · iexact H6
  isplitl [H7]; · iexact H7
  isplitl [H8]; · iexact H8
  isplitl [H9]; · iexact H9
  isplitl [H10]; · iexact H10
  isplitl [HT]; · iexact HT
  isplitl [HE]; · iexact HE
  isplitl [He]; · iexact He
  isplitl [Hq]; · iexact Hq
  iintro %f10' %fe' %fq' ⟨%h10, H3, H6, H7, H8, H9, H10, HT, HE, He, Hq⟩
  rw [hr.1, hr.2] at h10
  iapply Hk
  isplitr
  · ipureintro
    exact h10
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [He]; · iexact He
  isplitl [Hq]; · iexact Hq
  isplitr [HW]
  · isplitr [Hn]
    · isplitl [HT]; · iexists fT; iexact HT
      isplitl [HE]; · iexists fE; iexact HE
      isplitl [HcT]; · iexact HcT
      isplitl [HcE]; · iexact HcE
      isplitl [HhT]; · iexact HhT
      iexact HhE
    · iexact Hn
  · iexact HW

end Parts

end Cert.KernelIdeal.Proof
-- ==== Proof.Region1.lean ====
module

public import proofs.«01_k».proof.Proof.Parts
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionArraysD
public import Idealize.ShloMosaic.Lib.Pipeline.RegionArraysS
public import Idealize.ShloMosaic.Lib.Pipeline.FrameBody

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The two slots of each buffer -/

abbrev ST (s : Fin 2) : Finset S2x16x100000.Idx := (Rect.unit (s := S2x16x100000) (slotOff s) S1x16x100000.size (slotOff_inbT s)).set
abbrev SE (s : Fin 2) : Finset S2x8x100000.Idx := (Rect.unit (s := S2x8x100000) (slotOff s) S1x8x100000.size (slotOff_inbE s)).set

theorem mem_ST (s : Fin 2) (y : S2x16x100000.Idx) : y ∈ ST s ↔ (y 0).val = s.val := by
  rw [Rect.mem_set_unit]
  have h1 : (y 1).val < 16 := (y 1).isLt
  have h2 : (y 2).val < 100000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16; omega
    · show 0 ≤ (y 2).val ∧ (y 2).val < 0 + 100000; omega
theorem mem_SE (s : Fin 2) (y : S2x8x100000.Idx) : y ∈ SE s ↔ (y 0).val = s.val := by
  rw [Rect.mem_set_unit]
  have h1 : (y 1).val < 8 := (y 1).isLt
  have h2 : (y 2).val < 100000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8; omega
    · show 0 ≤ (y 2).val ∧ (y 2).val < 0 + 100000; omega
theorem ST_disjoint : ∀ s s' : Fin 2, s ≠ s' → Disjoint (ST s) (ST s') := by
  intro s s' hne; rw [Finset.disjoint_left]; intro y hy hy'; rw [mem_ST] at hy hy'; exact hne (Fin.ext (hy.symm.trans hy'))
theorem SE_disjoint : ∀ s s' : Fin 2, s ≠ s' → Disjoint (SE s) (SE s') := by
  intro s s' hne; rw [Finset.disjoint_left]; intro y hy hy'; rw [mem_SE] at hy hy'; exact hne (Fin.ext (hy.symm.trans hy'))
theorem ST_cover : (Finset.univ : Finset (Fin 2)).biUnion ST = Finset.univ := by
  ext y; simp only [Finset.mem_biUnion, Finset.mem_univ, true_and, iff_true]; exact ⟨(y 0).cast (by decide), by rw [mem_ST]; rfl⟩
theorem SE_cover : (Finset.univ : Finset (Fin 2)).biUnion SE = Finset.univ := by
  ext y; simp only [Finset.mem_biUnion, Finset.mem_univ, true_and, iff_true]; exact ⟨(y 0).cast (by decide), by rw [mem_SE]; rfl⟩

theorem slotT_eq (c : Dev nD) (s : Fin 2) (f) : pt c (tslot s) f = (((c : Thread nD τ).loc cc1_scratch0) ↦[ST s]{fullShare} f : sProp 𝕄) :=
  congrArg (fun S => (_ ↦[S]{fullShare} f : sProp 𝕄)) (tslot_set s)
theorem slotE_eq (c : Dev nD) (s : Fin 2) (f) : pt c (eslot s) f = (((c : Thread nD τ).loc cc1_scratch1) ↦[SE s]{fullShare} f : sProp 𝕄) :=
  congrArg (fun S => (_ ↦[S]{fullShare} f : sProp 𝕄)) (eslot_set s)

theorem bufT_split (c : Dev nD) :
    iprop(∃ f : Buf (Elt F) ((c : Thread nD τ).loc cc1_scratch0), ((c : Thread nD τ).loc cc1_scratch0) ↦{fullShare} f)
      ⊢ (iprop((∃ f, pt c (tslot 0) f) ∗ ∃ f, pt c (tslot 1) f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc1_scratch0) ST ST_disjoint ST_cover f).trans (bigSep_fin2 _))) $$ H
  icases H2 with ⟨H0, H1⟩
  isplitl [H0]
  · iexists f; iapply (entails_of_eq (slotT_eq c 0 f).symm); iexact H0
  · iexists f; iapply (entails_of_eq (slotT_eq c 1 f).symm); iexact H1
theorem bufT_join (c : Dev nD) :
    iprop((∃ f, pt c (tslot 0) f) ∗ ∃ f, pt c (tslot 1) f)
      ⊢ (iprop(∃ f : Buf (Elt F) ((c : Thread nD τ).loc cc1_scratch0), ((c : Thread nD τ).loc cc1_scratch0) ↦{fullShare} f) : sProp 𝕄) := by
  iintro ⟨⟨%f0, H0⟩, ⟨%f1, H1⟩⟩
  iapply (Ring.pointsTo_blocks_join_exists (ℓ := (c : Thread nD τ).loc cc1_scratch0) ST ST_disjoint ST_cover f0)
  irw [bigSep_fin2]
  isplitl [H0]
  · iexists f0; iapply (entails_of_eq (slotT_eq c 0 f0)); iexact H0
  · iexists f1; iapply (entails_of_eq (slotT_eq c 1 f1)); iexact H1
theorem bufE_split (c : Dev nD) :
    iprop(∃ f : Buf (Elt F) ((c : Thread nD τ).loc cc1_scratch1), ((c : Thread nD τ).loc cc1_scratch1) ↦{fullShare} f)
      ⊢ (iprop((∃ f, pt c (eslot 0) f) ∗ ∃ f, pt c (eslot 1) f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc1_scratch1) SE SE_disjoint SE_cover f).trans (bigSep_fin2 _))) $$ H
  icases H2 with ⟨H0, H1⟩
  isplitl [H0]
  · iexists f; iapply (entails_of_eq (slotE_eq c 0 f).symm); iexact H0
  · iexists f; iapply (entails_of_eq (slotE_eq c 1 f).symm); iexact H1
theorem bufE_join (c : Dev nD) :
    iprop((∃ f, pt c (eslot 0) f) ∗ ∃ f, pt c (eslot 1) f)
      ⊢ (iprop(∃ f : Buf (Elt F) ((c : Thread nD τ).loc cc1_scratch1), ((c : Thread nD τ).loc cc1_scratch1) ↦{fullShare} f) : sProp 𝕄) := by
  iintro ⟨⟨%f0, H0⟩, ⟨%f1, H1⟩⟩
  iapply (Ring.pointsTo_blocks_join_exists (ℓ := (c : Thread nD τ).loc cc1_scratch1) SE SE_disjoint SE_cover f0)
  irw [bigSep_fin2]
  isplitl [H0]
  · iexists f0; iapply (entails_of_eq (slotE_eq c 0 f0)); iexact H0
  · iexists f1; iapply (entails_of_eq (slotE_eq c 1 f1)); iexact H1

/-! ## The kernel's own semaphores -/

abbrev osem : Fin 4 → SemLoc sig := ![.dma (tsm 0).sem, .dma (esm 0).sem, .dma (tsm 1).sem, .dma (esm 1).sem]
theorem ownSemFacts : Pipeline.OwnSemFacts spec1 osem := by decide
theorem ownSems0_eq (c : Dev nD) : (Pipeline.ownSems0 (Ix := Unit) (Name := ℕ) (U := UU nD τ) (Lvl := ℕ) (Val := Elt F) (τ := τ) osem c : sProp 𝕄)
    = iprop(cT c 0 ∗ cE c 0 ∗ cT c 1 ∗ cE c 1) := by
  unfold Pipeline.ownSems0
  exact bigSep_univ_eq_bigSepL [(0 : Fin 4), (1 : Fin 4), (2 : Fin 4), (3 : Fin 4)] (by decide) (by decide) _

/-! ## The slots from point to point -/

section State
variable (c : Dev nD) (XT : Bf (F := F) c tgtM) (XE : Bf (F := F) c edM)

/-- The slots before the point numbered `k`: what the point expects, or both idle past the last one. -/
def slotsAt (k : ℕ) : sProp 𝕄 :=
  if h : k < grid1.N then ent c XT XE (grid1.coords ⟨k, h⟩) else iprop(free c XT XE 0 ∗ free c XT XE 1)

theorem step_mid : ∀ t : Fin grid1.N, (grid1.coords t 1).val + 1 < 16 → ∃ h : t.val + 1 < grid1.N,
    (grid1.coords ⟨t.val + 1, h⟩ 1).val ≠ 0 ∧ jS (grid1.coords ⟨t.val + 1, h⟩) = jN (grid1.coords t)
      ∧ jN (grid1.coords ⟨t.val + 1, h⟩) = jS (grid1.coords t) ∧ rq (grid1.coords ⟨t.val + 1, h⟩) = rqn (grid1.coords t) := by
  decide +kernel
theorem step_end : ∀ t : Fin grid1.N, ¬ (grid1.coords t 1).val + 1 < 16 →
    (∀ h : t.val + 1 < grid1.N, (grid1.coords ⟨t.val + 1, h⟩ 1).val = 0) ∧ jS (grid1.coords t) = 1 ∧ jN (grid1.coords t) = 0 := by
  decide +kernel

theorem slots_step (t : Fin grid1.N) :
    iprop(free c XT XE (jS (grid1.coords t)) ∗ nxt c XT XE (grid1.coords t)) ⊢ slotsAt c XT XE (t.val + 1) := by
  unfold nxt slotsAt
  by_cases h : (grid1.coords t 1).val + 1 < 16
  · obtain ⟨hl, h0, h1, h2, h3⟩ := step_mid t h
    rw [if_pos h, dif_pos hl]
    unfold ent
    rw [if_neg h0, h1, h2, h3]
    iintro ⟨Ha, Hb⟩
    isplitl [Hb] <;> iassumption
  · obtain ⟨h0, h1, h2⟩ := step_end t h
    rw [if_neg h, h1, h2]
    by_cases hl : t.val + 1 < grid1.N
    · rw [dif_pos hl]
      unfold ent
      rw [if_pos (h0 hl)]
      iintro ⟨Ha, Hb⟩
      isplitl [Hb] <;> iassumption
    · rw [dif_neg hl]
      iintro ⟨Ha, Hb⟩
      isplitl [Hb] <;> iassumption

/-- The buffers that stage the first call's windows: not used here. -/
def others : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f))

/-- What is held between the points of the second call. -/
def Φ1 (k : ℕ) : sProp 𝕄 :=
  iprop(slotsAt c XT XE k ∗ (∃ fe, pt c etM fe) ∗ (∃ fq, pt c qM fq) ∗ others c ∗ ∃ r, prngReg c r)

/-- The two operands left in HBM, each whole, are a half for each slot. -/
theorem free_of (P : sProp 𝕄) :
    iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ Pipeline.ownSems0 (Ix := Unit) (Name := ℕ) (U := UU nD τ) (Lvl := ℕ) (Val := Elt F) (τ := τ) osem c
      ∗ ((c : Thread nD τ).loc main_arg1 ↦{fullShare} XT) ∗ ((c : Thread nD τ).loc main_call0_v6_0 ↦{fullShare} XE))
      ⊢ iprop(free c XT XE 0 ∗ free c XT XE 1) := by
  iintro ⟨HT, HE, Hs, HA, HB⟩
  ihave HT' := (bufT_split c) $$ HT
  icases HT' with ⟨HT0, HT1⟩
  ihave HE' := (bufE_split c) $$ HE
  icases HE' with ⟨HE0, HE1⟩
  ihave Hs' := (entails_of_eq (ownSems0_eq c)) $$ Hs
  icases Hs' with ⟨Ha0, Hb0, Ha1, Hb1⟩
  ihave HA' := (halves XT).1 $$ HA
  icases HA' with ⟨HA0, HA1⟩
  ihave HB' := (halves XE).1 $$ HB
  icases HB' with ⟨HB0, HB1⟩
  isplitl [HT0 HE0 Ha0 Hb0 HA0 HB0]
  · isplitl [HT0]; · iexact HT0
    isplitl [HE0]; · iexact HE0
    isplitl [Ha0]; · iexact Ha0
    isplitl [Hb0]; · iexact Hb0
    isplitl [HA0] <;> iassumption
  · isplitl [HT1]; · iexact HT1
    isplitl [HE1]; · iexact HE1
    isplitl [Ha1]; · iexact Ha1
    isplitl [Hb1]; · iexact Hb1
    isplitl [HA1] <;> iassumption
theorem of_free :
    iprop(free c XT XE 0 ∗ free c XT XE 1) ⊢
    iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ Pipeline.ownSems0 (Ix := Unit) (Name := ℕ) (U := UU nD τ) (Lvl := ℕ) (Val := Elt F) (τ := τ) osem c
      ∗ ((c : Thread nD τ).loc main_arg1 ↦{fullShare} XT) ∗ ((c : Thread nD τ).loc main_call0_v6_0 ↦{fullShare} XE)) := by
  iintro ⟨⟨HT0, HE0, Ha0, Hb0, HA0, HB0⟩, ⟨HT1, HE1, Ha1, Hb1, HA1, HB1⟩⟩
  isplitl [HT0 HT1]
  · iapply (bufT_join c); isplitl [HT0] <;> iassumption
  isplitl [HE0 HE1]
  · iapply (bufE_join c); isplitl [HE0] <;> iassumption
  isplitl [Ha0 Hb0 Ha1 Hb1]
  · iapply (entails_of_eq (ownSems0_eq c).symm)
    isplitl [Ha0]; · iexact Ha0
    isplitl [Hb0]; · iexact Hb0
    isplitl [Ha1] <;> iassumption
  isplitl [HA0 HA1]
  · iapply (halves XT).2; isplitl [HA0] <;> iassumption
  · iapply (halves XE).2; isplitl [HB0] <;> iassumption

end State

/-! ## The proof data -/

section Data
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a point writes: the sixteen entries of its request's row. -/
def outAt1 (c : Dev nD) (t : Fin cfg1.N) : S1x16x1.Idx → Elt F .i32 :=
  outRow (etTab ((iblk1 V c 0 t : S32.Idx → Elt F .f32) (ix1 (rq (grid1.coords t)))) (b81 (grid1.coords t)) ((tgrp (rq (grid1.coords t))).view.read (Elt F) (V c main_arg1)))
    ((egrp (rq (grid1.coords t))).view.read (Elt F) (V c main_call0_v6_0))
    (qTab (b92 (grid1.coords t)) (iblk1 V c 2 t : S8x100000.Idx → Elt F .f32)) (iblk1 V c 4 t : S1x8x1.Idx → Elt F .f32) (iblk1 V c 3 t : S1x16x1.Idx → Elt F .i32)
    (iblk1 V c 5 t : S8x1.Idx → Elt F .f32) ((iblk1 V c 1 t : S32.Idx → Elt F .i32) (ix1 (rq (grid1.coords t))))

def dat1 (c : Dev nD) : Dat τ (Elt F) Unit ℕ (UU nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := Φ1 c (V c main_arg1) (V c main_call0_v6_0) t.val
  q _ := fullShare
  owed _ := 0

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

end Data

end Cert.KernelIdeal.Proof
-- ==== Proof.Body0.lean ====
module

public import proofs.«01_k».proof.Proof.Region1
public import Idealize.ShloMosaic.Lib.Pipeline.Value
public import proofs.«01_k».proof.Proof.Gen.KernelIdeal.Skeleton

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The first call's body on whole buffers -/

/-- The row of the temperatures and of the sums. -/
abbrev R0 : Rect S8x256 := Rect.unit (s := S8x256) ![0, 0] S1x256.size inb_S8x256_S1x256_0_0

/-- Row 0 of eight. -/
def row0 (X : Vec F S8x256 .f32) : Vec F S1x256 .f32 := fun j => X (R0.emb j)

theorem row0_writes {κ : Kind} {sp : Space} (v : View sig κ sp S8x256 .f32) (f : v.ty.Contents (Elt F)) (w : Vec F S1x256 .f32) (L : List (View.Piece (Elt F) S8x256 .f32)) :
    row0 (v.read (Elt F) (v.writes (Elt F) f (⟨R0, w⟩ :: L))) = w :=
  funext fun j => View.read_writes_cons_unit_of_mem v f inb_S8x256_S1x256_0_0 w L _ j rfl fun a => by
    show (![0, 0] : Fin 2 → ℕ) a + 1 * (j a).val = (![0, 0] : Fin 2 → ℕ) a + (j a).val
    rw [Nat.one_mul]

theorem cond0_1 : ∀ i : grid0.Coords, k0_cond1 i = 1#1 ↔ (i 0).val = 0 := by decide +kernel
theorem cond0_2 : ∀ i : grid0.Coords, k0_cond2 i = 1#1 ↔ (i 0).val ≠ 0 := by decide +kernel

section
variable (c : Dev nD) (i : grid0.Coords)
  (M1 : Memref sig .tc .vmem S1024x256 .f32) (h1 : M1.IsWhole) (M2 : Memref sig .tc .vmem S8x256 .f32) (h2 : M2.IsWhole)
  (M3 : Memref sig .tc .vmem S256x1024 .f32) (h3 : M3.IsWhole) (M4 : Memref sig .tc .vmem S8x256 .f32) (h4 : M4.IsWhole)

theorem prep_first (hc1 : k0_cond1 i = 1#1) (hc2 : ¬ k0_cond2 i = 1#1) (f1 : Bf (F := F) c M1) (f2 : Bf (F := F) c M2) (f3 : Bf (F := F) c M3) (f4 : Bf (F := F) c M4) (Q : PUnit → sProp 𝕄) :
    iprop(pt c M1 f1 ∗ pt c M2 f2 ∗ pt c M3 f3 ∗ pt c M4 f4
        ∗ (∀ f3' f4', iprop(⌜M3.view.read (Elt F) f3' = k0_pay2 (row0 (M2.view.read (Elt F) f2)) (M1.view.read (Elt F) f1)
              ∧ row0 (M4.view.read (Elt F) f4') = k0_pay3 i (row0 (M2.view.read (Elt F) f2)) (M1.view.read (Elt F) f1)⌝
            ∗ pt c M1 f1 ∗ pt c M2 f2 ∗ pt c M3 f3' ∗ pt c M4 f4') -∗ Q ⟨⟩))
      ⊢ wp frame (wpE (defs₀ (F := F)) 𝒱₀ (c : Thread nD τ) none) Set.univ (cc0__draft_prep_kernel i M1 h1 M2 h2 M3 h3 M4 h4) Q := by
  rw [cc0__draft_prep_kernel_eq_skeleton]
  unfold cc0__draft_prep_kernel_skel
  simp only [hc1, hc2, ↓reduceDIte]
  iintro ⟨H1, H2, H3, H4, Hk⟩
  sl_exec
  sl_step
  have e1 : M1.view.readAt (Elt F) (Rect.unit (s := S1024x256) ![0, 0] S1024x256.size inb_S1024x256_S1024x256_0_0).toLoadRect f1 = M1.view.read (Elt F) f1 := View.readAt_full M1.view f1 inb_S1024x256_S1024x256_0_0
  have e2 : M2.view.readAt (Elt F) R0.toLoadRect f2 = row0 (M2.view.read (Elt F) f2) := rfl
  iapply Hk
  isplitr
  swap
  · isplitl [H1]; · iexact H1
    isplitl [H2]; · iexact H2
    isplitl [H3]; · iexact H3
    iexact H4
  ipureintro
  refine ⟨(View.read_writes_full M3.view f3 inb_S256x1024_S256x1024_0_0 _ []).trans ?_, (row0_writes M4.view f4 _ []).trans ?_⟩
  · rw [e1, e2]
  · rw [e1, e2]

theorem prep_next (hc1 : ¬ k0_cond1 i = 1#1) (hc2 : k0_cond2 i = 1#1) (f1 : Bf (F := F) c M1) (f2 : Bf (F := F) c M2) (f3 : Bf (F := F) c M3) (f4 : Bf (F := F) c M4) (Q : PUnit → sProp 𝕄) :
    iprop(pt c M1 f1 ∗ pt c M2 f2 ∗ pt c M3 f3 ∗ pt c M4 f4
        ∗ (∀ f3' f4', iprop(⌜M3.view.read (Elt F) f3' = k0_pay2 (row0 (M2.view.read (Elt F) f2)) (M1.view.read (Elt F) f1)
              ∧ row0 (M4.view.read (Elt F) f4') = k0_pay4 i (row0 (M2.view.read (Elt F) f2)) (M1.view.read (Elt F) f1) (row0 (M4.view.read (Elt F) f4))⌝
            ∗ pt c M1 f1 ∗ pt c M2 f2 ∗ pt c M3 f3' ∗ pt c M4 f4') -∗ Q ⟨⟩))
      ⊢ wp frame (wpE (defs₀ (F := F)) 𝒱₀ (c : Thread nD τ) none) Set.univ (cc0__draft_prep_kernel i M1 h1 M2 h2 M3 h3 M4 h4) Q := by
  rw [cc0__draft_prep_kernel_eq_skeleton]
  unfold cc0__draft_prep_kernel_skel
  simp only [hc1, hc2, ↓reduceDIte]
  iintro ⟨H1, H2, H3, H4, Hk⟩
  sl_exec
  sl_step
  have e1 : M1.view.readAt (Elt F) (Rect.unit (s := S1024x256) ![0, 0] S1024x256.size inb_S1024x256_S1024x256_0_0).toLoadRect f1 = M1.view.read (Elt F) f1 := View.readAt_full M1.view f1 inb_S1024x256_S1024x256_0_0
  have e2 : M2.view.readAt (Elt F) R0.toLoadRect f2 = row0 (M2.view.read (Elt F) f2) := rfl
  have e4 : M4.view.readAt (Elt F) R0.toLoadRect f4 = row0 (M4.view.read (Elt F) f4) := rfl
  iapply Hk
  isplitr
  swap
  · isplitl [H1]; · iexact H1
    isplitl [H2]; · iexact H2
    isplitl [H3]; · iexact H3
    iexact H4
  ipureintro
  refine ⟨(View.read_writes_full M3.view f3 inb_S256x1024_S256x1024_0_0 _ []).trans ?_, (row0_writes M4.view f4 _ []).trans ?_⟩
  · rw [e1, e2]
  · rw [e1, e2, e4]

end

/-! ## What a cut block leaves open does not matter -/

theorem coords0 : ∀ t : Fin cfg0.N, (grid0.coords t 0).val = t.val := by decide +kernel
theorem xsize0_0 : ∀ i : grid0.Coords, win0_0.xsize i = ![min 1024 (100000 - 1024 * (i 0).val), 256] := by decide +kernel
theorem xsize0_2 : ∀ i : grid0.Coords, win0_2.xsize i = ![256, min 1024 (100000 - 1024 * (i 0).val)] := by decide +kernel

theorem moved0_0 (i : grid0.Coords) (j : S1024x256.Idx) (h : 1024 * (i 0).val + (j 0).val < 100000) : win0_0.moved i j = true := by
  rw [Pipeline.Window.moved_iff]
  rw [xsize0_0]
  have h0 : (j 0).val < 1024 := (j 0).isLt
  have h1 : (j 1).val < 256 := (j 1).isLt
  intro a
  fin_cases a
  · show (j 0).val < min 1024 (100000 - 1024 * (i 0).val); omega
  · exact h1

theorem pay1_congr (T : Vec F S1x256 .f32) {X X' : Vec F S1024x256 .f32} {y : S1024x256.Idx} (h : X y = X' y) : k0_pay1 T X y = k0_pay1 T X' y := by
  unfold k0_pay1
  rw [shapeCast_self, shapeCast_self, shapeCast_self]
  show FloatOps.exp (FloatOps.divf (X y) _) = FloatOps.exp (FloatOps.divf (X' y) _)
  rw [h]

def swp (j : S256x1024.Idx) : S1024x256.Idx := fun | 0 => j 1 | 1 => j 0
theorem pay2_apply (T : Vec F S1x256 .f32) (X : Vec F S1024x256 .f32) (j : S256x1024.Idx) : k0_pay2 T X j = k0_pay1 T X (swp j) := by
  unfold k0_pay2
  refine transpose_apply _ _ _ j (swp j) fun b => ?_
  fin_cases b <;> rfl

/-- The contents agree on the rows inside the array. -/
def Agree (i : grid0.Coords) (X X' : Vec F S1024x256 .f32) : Prop :=
  ∀ y : S1024x256.Idx, 1024 * (i 0).val + (y 0).val < 100000 → X y = X' y

theorem cut_pay2 (i : grid0.Coords) (T : Vec F S1x256 .f32) {X X' : Vec F S1024x256 .f32} (h : Agree i X X') :
    win0_2.cut i (k0_pay2 T X) = win0_2.cut i (k0_pay2 T X') := by
  funext j
  show k0_pay2 T X (win0_2.xinj i j) = k0_pay2 T X' (win0_2.xinj i j)
  have hj : (j 1).val < win0_2.xsize i 1 := (j 1).isLt
  rw [xsize0_2] at hj
  have hj' : (j 1).val < min 1024 (100000 - 1024 * (i 0).val) := hj
  rw [pay2_apply, pay2_apply]
  refine pay1_congr T (h _ ?_)
  show 1024 * (i 0).val + (j 1).val < 100000
  omega

theorem mask_lt (i : Fin 98) (y : Fin 1024) (h : 1#1 = BitVec.ofBool ((BitVec.ofNat 32 y.val + BitVec.ofNat 32 i.val * 1024#32).slt 100000#32)) :
    1024 * i.val + y.val < 100000 := by
  have hi := i.isLt
  have hy := y.isLt
  have e : BitVec.ofNat 32 y.val + BitVec.ofNat 32 i.val * 1024#32 = BitVec.ofNat 32 (y.val + i.val * 1024) := by
    apply BitVec.eq_of_toNat_eq
    simp only [BitVec.toNat_add, BitVec.toNat_mul, BitVec.toNat_ofNat]
    omega
  rw [e] at h
  have h2 : ((BitVec.ofNat 32 (y.val + i.val * 1024)).slt 100000#32) = true := by
    cases hb : ((BitVec.ofNat 32 (y.val + i.val * 1024)).slt 100000#32)
    · rw [hb] at h; exact absurd h (by decide)
    · rfl
  have h3 := BitVec.slt_iff_toInt_lt.mp h2
  rw [BitVec.toInt_eq_toNat_of_lt (by simp only [BitVec.toNat_ofNat]; omega), BitVec.toNat_ofNat] at h3
  have h4 : (100000#32 : BitVec 32).toInt = 100000 := by decide
  rw [h4] at h3
  omega

theorem pay3_congr (i : grid0.Coords) (T : Vec F S1x256 .f32) {X X' : Vec F S1024x256 .f32} (h : Agree i X X') :
    k0_pay3 i T X = k0_pay3 i T X' := by
  unfold k0_pay3
  dsimp only
  refine congrArg (fun v => shapeCast S1x256 (multiReduction .add [0] S256 v 0x00000000#32 reduces_S1024x256_S256 (.inl rfl) rfl) shapeCasts_S256_S1x256) (funext fun y => ?_)
  rw [shapeCast_self]
  show Scalar.select _ (k0_pay1 T X y) _ = Scalar.select _ (k0_pay1 T X' y) _
  unfold Scalar.select
  split
  · rename_i hm
    let k : S1024x1.Idx := fun | 0 => y 0 | 1 => (0 : Fin 1)
    rw [broadcastTo_apply (s := S1024x1) (t := S1024x256) _ _ y k (fun a => by fin_cases a <;> rfl)] at hm
    have hm' : 1#1 = BitVec.ofBool ((BitVec.ofNat 32 (0 * 1024 + (y 0).val) + BitVec.ofNat 32 (i 0).val * 1024#32).slt 100000#32) := hm.symm
    rw [Nat.zero_mul, Nat.zero_add] at hm'
    exact pay1_congr T (h y (mask_lt (i 0) (y 0) hm'))
  · rfl

theorem pay4_congr (i : grid0.Coords) (T : Vec F S1x256 .f32) {X X' : Vec F S1024x256 .f32} (h : Agree i X X') (v : Vec F S1x256 .f32) :
    k0_pay4 i T X v = k0_pay4 i T X' v := by
  unfold k0_pay4
  rw [pay3_congr i T h]

end Cert.KernelIdeal.Proof
-- ==== Proof.Region0.lean ====
module

public import proofs.«01_k».proof.Proof.Body0
public import Idealize.ShloMosaic.Lib.Pipeline.DatRel

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UU nD τ) ℕ

section Data
variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' block at point `t`, its rows past the array's end holding `d`. -/
def xin (c : Dev nD) (t : Fin cfg0.N) (d : Vec F S1024x256 .f32) : Vec F S1024x256 .f32 := win0_0.fill (grid0.coords t) d (iblk0 V c 0 t)

/-- The temperatures' row. -/
def trow (c : Dev nD) (t : Fin cfg0.N) : Vec F S1x256 .f32 := row0 (iblk0 V c 1 t : S8x256.Idx → Elt F .f32)

/-- Some contents. -/
def zro : Vec F S1024x256 .f32 := fun _ => FloatOps.ofBits .f32 0#32

theorem xin_agree (c : Dev nD) (t : Fin cfg0.N) (d d' : Vec F S1024x256 .f32) : Agree (grid0.coords t) (xin V c t d) (xin V c t d') := by
  intro y hy
  have hm := moved0_0 (grid0.coords t) y hy
  unfold xin Window.fill
  dsimp only
  rw [dif_pos hm, dif_pos hm]

/-- The running sums after point `k`. -/
def accRow (c : Dev nD) : ℕ → Vec F S1x256 .f32
  | 0 => k0_pay3 (grid0.coords (0 : Fin 98)) (trow V c (0 : Fin 98)) (xin V c (0 : Fin 98) zro)
  | k + 1 => if h : k + 1 < 98 then k0_pay4 (grid0.coords (⟨k + 1, h⟩ : Fin 98)) (trow V c (⟨k + 1, h⟩ : Fin 98)) (xin V c (⟨k + 1, h⟩ : Fin 98) zro) (accRow c k) else accRow c k

def dat0 (c : Dev nD) : Dat τ (Elt F) Unit ℕ (UU nD τ) ℕ cfg0 c where
  A w := V c (Pipeline.arrRef spec0 w)
  after w t := match w with
    | ⟨0, _⟩ => xin V c t zro
    | ⟨1, _⟩ => iblk0 V c 1 t
    | ⟨2, _⟩ => k0_pay2 (trow V c t) (xin V c t zro)
    | ⟨3, _⟩ => fun _ => FloatOps.ofBits .f32 0#32
  Φ _ := iprop(Pipeline.scopedRest (Ix := Unit) (Name := ℕ) (U := UU nD τ) (Lvl := ℕ) (Val := Elt F) (τ := τ) spec0 c ∗ ∃ r, prngReg c r)
  q _ := fullShare
  owed _ := 0

/-- The window whose contents are known in their first row only. -/
def fgt0 : Fin cfg0.W → Bool := fun w => decide (w = 3)
def rl0 (c : Dev nD) : (w : Fin cfg0.W) → Fin cfg0.N → ((cfg0.win w).block.Idx → Elt F (cfg0.win w).elt) → Prop
  | ⟨3, _⟩, t, X => row0 (X : S8x256.Idx → Elt F .f32) = accRow V c t.val
  | _, _, _ => True

theorem before0_0 (c : Dev nD) (t : Fin cfg0.N) (d) : (dat0 V c).before 0 t d = xin V c t d := by
  unfold Dat.before
  rw [if_pos (fetch0_0 t)]
  rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem after0_0 (c : Dev nD) (t : Fin cfg0.N) : (dat0 V c).after 0 t = xin V c t zro := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (trow V c t) (xin V c t zro) := by dsimp only [dat0]

theorem coords_ne : ∀ t : Fin cfg0.N, t.val ≠ 0 → (cfg0.win 3).fetch t = false := by decide +kernel

/-- What the body finds in the running sums after the first point. -/
theorem finds0_3 (c : Dev nD) (t : Fin cfg0.N) (ht : t.val ≠ 0) (X : S8x256.Idx → Elt F .f32)
    (h : ((dat0 V c).toRRel fgt0 (rl0 V c)).Finds 3 t X) : row0 X = accRow V c (t.val - 1) := by
  rcases (RDat.finds_of_pos _ (coords_ne t ht) ht X).mp h with h1 | h1
  · have := (flush0_3 _).mp h1
    have h2 : t.val < 98 := t.isLt
    dsimp only at this
    omega
  · exact (dat0 V c).toRRel_leaves (w := 3) rfl h1

theorem prog_eq0 (t : Fin cfg0.N) : (defs₀ (F := F)) .tc cfg0.body (cfg0.bodyArgs t (cfg0.slots t)) = bodyAt0 t := rfl

theorem cut_eq (c : Dev nD) (t : Fin cfg0.N) (d : Vec F S1024x256 .f32) :
    win0_2.cut (grid0.coords t) (k0_pay2 (trow V c t) (xin V c t d)) = win0_2.cut (grid0.coords t) (k0_pay2 (trow V c t) (xin V c t zro)) :=
  cut_pay2 _ _ (xin_agree V c t d zro)

theorem accRow_first (c : Dev nD) (t : Fin cfg0.N) (ht : t.val = 0) (d : Vec F S1024x256 .f32) :
    k0_pay3 (grid0.coords t) (trow V c t) (xin V c t d) = accRow V c t.val := by
  rw [pay3_congr _ _ (xin_agree V c t d zro), ht]
  have : t = (0 : Fin 98) := Fin.ext ht
  subst this
  rfl
theorem accRow_next (c : Dev nD) (t : Fin cfg0.N) (ht : t.val ≠ 0) (d : Vec F S1024x256 .f32) :
    k0_pay4 (grid0.coords t) (trow V c t) (xin V c t d) (accRow V c (t.val - 1)) = accRow V c t.val := by
  rw [pay4_congr _ _ (xin_agree V c t d zro)]
  obtain ⟨k, hk⟩ := t
  cases k with
  | zero => exact absurd rfl ht
  | succ k =>
    have hk' : k + 1 < 98 := hk
    show _ = accRow V c (k + 1)
    rw [accRow, dif_pos hk']
    rfl

theorem xin_cut (c : Dev nD) (t : Fin cfg0.N) (d : Vec F S1024x256 .f32) :
    xin V c t d = win0_0.fill (grid0.coords t) d (win0_0.cut (grid0.coords t) (xin V c t zro)) := by
  unfold xin
  rw [Window.cut_fill]

set_option maxHeartbeats 4000000 in
set_option backward.isDefEq.respectTransparency.types false in
theorem body0 (c : Dev nD) : BodyObligationRel (dat0 V c) (defs₀ (F := F)) 𝒱₀ () Set.univ fgt0 (rl0 V c) := fun t => by
  rw [bigSep_W0, bigSep_W0]
  dsimp only
  simp only [before0_0, before0_1, after0_0, after0_1, after0_2, show fgt0 0 = false from rfl, show fgt0 1 = false from rfl, show fgt0 2 = false from rfl, show fgt0 3 = true from rfl]
  unfold Dat.owesAt Pipeline.owesWithin
  rw [show (dat0 V c).owed t.castSucc = 0 from rfl, show (dat0 V c).owed t.succ = 0 from rfl]
  unfold owns
  have h98 : t.val < 98 := t.isLt
  by_cases ht : t.val = 0
  · have hc1 : k0_cond1 (grid0.coords t) = 1#1 := (cond0_1 _).mpr ((coords0 t).trans ht)
    have hc2 : ¬ k0_cond2 (grid0.coords t) = 1#1 := fun h => (cond0_2 _).mp h ((coords0 t).trans ht)
    iintro ⟨HΦ, ⟨%W, -, HW⟩, ⟨%d0, %g0, %e0, H0⟩, ⟨%d1, %g1, %e1, H1⟩, ⟨%d2, %g2, %e2, H2⟩, ⟨%Y, %hY, %g3, %e3, H3⟩⟩
    sl_rw [prog_eq0 t]
    unfold bodyAt0
    iapply (prep_first c (grid0.coords t) _ _ _ _ _ _ _ _ hc1 hc2 g0 g1 g2 g3)
    isplitl [H0]; · iexact H0
    isplitl [H1]; · iexact H1
    isplitl [H2]; · iexact H2
    isplitl [H3]; · iexact H3
    iintro %f3' %f4' ⟨%hout, H0, H1, H2, H3⟩
    rw [e0, e1] at hout
    isplitl [HΦ]; · iapply (show (dat0 V c).Φ t.castSucc ⊢ (dat0 V c).Φ t.succ from .rfl); iexact HΦ
    isplitl [HW]
    · iexists W; isplitr; · ipureintro; exact fun _ _ => Or.inl trivial
      iexact HW
    isplitl [H0]; · iexists d0; iexists _; isplitr; swap; (· iexact H0); ipureintro; exact e0.trans (xin_cut V c t d0)
    isplitl [H1]; · iexists _; isplitr; swap; (· iexact H1); ipureintro; exact e1
    isplitl [H2]
    · iexists _; iexists _; isplitr; swap; (· iexact H2); ipureintro
      exact (Window.fill_congr_cut win0_2 (grid0.coords t) ((congrArg (win0_2.cut (grid0.coords t)) hout.1).trans (cut_eq V c t d0))).symm
    iexists _; isplitr; swap
    · iexists _; isplitr; swap; (· iexact H3); ipureintro; rfl
    ipureintro
    exact hout.2.trans (accRow_first V c t ht d0)
  · have hc1 : ¬ k0_cond1 (grid0.coords t) = 1#1 := fun h => ht ((coords0 t).symm.trans ((cond0_1 _).mp h))
    have hc2 : k0_cond2 (grid0.coords t) = 1#1 := (cond0_2 _).mpr fun h => ht ((coords0 t).symm.trans h)
    iintro ⟨HΦ, ⟨%W, -, HW⟩, ⟨%d0, %g0, %e0, H0⟩, ⟨%d1, %g1, %e1, H1⟩, ⟨%d2, %g2, %e2, H2⟩, ⟨%Y, %hY, %g3, %e3, H3⟩⟩
    have hY' := finds0_3 V c t ht Y hY
    sl_rw [prog_eq0 t]
    unfold bodyAt0
    iapply (prep_next c (grid0.coords t) _ _ _ _ _ _ _ _ hc1 hc2 g0 g1 g2 g3)
    isplitl [H0]; · iexact H0
    isplitl [H1]; · iexact H1
    isplitl [H2]; · iexact H2
    isplitl [H3]; · iexact H3
    iintro %f3' %f4' ⟨%hout, H0, H1, H2, H3⟩
    rw [e0, e1, e3, hY'] at hout
    isplitl [HΦ]; · iapply (show (dat0 V c).Φ t.castSucc ⊢ (dat0 V c).Φ t.succ from .rfl); iexact HΦ
    isplitl [HW]
    · iexists W; isplitr; · ipureintro; exact fun _ _ => Or.inl trivial
      iexact HW
    isplitl [H0]; · iexists d0; iexists _; isplitr; swap; (· iexact H0); ipureintro; exact e0.trans (xin_cut V c t d0)
    isplitl [H1]; · iexists _; isplitr; swap; (· iexact H1); ipureintro; exact e1
    isplitl [H2]
    · iexists _; iexists _; isplitr; swap; (· iexact H2); ipureintro
      exact (Window.fill_congr_cut win0_2 (grid0.coords t) ((congrArg (win0_2.cut (grid0.coords t)) hout.1).trans (cut_eq V c t d0))).symm
    iexists _; isplitr; swap
    · iexists _; isplitr; swap; (· iexact H3); ipureintro; rfl
    ipureintro
    exact hout.2.trans (accRow_next V c t ht d0)

end Data

end Cert.KernelIdeal.Proof
-- ==== Proof.Body1.lean ====
module

public import proofs.«01_k».proof.Proof.Region1

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The body at a point -/

section Body
variable (V : (c : Dev nD) → (b : Ref sig .tc) → Buf (Elt F) ((c : Thread nD τ).loc b))

theorem prog_eq1 (t : Fin cfg1.N) : (defs₀ (F := F)) .tc cfg1.body (cfg1.bodyArgs t (cfg1.slots t)) = bodyAt1 t := rfl

set_option maxHeartbeats 4000000 in
set_option backward.isDefEq.respectTransparency.types false in
theorem body1 (c : Dev nD) : BodyObligation (dat1 V c) (defs₀ (F := F)) 𝒱₀ () Set.univ := fun t => by
  rw [bigSep_W1, bigSep_W1]
  dsimp only
  simp only [before1_0, before1_1, before1_2, before1_3, before1_4, before1_5, after1_0, after1_1, after1_2, after1_3, after1_4, after1_5, after1_6]
  rw [show (dat1 V c).Φ t.castSucc = Φ1 c (V c main_arg1) (V c main_call0_v6_0) t.val from rfl,
    show (dat1 V c).Φ t.succ = Φ1 c (V c main_arg1) (V c main_call0_v6_0) (t.val + 1) from rfl]
  unfold Dat.owesAt Pipeline.owesWithin
  rw [show (dat1 V c).owed t.castSucc = 0 from rfl, show (dat1 V c).owed t.succ = 0 from rfl]
  unfold owns Φ1
  rw [show slotsAt c (V c main_arg1) (V c main_call0_v6_0) t.val = ent c (V c main_arg1) (V c main_call0_v6_0) (grid1.coords t) from by
    unfold slotsAt; rw [dif_pos t.isLt]]
  iintro ⟨⟨Hent, ⟨%fe, He⟩, ⟨%fq, Hq⟩, Hoth, Hp⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, -, H6⟩⟩
  sl_rw [prog_eq1 t]
  unfold bodyAt1
  iapply (point_spec (grid1.coords t) _ _ _ _ _ _ _ _ _ _ _ _ _ _ _ _ _ _ _ _ c (V c main_arg1) (V c main_call0_v6_0) g0 g1 g2 g3 g4 g5 g6 fe fq W)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [He]; · iexact He
  isplitl [Hq]; · iexact Hq
  isplitl [Hent]; · iexact Hent
  isplitl [HW]; · iexact HW
  iintro %f6' %fe' %fq' ⟨%hout, H0, H1, H2, H3, H4, H5, H6, He, Hq, Hs, ⟨%W', HW⟩⟩
  isplitl [Hs He Hq Hoth Hp]
  · isplitl [Hs]
    · iapply (slots_step c (V c main_arg1) (V c main_call0_v6_0) t); iexact Hs
    isplitl [He]; · iexists _; iexact He
    isplitl [Hq]; · iexists _; iexact Hq
    isplitl [Hoth] <;> iassumption
  isplitl [HW]
  · iexists W'; isplitr; · ipureintro; exact fun _ _ => Or.inl trivial
    iexact HW
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  iexists _; isplitr; swap; (· iexact H6); ipureintro
  rw [hout, e0, e1, e2, e3, e4, e5]
  rfl

end Body

end Cert.KernelIdeal.Proof
-- ==== Proof.Vals.lean ====
module

public import proofs.«01_k».proof.Proof.Region0
public import proofs.«01_k».proof.Proof.Body1
public import proofs.«01_k».proof.Proof.Gen.KernelIdeal.Regions
public import Idealize.ShloMosaic.Lib.Pipeline.ArrRel
public import Idealize.ShloMosaic.Lib.Pipeline.RegionArraysD
public import Idealize.ShloMosaic.Lib.Pipeline.RegionArraysF

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UU nD τ) ℕ

/-! ## Operations that do not touch a buffer do not see it -/

theorem result_off {b₀ : DevRef τ sig} (op : HloOp τ sig (Elt F)) (h : b₀ ∉ op.bufs) {V V' : Valuation τ sig (Elt F)}
    (hV : ∀ d, d ≠ b₀ → V d = V' d) : ∀ d, d ≠ b₀ → op.result V d = op.result V' d := by
  intro d hd
  unfold HloOp.result
  split
  · exact congrArg (op.fn · _) (funext fun b => hV b.1 fun e => h (e ▸ b.2))
  · exact hV d hd

theorem after_off {b₀ : DevRef τ sig} : ∀ (ops : List (HloOp τ sig (Elt F))) (h : ∀ op ∈ ops, b₀ ∉ op.bufs) {V V' : Valuation τ sig (Elt F)}
    (hV : ∀ d, d ≠ b₀ → V d = V' d), ∀ d, d ≠ b₀ → StableHlo.after ops V d = StableHlo.after ops V' d
  | [], _, _, _, hV => hV
  | op :: ops, h, _, _, hV => after_off ops (fun o ho => h o (List.mem_cons_of_mem _ ho)) (result_off op (h op List.mem_cons_self) hV)

/-! ## The buffers' contents -/

variable (m : (ℓ : Loc nD τ sig) → Buf (Elt F) ℓ)

/-- The unscoped buffers as the first call finds them. -/
abbrev val0 (c : Dev nD) (b : Ref sig .tc) : Buf (Elt F) ((c : Thread nD τ).loc b) := V1 m c b
/-- What the first call writes out in full. -/
def A2 (c : Dev nD) : Buf (Elt F) ((c : Thread nD τ).loc main_call0_v6_0) := (dat0 (val0 m) c).arrAt 2 cfg0.N
/-- After the first call, whose second result holds `X`. -/
def W2 (c : Dev nD) (X : Buf (Elt F) ((c : Thread nD τ).loc main_call0_v6_1)) : Valuation τ sig (Elt F) :=
  Function.update (Function.update (V1 m c) main_call0_v6_0 (A2 m c)) main_call0_v6_1 X
/-- The sums, as a block all of whose rows are the one row known. -/
def X0 (c : Dev nD) : Buf (Elt F) ((c : Thread nD τ).loc main_call0_v6_1) :=
  fun j : S8x256.Idx => accRow (val0 m) c 97 (fun | 0 => (0 : Fin 1) | 1 => j 1)
def W3 (c : Dev nD) (X : Buf (Elt F) ((c : Thread nD τ).loc main_call0_v6_1)) : Valuation τ sig (Elt F) := StableHlo.after hostOps1 (W2 m c X)
abbrev val1 (c : Dev nD) (b : Ref sig .tc) : Buf (Elt F) ((c : Thread nD τ).loc b) := W3 m c (X0 m c) b
def A4 (c : Dev nD) : Buf (Elt F) ((c : Thread nD τ).loc main_call0_v13) := (dat1 (val1 m) c).arrAt 6 cfg1.N
def W4 (c : Dev nD) : Valuation τ sig (Elt F) := Function.update (W3 m c (X0 m c)) main_call0_v13 (A4 m c)
def W5 (c : Dev nD) : Valuation τ sig (Elt F) := StableHlo.after hostOps2 (W4 m c)

abbrev b61 : DevRef τ sig := Proc.devRef .tc main_call0_v6_1

theorem W2_off (c : Dev nD) (X X' : Buf (Elt F) ((c : Thread nD τ).loc main_call0_v6_1)) (d : DevRef τ sig) (h : d ≠ b61) : W2 m c X d = W2 m c X' d := by
  unfold W2
  rw [Function.update_of_ne h, Function.update_of_ne h]
theorem W2_at (c : Dev nD) (X : Buf (Elt F) ((c : Thread nD τ).loc main_call0_v6_1)) : W2 m c X b61 = X := by
  unfold W2
  rw [Function.update_self]

abbrev op1 : HloOp τ sig (Elt F) :=
  StableHlo.TRef.unary (.of main_call0_v6_1 : StableHlo.TRef sig ⟨S8x256, .f32⟩) (.of main_call0_v7 : StableHlo.TRef sig ⟨S1x256, .f32⟩) (extractStridedSlice S1x256 ![0, 0] · slices_S8x256_S1x256_0_0)

theorem nin2 (x y : Ref sig .tc) (hx : x ≠ main_call0_v6_1) (hy : y ≠ main_call0_v6_1) :
    b61 ∉ ({Proc.devRef .tc x, Proc.devRef .tc y} : Finset (DevRef τ sig)) := by
  rw [Finset.mem_insert, Finset.mem_singleton]
  exact not_or.mpr ⟨(StableHlo.devRef_ne_of_ne hx).symm, (StableHlo.devRef_ne_of_ne hy).symm⟩

theorem tail1_off : ∀ op ∈ (hostOps1.tail : List (HloOp τ sig (Elt F))), b61 ∉ op.bufs := by
  intro op hop
  have : (hostOps1.tail : List (HloOp τ sig (Elt F))).Forall fun op => b61 ∉ op.bufs :=
    ⟨nin2 main_call0_v7 main_call0_v8 (by decide) (by decide), nin2 main_arg5 main_call0_v9 (by decide) (by decide),
     show b61 ∉ ({Proc.devRef .tc main_call0_c} : Finset (DevRef τ sig)) by
      rw [Finset.mem_singleton]; exact (StableHlo.devRef_ne_of_ne (by decide)).symm,
     nin2 main_call0_c main_call0_call0_v0 (by decide) (by decide),
     show b61 ∉ ({Proc.devRef .tc main_call0_v9, Proc.devRef .tc main_call0_call0_v0, Proc.devRef .tc main_call0_v10} : Finset (DevRef τ sig)) by
      rw [Finset.mem_insert]
      exact not_or.mpr ⟨(StableHlo.devRef_ne_of_ne (by decide)).symm, nin2 _ _ (by decide) (by decide)⟩,
     nin2 main_call0_v10 main_call0_v11 (by decide) (by decide), nin2 main_arg3 main_call0_v12 (by decide) (by decide)⟩
  exact (List.forall_iff_forall_mem.mp this) op hop

theorem slice_row0 (X : S8x256.Idx → Elt F .f32) : extractStridedSlice S1x256 ![0, 0] X slices_S8x256_S1x256_0_0 = row0 X :=
  funext fun j => congrArg X (funext fun a => Fin.ext (by
    show (![0, 0] : Fin 2 → ℕ) a + (j a).val = (![0, 0] : Fin 2 → ℕ) a + 1 * (j a).val
    rw [Nat.one_mul]))

/-- The host reads of the sums their first row only. -/
theorem W3_off (c : Dev nD) (X X' : Buf (Elt F) ((c : Thread nD τ).loc main_call0_v6_1))
    (h : row0 (X : S8x256.Idx → Elt F .f32) = row0 (X' : S8x256.Idx → Elt F .f32)) (d : DevRef τ sig) (hd : d ≠ b61) : W3 m c X d = W3 m c X' d := by
  unfold W3
  rw [show (hostOps1 : List (HloOp τ sig (Elt F))) = op1 :: hostOps1.tail from rfl, StableHlo.after_cons, StableHlo.after_cons]
  refine after_off _ tail1_off ?_ d hd
  intro e he
  by_cases h7 : e = Proc.devRef .tc main_call0_v7
  · subst h7
    have hm : (Proc.devRef .tc main_call0_v7 : DevRef τ sig) ∈ (op1 : HloOp τ sig (Elt F)).writes := Finset.mem_singleton_self _
    rw [HloOp.result_of_mem _ _ hm, HloOp.result_of_mem _ _ hm]
    show extractStridedSlice S1x256 ![0, 0] (W2 m c X b61 : S8x256.Idx → Elt F .f32) slices_S8x256_S1x256_0_0 = extractStridedSlice S1x256 ![0, 0] (W2 m c X' b61 : S8x256.Idx → Elt F .f32) slices_S8x256_S1x256_0_0
    rw [W2_at, W2_at]
    rw [slice_row0, slice_row0]
    exact h
  · have hn : e ∉ (op1 : HloOp τ sig (Elt F)).writes := fun hm => h7 (Finset.mem_singleton.mp hm)
    rw [HloOp.result_of_not_mem _ _ hn, HloOp.result_of_not_mem _ _ hn]
    exact W2_off m c X X' e he

end Cert.KernelIdeal.Proof
-- ==== Proof.Segs0.lean ====
module

public import proofs.«01_k».proof.Proof.Vals
public import proofs.«01_k».proof.Proof.Gen.KernelIdeal.Regions
public import Idealize.ShloMosaic.Lib.Pipeline.ArrRel
public import Idealize.ShloMosaic.Lib.Pipeline.RegionArraysD
public import Idealize.ShloMosaic.Lib.Pipeline.RegionArraysF

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UU nD τ) ℕ

open Pipeline (Seg HostSeg)

variable (m : (ℓ : Loc nD τ sig) → Buf (Elt F) ℓ)

abbrev Lf : GSem nD τ sig → Finset Unit := fun g => if g.1.2 = .tc then {()} else ∅
abbrev lvf : GSem nD τ sig → Unit → ℕ := fun _ _ => 0

/-- The data of the two calls, and the same as relations. -/
abbrev pdats : (p : Fin 2) → (c : Dev nD) → Dat τ (Elt F) Unit ℕ (UU nD τ) ℕ (cfgs p) c := fun
  | 0 => fun c => dat0 (val0 m) c
  | 1 => fun c => dat1 (val1 m) c
abbrev rdats : (p : Fin 2) → (c : Dev nD) → RDat τ (Elt F) Unit ℕ (UU nD τ) ℕ (cfgs p) c := fun
  | 0 => fun c => (dat0 (val0 m) c).toRRel fgt0 (rl0 (val0 m) c)
  | 1 => fun c => (dat1 (val1 m) c).toR

/-- The rest of a core's state between the items of the program. -/
abbrev Er (c : Dev nD) : sProp 𝕄 := iprop((∃ r, prngReg c r) ∗ ∃ Wd, owes (c : Thread nD τ) (0 : CellTallies nD τ sig Unit) Wd)
abbrev uc : Finset (DevRef τ sig) := Pipeline.ucRefs τ sig

/-! ## The first call -/

theorem arrs0_sub : Pipeline.arrRefs (τ := τ) spec0 ⊆ uc := Pipeline.arrRefs_sub_ucRefs spec0 (by decide)

/-- What the arrays of the first call hold when it ends. -/
theorem arraysAt0 (c : Dev nD) : (((dat0 (val0 m) c).toRRel fgt0 (rl0 (val0 m) c)).arraysAt cfg0.N : sProp 𝕄) ⊢
    iprop(∃ A : (w : Fin cfg0.W) → Buf (Elt F) ((cfg0.win w).arr.view.loc (c.tc : Thread nD τ)),
      ⌜∀ w, ((dat0 (val0 m) c).toRRel fgt0 (rl0 (val0 m) c)).ArrAt w cfg0.N (A w)⌝ ∗ (dat0 (val0 m) c).arrays A) := by
  unfold RDat.arraysAt Dat.arrays
  refine (BI.bigSep_exists_pi Finset.univ _).trans ?_
  iintro ⟨%A, H⟩
  ihave H' := (BI.bigSep_pure_sep Finset.univ (fun w => ((dat0 (val0 m) c).toRRel fgt0 (rl0 (val0 m) c)).ArrAt w cfg0.N (A w)) _) $$ H
  icases H' with ⟨%hA, H⟩
  iexists A
  isplitr
  · ipureintro; exact fun w => hA w (Finset.mem_univ w)
  iexact H

theorem arr0_keep (c : Dev nD) (w : Fin cfg0.W) (h : fgt0 w = false) (G) (hG : ((dat0 (val0 m) c).toRRel fgt0 (rl0 (val0 m) c)).ArrAt w cfg0.N G) :
    G = (dat0 (val0 m) c).arrAt w cfg0.N :=
  (((dat0 (val0 m) c).toR.override_arrAt (by simp only [h]) cfg0.N G).trans ((dat0 (val0 m) c).toR_arrAt_iff w cfg0.N G)).mp hG

theorem whole0_3 : (cfg0.win 3).WholeAt (97 : Fin 98) := (by decide +kernel : win0_3.WholeAt (⟨97, by decide⟩ : Fin grid0.N))

theorem arr0_sums (c : Dev nD) (G) (hG : ((dat0 (val0 m) c).toRRel fgt0 (rl0 (val0 m) c)).ArrAt 3 cfg0.N G) :
    row0 (G : S8x256.Idx → Elt F .f32) = accRow (val0 m) c 97 := by
  obtain ⟨X, hX, hj⟩ := RDat.ArrAt.emb_eq_of_wholeAt hG whole0_3
  have h := (dat0 (val0 m) c).toRRel_leaves (w := 3) rfl hX
  refine Eq.trans ?_ h
  have : (G : S8x256.Idx → Elt F .f32) = X := funext fun j => by
    have hjj := hj j
    exact hjj
  rw [this]

theorem W2_keep (c : Dev nD) (X) (r : Ref sig .tc) (h0 : r ≠ main_call0_v6_0) (h1 : r ≠ main_call0_v6_1) :
    W2 m c X (Proc.devRef .tc r) = V1 m c (Proc.devRef .tc r) := by
  unfold W2
  rw [Function.update_of_ne (StableHlo.devRef_ne_of_ne h1), Function.update_of_ne (StableHlo.devRef_ne_of_ne h0)]
theorem W2_v6_0 (c : Dev nD) (X) : W2 m c X (Proc.devRef .tc main_call0_v6_0) = A2 m c := by
  unfold W2
  rw [Function.update_of_ne (StableHlo.devRef_ne_of_ne (by decide : main_call0_v6_0 ≠ main_call0_v6_1)), Function.update_self]

theorem arr0_all (c : Dev nD) (A : (w : Fin cfg0.W) → Buf (Elt F) ((cfg0.win w).arr.view.loc (c.tc : Thread nD τ)))
    (hA : ∀ w, ((dat0 (val0 m) c).toRRel fgt0 (rl0 (val0 m) c)).ArrAt w cfg0.N (A w)) (w : Fin cfg0.W) :
    A w = W2 m c (A 3) (Proc.devRef .tc (Pipeline.arrRef spec0 w)) := by
  match w with
  | ⟨0, _⟩ =>
    refine (arr0_keep m c 0 rfl _ (hA 0)).trans (((dat0 (val0 m) c).arrAt_in 0 rfl _).trans ?_)
    exact (W2_keep m c (A 3) main_call0_v5 (by decide) (by decide)).symm
  | ⟨1, _⟩ =>
    refine (arr0_keep m c 1 rfl _ (hA 1)).trans (((dat0 (val0 m) c).arrAt_in 1 rfl _).trans ?_)
    exact (W2_keep m c (A 3) main_call0_v4 (by decide) (by decide)).symm
  | ⟨2, _⟩ => exact (arr0_keep m c 2 rfl _ (hA 2)).trans (W2_v6_0 m c (A 3)).symm
  | ⟨3, _⟩ => exact (W2_at m c (A 3)).symm

theorem share0 (c : Dev nD) (w : Fin cfg0.W) : (dat0 (val0 m) c).share w = fullShare := by
  unfold Dat.share
  exact ite_self _

theorem held0 (c : Dev nD) (A : (w : Fin cfg0.W) → Buf (Elt F) ((cfg0.win w).arr.view.loc (c.tc : Thread nD τ))) (W : Valuation τ sig (Elt F))
    (h : ∀ w, A w = W (Proc.devRef .tc (Pipeline.arrRef spec0 w))) :
    ((dat0 (val0 m) c).arrays A : sProp 𝕄) = StableHlo.held (c.tc : Thread nD τ) (Pipeline.arrRefs spec0) W :=
  Pipeline.arrays_held (pcfgs (F := F)) adm (pdats m) 0 launch0.toP c (share0 m c) A W h

theorem W2_rest (c : Dev nD) (X) (b : DevRef τ sig) (hb : b ∈ uc \ Pipeline.arrRefs (τ := τ) spec0) : W2 m c X b = V1 m c b := by
  have h := (Finset.mem_sdiff.mp hb).2
  have h0 : b ≠ Proc.devRef .tc main_call0_v6_0 := fun e => h (e ▸ Finset.mem_map.mpr ⟨main_call0_v6_0, Finset.mem_image.mpr ⟨2, Finset.mem_univ _, rfl⟩, rfl⟩)
  have h1 : b ≠ Proc.devRef .tc main_call0_v6_1 := fun e => h (e ▸ Finset.mem_map.mpr ⟨main_call0_v6_1, Finset.mem_image.mpr ⟨3, Finset.mem_univ _, rfl⟩, rfl⟩)
  unfold W2
  rw [Function.update_of_ne h1, Function.update_of_ne h0]

abbrev post0 (c : Dev nD) : sProp 𝕄 :=
  iprop(∃ X : Buf (Elt F) ((c : Thread nD τ).loc main_call0_v6_1), ⌜row0 (X : S8x256.Idx → Elt F .f32) = accRow (val0 m) c 97⌝
    ∗ StableHlo.held (c : Thread nD τ) uc (W2 m c X) ∗ Er c)

def reg0 : RDat.RegionSeg (pcfgs (F := F)) adm (rdats m) () defs₀ 𝒱₀ Lf lvf 0 where
  win := launch0.toP.to₀.win
  block_pos := block_pos0
  stage_whole := stage_whole0
  K := PEmpty
  osem := fun k => k.elim
  ho := Pipeline.OwnSemFacts.none _
  hbody c := (body0 (val0 m) c).toRRel
  hwaits c := RDat.hwaits_of_owed_zero (pcfgs (F := F)) adm (rdats m) () Lf lvf 0 (fun _ _ => rfl) c
  pre c := iprop(StableHlo.held (c : Thread nD τ) uc (V1 m c) ∗ Er c)
  post c := post0 m c
  X c := iprop(∃ r, prngReg c r)
  Y c := iprop(∃ r, prngReg c r)
  Z c := StableHlo.held (c : Thread nD τ) (uc \ Pipeline.arrRefs spec0) (V1 m c)
  hentry c := by
    show _ ⊢ |={Set.univ}=> iprop((dat0 (val0 m) c).arrays ((dat0 (val0 m) c).arrAt · 0) ∗ Pipeline.prefHeld (pcfgs (F := F) 0).pre c (fun _ => fullShare) (adm 0).1
        ∗ (dat0 (val0 m) c).owesAt () 0 ∗ _ ∗ _)
    rw [Pipeline.prefHeld_of_none _ rfl,
      held0 m c ((dat0 (val0 m) c).arrAt · 0) (V1 m c) (fun _ => rfl),
      StableHlo.held_sub_split (c.tc : Thread nD τ) arrs0_sub (V1 m c)]
    iintro ⟨⟨⟨Ha, Hr⟩, Hp, ⟨%Wd, HO⟩⟩, -, -⟩
    imodintro
    isplitl [Ha]; · iexact Ha
    isplitr; · iempintro
    isplitl [HO]
    · unfold Dat.owesAt Pipeline.owesWithin Dat.bound
      iexists Wd; isplitr; · ipureintro; exact fun _ _ => Or.inl trivial
      iexact HO
    isplitl [Hp] <;> iassumption
  hin c := by
    show _ ⊢ iprop(Pipeline.scopedRest spec0 c ∗ ∃ r, prngReg c r)
    iintro ⟨Hp, -, Hr⟩
    isplitl [Hr] <;> iassumption
  hout c := by
    show iprop(Pipeline.scopedRest spec0 c ∗ ∃ r, prngReg c r) ⊢ _
    rw [Pipeline.ownSems0_none]
    iintro ⟨Hr, Hp⟩
    isplitl [Hp]; · iexact Hp
    isplitr; · iempintro
    iexact Hr
  hexit c := by
    show iprop(((dat0 (val0 m) c).toRRel fgt0 (rl0 (val0 m) c)).arraysAt cfg0.N ∗ (dat0 (val0 m) c).owesAt () (Fin.last cfg0.N) ∗ _ ∗ _) ⊢ _
    iintro ⟨Ha, HO, Hp, Hr⟩
    ihave Ha := (arraysAt0 m c) $$ Ha
    icases Ha with ⟨%A, %hA, Ha⟩
    imodintro
    iexists (A 3)
    isplitr; · ipureintro; exact arr0_sums m c _ (hA 3)
    isplitl [Ha Hr]
    · rw [StableHlo.held_sub_split (c.tc : Thread nD τ) arrs0_sub (W2 m c (A 3)), StableHlo.held_congr (c.tc : Thread nD τ) (S := uc \ Pipeline.arrRefs spec0) (W2_rest m c (A 3)),
        ← held0 m c A (W2 m c (A 3)) (arr0_all m c A hA)]
      isplitl [Ha] <;> iassumption
    isplitl [Hp]; · iexact Hp
    unfold Dat.owesAt Pipeline.owesWithin
    icases HO with ⟨%Wd, -, HO⟩; iexists Wd; iexact HO

end Cert.KernelIdeal.Proof
-- ==== Proof.Segs1.lean ====
module

public import proofs.«01_k».proof.Proof.Segs0
public import proofs.«01_k».proof.Proof.Gen.KernelIdeal.Regions
public import Idealize.ShloMosaic.Lib.Pipeline.ArrRel
public import Idealize.ShloMosaic.Lib.Pipeline.RegionArraysD
public import Idealize.ShloMosaic.Lib.Pipeline.RegionArraysF

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UU nD τ) ℕ

open Pipeline (Seg HostSeg)

variable (m : (ℓ : Loc nD τ sig) → Buf (Elt F) ℓ)

/-- The unscoped buffers but for the sums, whose rows past the first nothing says anything of. -/
abbrev tc : Finset (DevRef τ sig) := uc \ {b61}

/-! ## The host stretches -/

def host0 : HostSeg (Ix := Unit) (Name := ℕ) (U := UU nD τ) (Lvl := ℕ) (pcfgs (F := F)) defs₀ 𝒱₀ Lf lvf :=
  HostSeg.ofOps _ _ _ _ _ uc hostOps0
    (fun op h => Pipeline.sub_ucRefs op ((List.forall_iff_forall_mem.mp hostOps0_sub) op h))
    (fun op h => (List.forall_iff_forall_mem.mp hostOps0_fresh) op h) (V0 m) Er

theorem row0_X0 (c : Dev nD) : row0 (X0 m c : S8x256.Idx → Elt F .f32) = accRow (val0 m) c 97 := by
  funext j
  show accRow (val0 m) c 97 (fun | 0 => (0 : Fin 1) | 1 => (R0.emb j) 1) = _
  congr 1
  funext a
  match a with
  | ⟨0, _⟩ => exact Fin.ext (by have : (j 0).val < 1 := (j 0).isLt; show 0 = (j 0).val; omega)
  | ⟨1, _⟩ => exact Fin.ext (by show 0 + 1 * (j 1).val = (j 1).val; omega)

theorem tc_sub : tc ⊆ uc := Finset.sdiff_subset

theorem toX0 (c : Dev nD) (X) (hX : row0 X = accRow (val0 m) c 97) :
    (StableHlo.held (c : Thread nD τ) uc (StableHlo.after hostOps1 (W2 m c X)) : sProp 𝕄) ⊢ StableHlo.held (c : Thread nD τ) tc (W3 m c (X0 m c)) := by
  show (StableHlo.held (c : Thread nD τ) uc (W3 m c X) : sProp 𝕄) ⊢ _
  rw [StableHlo.held_sub_split (c : Thread nD τ) tc_sub (W3 m c X), StableHlo.held_congr (c : Thread nD τ) (S := tc) fun b hb =>
    W3_off m c X (X0 m c) (hX.trans (row0_X0 m c).symm) b fun e => (Finset.mem_sdiff.mp hb).2 (Finset.mem_singleton.mpr e)]
  iintro ⟨H, -⟩
  iexact H

set_option backward.isDefEq.respectTransparency.types false in
def host1 : HostSeg (Ix := Unit) (Name := ℕ) (U := UU nD τ) (Lvl := ℕ) (pcfgs (F := F)) defs₀ 𝒱₀ Lf lvf where
  prog := StableHlo.seq hostOps1
  pre := post0 m
  post c := iprop(StableHlo.held (c : Thread nD τ) tc (W3 m c (X0 m c)) ∗ Er c)
  run c {β} k K := by
    have hrun := fun X => (HostSeg.ofOps (Ix := Unit) (Name := ℕ) (U := UU nD τ) (Lvl := ℕ) (pcfgs (F := F)) defs₀ 𝒱₀ Lf lvf uc hostOps1
      (fun op h => Pipeline.sub_ucRefs op ((List.forall_iff_forall_mem.mp hostOps1_sub) op h))
      (fun op h => (List.forall_iff_forall_mem.mp hostOps1_fresh) op h) (fun _ => W2 m c X) Er).run c k K
    dsimp only [HostSeg.ofOps] at hrun
    unfold post0
    iintro ⟨Hk, Hb, ⟨%X, %hX, Hh, HE⟩, HL⟩
    iapply (hrun X)
    isplitl [Hk]
    · iintro ⟨Hb, Hh, HE⟩
      iapply Hk
      isplitl [Hb]; · iexact Hb
      isplitl [Hh]
      · iapply (toX0 m c X hX)
        iexact Hh
      iexact HE
    isplitl [Hb]; · iexact Hb
    isplitl [Hh HE]
    · isplitl [Hh] <;> iassumption
    iexact HL

theorem host2_off : ∀ op ∈ (hostOps2 : List (HloOp τ sig (Elt F))), b61 ∉ op.bufs := by
  intro op hop
  have : (hostOps2 : List (HloOp τ sig (Elt F))).Forall fun op => b61 ∉ op.bufs :=
    ⟨nin2 main_call0_v13 main_call0_v14 (by decide) (by decide), nin2 main_call0_v14 main_v0 (by decide) (by decide)⟩
  exact (List.forall_iff_forall_mem.mp this) op hop

def host2 : HostSeg (Ix := Unit) (Name := ℕ) (U := UU nD τ) (Lvl := ℕ) (pcfgs (F := F)) defs₀ 𝒱₀ Lf lvf :=
  HostSeg.ofOps _ _ _ _ _ tc hostOps2
    (fun op h b hb => Finset.mem_sdiff.mpr ⟨Pipeline.sub_ucRefs op ((List.forall_iff_forall_mem.mp hostOps2_sub) op h) hb,
      fun e => host2_off op h (Finset.mem_singleton.mp e ▸ hb)⟩)
    (fun op h => (List.forall_iff_forall_mem.mp hostOps2_fresh) op h) (W4 m) Er

/-! ## The second call -/

abbrev HH : Finset (Ref sig .tc) := {main_arg1, main_call0_v6_0}

theorem not_arr1 (r : Ref sig .tc) (h : ∀ w : Fin 7, Pipeline.arrRef spec1 w ≠ r) : (Proc.devRef .tc r : DevRef τ sig) ∉ Pipeline.arrRefs (τ := τ) spec1 := by
  intro hr
  obtain ⟨r', hr', e⟩ := Finset.mem_map.mp hr
  obtain ⟨w, -, rfl⟩ := Finset.mem_image.mp hr'
  exact h w (Proc.devRef_injective _ e)

theorem arrs1_sub : Pipeline.arrRefs (τ := τ) spec1 ⊆ tc := fun b hb =>
  Finset.mem_sdiff.mpr ⟨Pipeline.arrRefs_sub_ucRefs spec1 (by decide) hb, fun e => by
    rw [Finset.mem_singleton.mp e] at hb
    exact not_arr1 main_call0_v6_1 (by decide) hb⟩

theorem hbm1_sub : Pipeline.hbmRefs (τ := τ) HH ⊆ tc \ Pipeline.arrRefs (τ := τ) spec1 := fun b hb => by
  have hu := Pipeline.hbmRefs_sub_ucRefs (τ := τ) HH (by decide) hb
  obtain ⟨r, hr, rfl⟩ := Finset.mem_map.mp hb
  have h1 : r ≠ main_call0_v6_1 := by rintro rfl; exact absurd hr (by decide)
  have h2 : ∀ w : Fin 7, Pipeline.arrRef spec1 w ≠ r := by
    rcases Finset.mem_insert.mp hr with rfl | hr
    · decide
    · rw [Finset.mem_singleton.mp hr]; decide
  exact Finset.mem_sdiff.mpr ⟨Finset.mem_sdiff.mpr ⟨hu, fun e => StableHlo.devRef_ne_of_ne h1 (Finset.mem_singleton.mp e)⟩, not_arr1 r h2⟩

theorem share1 (c : Dev nD) (w : Fin cfg1.W) : (dat1 (val1 m) c).share w = fullShare := by
  unfold Dat.share
  exact ite_self _

theorem W4_keep (c : Dev nD) (r : Ref sig .tc) (h : r ≠ main_call0_v13) : W4 m c (Proc.devRef .tc r) = W3 m c (X0 m c) (Proc.devRef .tc r) := by
  unfold W4
  rw [Function.update_of_ne (StableHlo.devRef_ne_of_ne h)]
theorem W4_v13 (c : Dev nD) : W4 m c (Proc.devRef .tc main_call0_v13) = A4 m c := by
  unfold W4
  rw [Function.update_self]

theorem arr1_in (c : Dev nD) (w : Fin cfg1.W) (hw : (cfg1.win w).isOut = false) (hr : Pipeline.arrRef spec1 w ≠ main_call0_v13) :
    (dat1 (val1 m) c).arrAt w cfg1.N = W4 m c (Proc.devRef .tc (Pipeline.arrRef spec1 w)) :=
  ((dat1 (val1 m) c).arrAt_in w hw _).trans (W4_keep m c _ hr).symm

theorem arr1_all (c : Dev nD) (w : Fin cfg1.W) :
    (dat1 (val1 m) c).arrAt w cfg1.N = W4 m c (Proc.devRef .tc (Pipeline.arrRef spec1 w)) := by
  match w with
  | ⟨0, _⟩ => exact arr1_in m c 0 rfl (by decide)
  | ⟨1, _⟩ => exact arr1_in m c 1 rfl (by decide)
  | ⟨2, _⟩ => exact arr1_in m c 2 rfl (by decide)
  | ⟨3, _⟩ => exact arr1_in m c 3 rfl (by decide)
  | ⟨4, _⟩ => exact arr1_in m c 4 rfl (by decide)
  | ⟨5, _⟩ => exact arr1_in m c 5 rfl (by decide)
  | ⟨6, _⟩ => exact (W4_v13 m c).symm

theorem W4_rest (c : Dev nD) (b : DevRef τ sig) (hb : b ∈ tc \ Pipeline.arrRefs (τ := τ) spec1) : W4 m c b = W3 m c (X0 m c) b := by
  have h := (Finset.mem_sdiff.mp hb).2
  have h0 : b ≠ Proc.devRef .tc main_call0_v13 := fun e => h (e ▸ Finset.mem_map.mpr ⟨main_call0_v13, Finset.mem_image.mpr ⟨6, Finset.mem_univ _, rfl⟩, rfl⟩)
  unfold W4
  rw [Function.update_of_ne h0]

theorem bigSep_HH (Φ : Ref sig .tc → sProp 𝕄) : bigSep HH Φ = iprop(Φ main_arg1 ∗ Φ main_call0_v6_0) :=
  BI.bigSep_eq_bigSepL_of_eq [main_arg1, main_call0_v6_0] (by decide) (by decide) Φ

theorem slots_zero (c : Dev nD) (XT : Bf (F := F) c tgtM) (XE : Bf (F := F) c edM) : slotsAt c XT XE 0 = iprop(free c XT XE 0 ∗ free c XT XE 1) := by
  unfold slotsAt
  rw [dif_pos (by decide)]
  unfold ent
  rw [if_pos (by decide)]
theorem slots_last (c : Dev nD) (XT : Bf (F := F) c tgtM) (XE : Bf (F := F) c edM) : slotsAt c XT XE 32 = iprop(free c XT XE 0 ∗ free c XT XE 1) := by
  unfold slotsAt
  rw [dif_neg (by decide)]

theorem pt_et (c : Dev nD) (f) : pt c etM f = (((c : Thread nD τ).loc cc1_scratch2) ↦{fullShare} f : sProp 𝕄) := by
  show ((etM.view.loc (c : Thread nD τ)) ↦[etM.view.set]{fullShare} f : sProp 𝕄) = _
  rw [View.set_whole]
theorem pt_q (c : Dev nD) (f) : pt c qM f = (((c : Thread nD τ).loc cc1_scratch3) ↦{fullShare} f : sProp 𝕄) := by
  show ((qM.view.loc (c : Thread nD τ)) ↦[qM.view.set]{fullShare} f : sProp 𝕄) = _
  rw [View.set_whole]

theorem enter1 (c : Dev nD) : iprop(Pipeline.scopedRest spec1 c ∗ (∃ r, prngReg c r) ∗ Pipeline.ownSems0 osem c
      ∗ (bigSep HH fun b => ((c.tc : Thread nD τ).loc b) ↦{fullShare} W3 m c (X0 m c) (Proc.devRef .tc b)) ∗ Transfers.MayWaits (c : Thread nD τ) () 0)
    ⊢ (Φ1 c (val1 m c main_arg1) (val1 m c main_call0_v6_0) 0 : sProp 𝕄) := by
  unfold Φ1
  simp only [pt_et, pt_q]
  rw [slots_zero, bigSep_HH, scopedRest1_eq]
  iintro ⟨⟨Ha, Hb, Hc, Hd, He, Hf, H0, H1, H2, H3⟩, Hp, Hs, ⟨HA, HB⟩, -⟩
  isplitl [H0 H1 Hs HA HB]
  · iapply (free_of c (val1 m c main_arg1) (val1 m c main_call0_v6_0) iprop(emp))
    isplitl [H0]; · iexact H0
    isplitl [H1]; · iexact H1
    isplitl [Hs]; · iexact Hs
    isplitl [HA] <;> iassumption
  isplitl [H2]; · iexact H2
  isplitl [H3]; · iexact H3
  isplitl [Ha Hb Hc Hd He Hf]
  · unfold others
    isplitl [Ha]; · iexact Ha
    isplitl [Hb]; · iexact Hb
    isplitl [Hc]; · iexact Hc
    isplitl [Hd]; · iexact Hd
    isplitl [He] <;> iassumption
  iexact Hp

theorem leave1 (c : Dev nD) : (Φ1 c (val1 m c main_arg1) (val1 m c main_call0_v6_0) 32 : sProp 𝕄)
    ⊢ iprop(Pipeline.scopedRest spec1 c ∗ (∃ r, prngReg c r) ∗ Pipeline.ownSems0 osem c
      ∗ (bigSep HH fun b => ((c.tc : Thread nD τ).loc b) ↦{fullShare} W3 m c (X0 m c) (Proc.devRef .tc b))) := by
  unfold Φ1 others
  simp only [pt_et, pt_q]
  rw [slots_last, bigSep_HH, scopedRest1_eq]
  iintro ⟨Hs, H2, H3, ⟨Ha, Hb, Hc, Hd, He, Hf⟩, Hp⟩
  ihave Hs' := (of_free c (val1 m c main_arg1) (val1 m c main_call0_v6_0)) $$ Hs
  icases Hs' with ⟨H0, H1, Hs, HA, HB⟩
  isplitl [Ha Hb Hc Hd He Hf H0 H1 H2 H3]
  · isplitl [Ha]; · iexact Ha
    isplitl [Hb]; · iexact Hb
    isplitl [Hc]; · iexact Hc
    isplitl [Hd]; · iexact Hd
    isplitl [He]; · iexact He
    isplitl [Hf]; · iexact Hf
    isplitl [H0]; · iexact H0
    isplitl [H1]; · iexact H1
    isplitl [H2]; · iexact H2
    iexact H3
  isplitl [Hp]; · iexact Hp
  isplitl [Hs]; · iexact Hs
  isplitl [HA] <;> iassumption

def reg1D : Pipeline.RegionSeg (pcfgs (F := F)) adm (pdats m) () defs₀ 𝒱₀ Lf lvf 1 :=
  Pipeline.RegionSeg.ofHeldDH (pcfgs (F := F)) adm (pdats m) () defs₀ 𝒱₀ Lf lvf 1 (fun _ => 0) () osem ownSemFacts HH (tc \ Pipeline.arrRefs (τ := τ) spec1) hbm1_sub
    launch1.toP rfl (fun c => (body1 (val1 m) c).loose) (fun _ _ => rfl) (fun _ => rfl) (share1 m)
    (fun c => (show (levAts Lf lvf : sProp 𝕄) ⊢ BI.emp from by iintro -; iempintro).trans (Transfers.MayWaits.zero (c : Thread nD τ) ()))
    (fun c => W3 m c (X0 m c)) (W4 m) (enter1 m) (leave1 m) (fun _ => 0)
    ⟨fun _ _ _ => Finset.mem_singleton_self _, fun _ _ _ => le_refl _, fun _ _ _ h => absurd h (lt_irrefl _)⟩ (fun _ => iprop(emp))
    (fun _ _ => rfl) (arr1_all m)

def reg1R := (reg1D m).toR (pcfgs (F := F)) adm (pdats m) () defs₀ 𝒱₀ Lf lvf

def reg1 : RDat.RegionSeg (pcfgs (F := F)) adm (rdats m) () defs₀ 𝒱₀ Lf lvf 1 where
  win := (reg1R m).win
  block_pos := (reg1R m).block_pos
  stage_whole := (reg1R m).stage_whole
  K := (reg1R m).K
  fK := (reg1R m).fK
  osem := (reg1R m).osem
  ho := (reg1R m).ho
  hbody := (reg1R m).hbody
  hwaits := (reg1R m).hwaits
  pre := (reg1R m).pre
  post := (reg1R m).post
  X := (reg1R m).X
  Y := (reg1R m).Y
  Z := (reg1R m).Z
  hentry := (reg1R m).hentry
  hin := (reg1R m).hin
  hout := (reg1R m).hout
  hexit := (reg1R m).hexit

theorem pre1 (c : Dev nD) : (host1 m).post c ⊢ (reg1 m).pre c := by
  show iprop(StableHlo.held (c : Thread nD τ) tc (W3 m c (X0 m c)) ∗ Er c) ⊢ iprop(StableHlo.held (c.tc : Thread nD τ) (Pipeline.arrRefs spec1) (W3 m c (X0 m c)) ∗ (∃ r, prngReg c r)
      ∗ (StableHlo.held (c.tc : Thread nD τ) (tc \ Pipeline.arrRefs (τ := τ) spec1) (W3 m c (X0 m c)) ∗ emp) ∗ ∃ Wd, owes (c : Thread nD τ) 0 Wd)
  rw [StableHlo.held_sub_split (c : Thread nD τ) arrs1_sub (W3 m c (X0 m c))]
  iintro ⟨⟨Ha, Hr⟩, Hp, HO⟩
  isplitl [Ha]; · iexact Ha
  isplitl [Hp]; · iexact Hp
  isplitl [Hr]
  · isplitl [Hr]; · iexact Hr
    iempintro
  iexact HO

theorem post1 (c : Dev nD) : (reg1 m).post c ⊢ (host2 m).pre c := by
  show iprop(StableHlo.held (c.tc : Thread nD τ) (Pipeline.arrRefs spec1) (W4 m c) ∗ (∃ r, prngReg c r)
      ∗ (StableHlo.held (c.tc : Thread nD τ) (tc \ Pipeline.arrRefs (τ := τ) spec1) (W3 m c (X0 m c)) ∗ emp) ∗ ∃ Wd, owes (c : Thread nD τ) 0 Wd) ⊢ iprop(StableHlo.held (c : Thread nD τ) tc (W4 m c) ∗ Er c)
  rw [StableHlo.held_sub_split (c : Thread nD τ) arrs1_sub (W4 m c), StableHlo.held_congr (c : Thread nD τ) (S := tc \ Pipeline.arrRefs (τ := τ) spec1) (W4_rest m c)]
  iintro ⟨Ha, Hp, ⟨Hr, -⟩, HO⟩
  isplitl [Ha Hr]
  · isplitl [Ha] <;> iassumption
  isplitl [Hp] <;> iassumption

end Cert.KernelIdeal.Proof
-- ==== Proof.RunAll.lean ====
module

public import proofs.«01_k».proof.Proof.Segs1
public import proofs.«01_k».proof.Proof.Gen.KernelIdeal.Regions
public import Idealize.ShloMosaic.Lib.Pipeline.ArrRel
public import Idealize.ShloMosaic.Lib.Pipeline.RegionArraysD
public import Idealize.ShloMosaic.Lib.Pipeline.RegionArraysF

@[expose] public section

set_option maxRecDepth 65536

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UU nD τ) ℕ

open Pipeline (Seg HostSeg)

variable (m : (ℓ : Loc nD τ sig) → Buf (Elt F) ℓ)

def segs : List (RDat.Seg (pcfgs (F := F)) adm (rdats m) () defs₀ 𝒱₀ Lf lvf) :=
  [.host (host0 m), .region (reg0 m), .host (host1 m), .region (reg1 m), .host (host2 m)]

/-! ## An argument's array ends as it began -/

theorem off2 (r : Ref sig .tc) (h : r ∉ hostOps2_W) (c : Dev nD) : W5 m c (Proc.devRef .tc r) = W4 m c (Proc.devRef .tc r) :=
  StableHlo.after_of_writes_sub hostOps2 _ hostOps2_writes h
theorem off1 (r : Ref sig .tc) (h : r ∉ hostOps1_W) (c : Dev nD) (X) : W3 m c X (Proc.devRef .tc r) = W2 m c X (Proc.devRef .tc r) :=
  StableHlo.after_of_writes_sub hostOps1 _ hostOps1_writes h
theorem off0 (r : Ref sig .tc) (h : r ∉ hostOps0_W) (c : Dev nD) : V1 m c (Proc.devRef .tc r) = V0 m c (Proc.devRef .tc r) :=
  StableHlo.after_of_writes_sub hostOps0 _ hostOps0_writes h

theorem arg_keep (c : Dev nD) (r : Ref sig .tc) (h0 : r ∉ hostOps0_W) (h1 : r ∉ hostOps1_W)
    (h2 : r ∉ hostOps2_W) (ha : r ≠ main_call0_v13) (hb : r ≠ main_call0_v6_0) (hc : r ≠ main_call0_v6_1) :
    W5 m c (Proc.devRef .tc r) = m ((c.tc : Thread nD τ).loc r) := by
  rw [off2 m _ h2, W4_keep m c r ha, off1 m _ h1]
  exact (W2_keep m c _ r hb hc).trans (off0 m _ h0 c)

theorem mem_tc (r : Ref sig .tc) (h : ¬ (Proc.devRef .tc r : DevRef τ sig).isScoped) (h' : r ≠ main_call0_v6_1) : (Proc.devRef .tc r : DevRef τ sig) ∈ tc :=
  Finset.mem_sdiff.mpr ⟨Finset.mem_filter.mpr ⟨StableHlo.devRef_mem_tcRefs r, h⟩, fun e => StableHlo.devRef_ne_of_ne h' (Finset.mem_singleton.mp e)⟩

/-! ## The run -/

/-- What every run ends with: the arguments as they were, and the result at the walked contents. -/
def Ends (c : Dev nD) (s : MemSt nD τ sig (Elt F)) : Prop :=
  (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    ∧ s.mem ((c.tc : Thread nD τ).loc main_v0) = W5 m c (Proc.devRef .tc main_v0)

set_option backward.isDefEq.respectTransparency.types false in
theorem run_all (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (rdats m) () cellOf_inj (EP (F := F)) defs₀ 𝒱₀ Lf lvf m ρ main
    (fun _ => segs m)
    (fun c Q => by
      rewrite [main_chain c, RDat.Seg.run_eq_chain,
        show (segs m).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide) (fun _ => 0) (fun _ h => if_neg h) (fun _ => iprop(emp))
    (initOf (Pipeline.cells cfgs cellOf_inj) (Pipeline.launchToks cfgs cellOf_inj), 1) ?_
    (T₀ := fun c => iprop(StableHlo.held (c : Thread nD τ) uc (V0 m c) ∗ Er c))
    (Tₙ := fun c => StableHlo.held (c : Thread nD τ) tc (W5 m c))
    (hch := fun c => ⟨.rfl, .rfl, .rfl, pre1 m c, post1 m c, ?_⟩)
    (hinit := ?_) (QY := Ends m)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => iprop(emp)) from entails_of_eq (BI.bigSep_emp_const _).symm)
    iempintro
  · show iprop(StableHlo.held (c : Thread nD τ) tc (W5 m c) ∗ (∃ r, prngReg c r) ∗ ∃ Wd, owes (c : Thread nD τ) 0 Wd) ⊢ _
    iintro ⟨H, -, HO⟩
    isplitl [H] <;> iassumption
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) uc (V0 m c) ∗ Er c) : sProp 𝕄) :=
      bigSep_mono fun c _ => by
        rw [← Pipeline.unscopedBufs_held (Ix := Unit) (Name := ℕ) (U := UU nD τ) (Lvl := ℕ) c (V0 m c)]
        show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
          ⊢ iprop(unscopedBufs c (fun b => m ((c.tc : Thread nD τ).loc b)) ∗ (∃ r, prngReg c r) ∗ ∃ Wd, owes (c : Thread nD τ) 0 Wd)
        iintro ⟨Hh, -, HO, -, Hp, -⟩
        isplitl [Hh]; · iexact Hh
        isplitl [Hp]
        · iexists (ρ c); iexact Hp
        iexists ∅; iexact HO
    iintro ⟨H, -⟩
    imodintro
    iapply hsplit
    iexact H
  · unfold StableHlo.held
    iintro ⟨Hh, HSI⟩
    ihave Hr := (pointsTo_read_all tc (fun b => ((c : Thread nD τ).1, b)) (W5 m c) s') $$ [Hh HSI]
    · isplitl [Hh] <;> iassumption
    icases Hr with ⟨%h, HSI⟩
    imodintro
    isplitr
    · ipureintro
      exact ⟨⟨(h _ (mem_tc main_arg0 (by decide) (by decide))).trans (arg_keep m c main_arg0 (by decide) (by decide) (by decide) (by decide) (by decide) (by decide)),
        (h _ (mem_tc main_arg1 (by decide) (by decide))).trans (arg_keep m c main_arg1 (by decide) (by decide) (by decide) (by decide) (by decide) (by decide)),
        (h _ (mem_tc main_arg2 (by decide) (by decide))).trans (arg_keep m c main_arg2 (by decide) (by decide) (by decide) (by decide) (by decide) (by decide)),
        (h _ (mem_tc main_arg3 (by decide) (by decide))).trans (arg_keep m c main_arg3 (by decide) (by decide) (by decide) (by decide) (by decide) (by decide)),
        (h _ (mem_tc main_arg4 (by decide) (by decide))).trans (arg_keep m c main_arg4 (by decide) (by decide) (by decide) (by decide) (by decide) (by decide)),
        (h _ (mem_tc main_arg5 (by decide) (by decide))).trans (arg_keep m c main_arg5 (by decide) (by decide) (by decide) (by decide) (by decide) (by decide)),
        (h _ (mem_tc main_arg6 (by decide) (by decide))).trans (arg_keep m c main_arg6 (by decide) (by decide) (by decide) (by decide) (by decide) (by decide)),
        (h _ (mem_tc main_arg7 (by decide) (by decide))).trans (arg_keep m c main_arg7 (by decide) (by decide) (by decide) (by decide) (by decide) (by decide)),
        (h _ (mem_tc main_arg8 (by decide) (by decide))).trans (arg_keep m c main_arg8 (by decide) (by decide) (by decide) (by decide) (by decide) (by decide))⟩,
        h _ (mem_tc main_v0 (by decide) (by decide))⟩
    · iexact HSI

/-- The arguments and the counters alone. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (run_all m ρ).mono fun _ h => ⟨fun c => (h.1 c).1, h.2⟩

end Cert.KernelIdeal.Proof
-- ==== Proof.Drawn.lean ====
module

public import proofs.«01_k».proof.Defs
public import Idealize.ShloMosaic.Lib.Pointwise.Reduce
public import Idealize.ShloMosaic.Lib.Pipeline.ValueKit
public import Idealize.ShloMosaic.Lib.IdealHost
public import Idealize.ShloMosaic.Lib.KernelVsHost

@[expose] public section

set_option maxRecDepth 65536

noncomputable section

/-! What the precondition says of the arguments. -/

namespace Cert.Drawn

open Idealize.ShloMosaic

instance facts : Cert.Pre_as_drawn.Facts where
  bcast_S_S256x100000 := by decide
  bcast_S_S288x100000 := by decide
  bcast_S_S32 := by decide
  bcast_S_S32x100000 := by decide
  bcast_S_S256 := by decide

theorem minf : Ideal.ofBits .f32 0xFF800000#32 = ⊥ := by simp [Ideal.ofBits, Ideal.ieee]
theorem pinf : Ideal.ofBits .f32 0x7F800000#32 = ⊤ := by simp [Ideal.ofBits, Ideal.ieee]

theorem and1 {a b : BitVec 1} (h : a &&& b = 1#1) : a = 1#1 ∧ b = 1#1 := by revert a b; decide
theorem bit {p : Bool} (h : BitVec.ofBool p = 1#1) : p = true := by revert p; decide

theorem real_of (x : EReal) (h : ⊥ < x) (h' : x < ⊤) : ∃ r : ℝ, x = r := by
  induction x with
  | bot => exact absurd h (lt_irrefl _)
  | top => exact absurd h' (lt_irrefl _)
  | coe r => exact ⟨r, rfl⟩

theorem gt_lt {S : Shape} (x lo hi : FVec Ideal S .f32) (i : S.Idx) (h : andi (cmpf .ogt x lo) (cmpf .olt x hi) i = 1#1) : lo i < x i ∧ x i < hi i := by
  have e := and1 (a := Ideal.cmp .ogt (x i) (lo i)) (b := Ideal.cmp .olt (x i) (hi i)) h
  have e1 := e.1
  have e2 := e.2
  simp only [Ideal.cmp] at e1 e2
  exact ⟨of_decide_eq_true (bit e1), of_decide_eq_true (bit e2)⟩

theorem ne_of {S : Shape} (x z : FVec Ideal S .f32) (i : S.Idx) (h : cmpf .une x z i = 1#1) : x i ≠ z i := by
  have e1 : Ideal.cmp .une (x i) (z i) = 1#1 := h
  simp only [Ideal.cmp] at e1
  exact of_decide_eq_true (bit e1)

theorem fin_at {S : Shape} (x lo hi : FVec Ideal S .f32) (i : S.Idx) (hl : lo i = Ideal.ofBits .f32 0xFF800000#32) (hh : hi i = Ideal.ofBits .f32 0x7F800000#32)
    (h : andi (cmpf .ogt x lo) (cmpf .olt x hi) i = 1#1) : ∃ r : ℝ, x i = r := by
  obtain ⟨a, b⟩ := gt_lt x lo hi i h
  rw [hl, minf] at a
  rw [hh, pinf] at b
  exact real_of _ a b

theorem temp_at {S : Shape} (x lo hi z : FVec Ideal S .f32) (i : S.Idx) (hl : lo i = Ideal.ofBits .f32 0xFF800000#32) (hh : hi i = Ideal.ofBits .f32 0x7F800000#32) (hz : z i = Ideal.ofBits .f32 0x00000000#32)
    (h : andi (andi (cmpf .ogt x lo) (cmpf .olt x hi)) (cmpf .une x z) i = 1#1) : ∃ r : ℝ, r ≠ 0 ∧ x i = r := by
  have e := and1 (a := andi (cmpf .ogt x lo) (cmpf .olt x hi) i) (b := cmpf .une x z i) h
  obtain ⟨r, hr⟩ := fin_at x lo hi i hl hh e.1
  have n := ne_of x z i e.2
  rw [hz, Ideal.ofBits_zero_f32, hr] at n
  exact ⟨r, fun h0 => n (by rw [h0]; rfl), hr⟩

theorem exp_at {S : Shape} (x lo hi : FVec Ideal S .f32) (i : S.Idx) (hl : lo i = Ideal.ofBits .f32 0x00000000#32) (hh : hi i = Ideal.ofBits .f32 0x3F800000#32)
    (h : andi (cmpf .ogt x lo) (cmpf .olt x hi) i = 1#1) : ∃ r : ℝ, (0 < r ∧ r < 1) ∧ x i = r := by
  obtain ⟨a, b⟩ := gt_lt x lo hi i h
  rw [hl, Ideal.ofBits_zero_f32] at a
  rw [hh, Ideal.ofBits_one_f32] at b
  obtain ⟨r, hr⟩ := real_of (x i) (lt_of_le_of_lt bot_le a) (lt_of_lt_of_le b le_top)
  rw [hr] at a b
  exact ⟨r, ⟨by exact_mod_cast a, by exact_mod_cast b⟩, hr⟩

theorem id_at {S : Shape} (x lo hi : IVec S 32) (i : S.Idx) (hl : lo i = 0#32) (hh : hi i = 100000#32)
    (h : andi (cmpi .sge x lo) (cmpi .slt x hi) i = 1#1) : ∃ n : ℕ, n < 100000 ∧ x i = BitVec.ofNat 32 n := by
  have e := and1 (a := cmpi .sge x lo i) (b := cmpi .slt x hi i) h
  have e1 : BitVec.ofBool (BitVec.sle (lo i) (x i)) = 1#1 := e.1
  have e2 : BitVec.ofBool (BitVec.slt (x i) (hi i)) = 1#1 := e.2
  rw [hl] at e1
  rw [hh] at e2
  have f1 := bit e1
  have f2 := bit e2
  generalize x i = y at f1 f2 ⊢
  refine ⟨y.toNat, ?_, by simp⟩
  simp only [BitVec.sle, BitVec.slt, decide_eq_true_eq, BitVec.toInt_eq_toNat_cond] at f1 f2
  simp at f1 f2
  split at f1 <;> split at f2 <;> omega

theorem cu_at (x a b c : IVec Cert.Pre_as_drawn.S32 32) (i : Cert.Pre_as_drawn.S32.Idx) (n : ℕ) (ha : a i = BitVec.ofNat 32 n) (hb : b i = 1#32) (hc : c i = 8#32)
    (h : cmpi .eq x (muli (addi a b) c) i = 1#1) : x i = BitVec.ofNat 32 (8 * (n + 1)) := by
  have e : BitVec.ofBool (x i == (a i + b i) * c i) = 1#1 := h
  have f := eq_of_beq (bit e)
  rw [f, ha, hb, hc]
  apply BitVec.eq_of_toNat_eq
  simp [BitVec.toNat_add, BitVec.toNat_mul, BitVec.toNat_ofNat]
  omega

theorem not_at {S : Shape} (x : IVec S 1) (i : S.Idx) (h : noti x i = 1#1) : x i = 0#1 := by
  have e : ~~~ (x i) = 1#1 := h
  generalize x i = y at e ⊢
  revert y; decide

open Cert.Pre_as_drawn in
theorem drawn (a0 : FVec Ideal S256x100000 .f32) (a1 : FVec Ideal S288x100000 .f32) (a2 : FVec Ideal S32 .f32) (a3 : FVec Ideal S256 .f32) (a4 : FVec Ideal S32x100000 .f32)
    (a5 : IVec S256 32) (a6 : IVec S32 32) (a7 : IVec S32 32) (a8 : IVec S32 1)
    (h : (fn (F := Ideal) a0 a1 a2 a3 a4 a5 a6 a7 a8).1 = (fun _ => 1#1) ∧ (fn (F := Ideal) a0 a1 a2 a3 a4 a5 a6 a7 a8).2.1 = (fun _ => 1#1)
      ∧ (fn (F := Ideal) a0 a1 a2 a3 a4 a5 a6 a7 a8).2.2.1 = (fun _ => 1#1) ∧ (fn (F := Ideal) a0 a1 a2 a3 a4 a5 a6 a7 a8).2.2.2.1 = (fun _ => 1#1)
      ∧ (fn (F := Ideal) a0 a1 a2 a3 a4 a5 a6 a7 a8).2.2.2.2.1 = (fun _ => 1#1) ∧ (fn (F := Ideal) a0 a1 a2 a3 a4 a5 a6 a7 a8).2.2.2.2.2.1 = (fun _ => 1#1)
      ∧ (fn (F := Ideal) a0 a1 a2 a3 a4 a5 a6 a7 a8).2.2.2.2.2.2 = (fun _ => 1#1)) :
    (∀ i, ∃ r : ℝ, a0 i = r) ∧ (∀ i, ∃ r : ℝ, a1 i = r) ∧ (∀ i, ∃ r : ℝ, r ≠ 0 ∧ a2 i = r) ∧ (∀ i, ∃ r : ℝ, (0 < r ∧ r < 1) ∧ a4 i = r)
      ∧ (∀ i, ∃ n : ℕ, n < 100000 ∧ a5 i = BitVec.ofNat 32 n) ∧ (∀ b : Fin 32, a7 (ix1 b) = BitVec.ofNat 32 (8 * (b.val + 1))) ∧ (∀ i, a8 i = 0#1) := by
  obtain ⟨h0, h1, h2, h4, h5, h7, h8⟩ := h
  refine ⟨fun i => fin_at a0 _ _ i rfl rfl (congrFun h0 i), fun i => fin_at a1 _ _ i rfl rfl (congrFun h1 i), fun i => temp_at a2 _ _ _ i rfl rfl rfl (congrFun h2 i),
    fun i => exp_at a4 _ _ i rfl rfl (congrFun h4 i), fun i => id_at a5 _ _ i rfl rfl (congrFun h5 i), fun b => cu_at a7 _ _ _ (ix1 b) b.val rfl rfl rfl (congrFun h7 (ix1 b)),
    fun i => not_at a8 i (congrFun h8 i)⟩

end Cert.Drawn

end
-- ==== Proof.Arith.lean ====
module

public import Idealize.ShloMosaic.PureOps.Ideal
public import Idealize.ShloMosaic.PureOps.Reduce
public import Idealize.ShloMosaic.PureOps.Ideal.Laws
public import Mathlib.Algebra.BigOperators.Intervals
public import Mathlib.Data.EReal.Operations
public import Mathlib.Data.EReal.Inv

@[expose] public section

noncomputable section

namespace Cert.Arith

open Idealize.ShloMosaic

/-! ## Real arithmetic inside the extended reals -/

theorem div_real (a b : ℝ) (hb : b ≠ 0) : Ideal.div (a : EReal) (b : EReal) = ((a / b : ℝ) : EReal) := by
  rw [Ideal.div_coe hb, ← EReal.coe_mul]
  congr 1
  rw [mul_one_div]
theorem max_real (a b : ℝ) : max (a : EReal) (b : EReal) = ((max a b : ℝ) : EReal) :=
  (EReal.coe_strictMono.monotone.map_max).symm
theorem sum_real {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The first of the largest -/

/-- `k` is the first index below 100000 at which `f` is largest. -/
def IsFM (f : ℕ → ℝ) (k : ℕ) : Prop := k < 100000 ∧ (∀ v, v < 100000 → f v ≤ f k) ∧ ∀ v, v < k → f v < f k

theorem IsFM.exists (f : ℕ → ℝ) : ∃ k, IsFM f k := by
  classical
  obtain ⟨m, hm, hmax⟩ := Finset.exists_max_image (Finset.range 100000) f ⟨0, Finset.mem_range.mpr (by omega)⟩
  have h : ∃ k, k < 100000 ∧ ∀ v, v < 100000 → f v ≤ f k := ⟨m, Finset.mem_range.mp hm, fun v hv => hmax v (Finset.mem_range.mpr hv)⟩
  refine ⟨Nat.find h, (Nat.find_spec h).1, (Nat.find_spec h).2, fun v hv => ?_⟩
  by_contra hc
  refine Nat.find_min h hv ⟨lt_trans hv (Nat.find_spec h).1, fun w hw => ?_⟩
  exact le_trans ((Nat.find_spec h).2 w hw) (not_lt.mp hc)

theorem IsFM.scale {f g : ℕ → ℝ} {k : ℕ} (c : ℝ) (hc : 0 < c) (h : ∀ v, v < 100000 → g v = c * f v) (hf : IsFM f k) : IsFM g k := by
  refine ⟨hf.1, fun v hv => ?_, fun v hv => ?_⟩
  · rw [h v hv, h k hf.1]; exact mul_le_mul_of_nonneg_left (hf.2.1 v hv) hc.le
  · rw [h v (lt_trans hv hf.1), h k hf.1]; exact mul_lt_mul_of_pos_left (hf.2.2 v hv) hc

/-! ## Words -/

theorem toInt_small (a : ℕ) (h : a < 2147483648) : (BitVec.ofNat 32 a).toInt = (a : ℤ) := by
  rw [BitVec.toInt_eq_toNat_of_lt (by rw [BitVec.toNat_ofNat]; omega), BitVec.toNat_ofNat]
  have : a % 2 ^ 32 = a := by omega
  rw [this]
theorem slt_small (a b : ℕ) (ha : a < 2147483648) (hb : b < 2147483648) : (BitVec.ofNat 32 a).slt (BitVec.ofNat 32 b) = decide (a < b) := by
  rw [BitVec.slt_eq_decide, toInt_small a ha, toInt_small b hb]
  simp
theorem sle_small (a b : ℕ) (ha : a < 2147483648) (hb : b < 2147483648) : (BitVec.ofNat 32 a).sle (BitVec.ofNat 32 b) = decide (a ≤ b) := by
  rw [BitVec.sle_eq_decide, toInt_small a ha, toInt_small b hb]
  simp
theorem ofNat_inj (a b : ℕ) (ha : a < 4294967296) (hb : b < 4294967296) : BitVec.ofNat 32 a = BitVec.ofNat 32 b ↔ a = b := by
  constructor
  · intro h
    have := congrArg BitVec.toNat h
    rw [BitVec.toNat_ofNat, BitVec.toNat_ofNat] at this
    omega
  · rintro rfl; rfl
theorem beq_small (a b : ℕ) (ha : a < 4294967296) (hb : b < 4294967296) : (BitVec.ofNat 32 a == BitVec.ofNat 32 b) = decide (a = b) := by
  rw [Bool.eq_iff_iff, beq_iff_eq, decide_eq_true_iff]
  exact ofNat_inj a b ha hb
theorem minsi_small (a b : ℕ) (ha : a < 2147483648) (hb : b < 2147483648) : IntOp.minsi (BitVec.ofNat 32 a) (BitVec.ofNat 32 b) = BitVec.ofNat 32 (min a b) := by
  unfold IntOp.minsi
  rw [slt_small a b ha hb]
  by_cases h : a < b
  · rw [decide_eq_true h, if_pos rfl, min_eq_left h.le]
  · rw [decide_eq_false h, if_neg (by decide), min_eq_right (not_lt.mp h)]
theorem ofBool_eq_one (b : Bool) : BitVec.ofBool b = 1#1 ↔ b = true := by cases b <;> decide
theorem ofBool_prop (p : Prop) [Decidable p] : BitVec.ofBool (decide p) = 1#1 ↔ p := by
  rw [ofBool_eq_one, decide_eq_true_iff]
theorem bit_ne_one (b : BitVec 1) : b ≠ 1#1 ↔ b = 0#1 := by
  revert b; decide

theorem fold_min_aux {ι : Type*} (s : Finset ι) (f : ι → BitVec 32) (g : ι → ℕ) (hf : ∀ i ∈ s, f i = BitVec.ofNat 32 (g i)) (hg : ∀ i ∈ s, g i < 2147483648) :
    ∃ n, s.fold IntOp.minsi 2147483647#32 f = BitVec.ofNat 32 n ∧ n < 2147483648 ∧ (∀ i ∈ s, n ≤ g i) ∧ (n = 2147483647 ∨ ∃ i ∈ s, n = g i) := by
  classical
  induction s using Finset.induction_on with
  | empty => exact ⟨2147483647, rfl, by omega, fun i hi => absurd hi (Finset.notMem_empty i), .inl rfl⟩
  | insert a s ha ih =>
    obtain ⟨n, h1, h2, h3, h4⟩ := ih (fun i hi => hf i (Finset.mem_insert_of_mem hi)) (fun i hi => hg i (Finset.mem_insert_of_mem hi))
    have hga := hg a (Finset.mem_insert_self a s)
    refine ⟨min (g a) n, ?_, by omega, ?_, ?_⟩
    · rw [Finset.fold_insert ha, h1, hf a (Finset.mem_insert_self a s), minsi_small _ _ hga h2]
    · intro i hi
      rcases Finset.mem_insert.mp hi with rfl | hi
      · exact min_le_left _ _
      · exact le_trans (min_le_right _ _) (h3 i hi)
    · rcases le_total (g a) n with hl | hl
      · exact .inr ⟨a, Finset.mem_insert_self a s, min_eq_left hl⟩
      · rw [min_eq_right hl]
        rcases h4 with h4 | ⟨i, hi, h4⟩
        · exact .inl h4
        · exact .inr ⟨i, Finset.mem_insert_of_mem hi, h4⟩

/-- A signed minimum over small words, one of them the least. -/
theorem fold_min {ι : Type*} (s : Finset ι) (f : ι → BitVec 32) (g : ι → ℕ) (hf : ∀ i ∈ s, f i = BitVec.ofNat 32 (g i)) (hg : ∀ i ∈ s, g i < 2147483648)
    (k : ℕ) (h1 : ∃ i ∈ s, g i = k) (h2 : ∀ i ∈ s, k ≤ g i) : s.fold IntOp.minsi 2147483647#32 f = BitVec.ofNat 32 k := by
  obtain ⟨n, e, hn, h3, h4⟩ := fold_min_aux s f g hf hg
  obtain ⟨i, hi, hk⟩ := h1
  have := h3 i hi
  have := hg i hi
  rw [e]
  congr 1
  rcases h4 with h4 | ⟨j, hj, h4⟩
  · omega
  · have := h2 j hj; omega

/-- A maximum, one of the terms the largest. -/
theorem fold_max {ι : Type*} (s : Finset ι) (f : ι → EReal) (M : EReal) (h1 : ∃ i ∈ s, f i = M) (h2 : ∀ i ∈ s, f i ≤ M) : s.fold max ⊥ f = M := by
  refine le_antisymm ((Finset.fold_max_le M).mpr ⟨bot_le, h2⟩) ((Finset.le_fold_max M).mpr (.inr ?_))
  obtain ⟨i, hi, e⟩ := h1
  exact ⟨i, hi, e.ge⟩

/-! ## A running best -/

/-- What a lane holds after it has seen the indices in `P`: the first of the largest scores among them. -/
def Good (f : ℕ → ℝ) (P : ℕ → Prop) (b : EReal) (i : BitVec 32) : Prop :=
  (∃ c, P c ∧ i = BitVec.ofNat 32 c ∧ b = (f c : EReal) ∧ ∀ v, P v → f v ≤ f c ∧ (v < c → f v < f c)) ∨ ((∀ v, ¬ P v) ∧ b = ((-1 : ℝ) : EReal))

theorem Good.congr {f : ℕ → ℝ} {P P' : ℕ → Prop} {b : EReal} {i : BitVec 32} (h : ∀ v, P v ↔ P' v) (hg : Good f P b i) : Good f P' b i := by
  rcases hg with ⟨c, hc, hi, hb, hv⟩ | ⟨hn, hb⟩
  · exact .inl ⟨c, (h c).mp hc, hi, hb, fun v h' => hv v ((h v).mpr h')⟩
  · exact .inr ⟨fun v h' => hn v ((h v).mpr h'), hb⟩

theorem Good.step {f : ℕ → ℝ} {P : ℕ → Prop} {b : EReal} {i : BitVec 32} (hg : Good f P b i) (w : ℕ) (hw : ∀ v, P v → v < w) (h0 : 0 ≤ f w) :
    Good f (fun v => P v ∨ v = w) (max b (f w : EReal)) (if b < (f w : EReal) then BitVec.ofNat 32 w else i) := by
  rcases hg with ⟨c, hc, hi, hb, hv⟩ | ⟨hn, hb⟩
  · subst hb
    rw [max_real]
    by_cases h : f c < f w
    · rw [if_pos (EReal.coe_lt_coe_iff.mpr h), max_eq_right h.le]
      refine .inl ⟨w, .inr rfl, rfl, rfl, fun v hv' => ?_⟩
      rcases hv' with hv' | rfl
      · exact ⟨le_trans (hv v hv').1 h.le, fun _ => lt_of_le_of_lt (hv v hv').1 h⟩
      · exact ⟨le_refl _, fun h => absurd h (lt_irrefl _)⟩
    · rw [if_neg (fun h' => h (EReal.coe_lt_coe_iff.mp h')), max_eq_left (not_lt.mp h)]
      refine .inl ⟨c, .inl hc, hi, rfl, fun v hv' => ?_⟩
      rcases hv' with hv' | rfl
      · exact hv v hv'
      · exact ⟨not_lt.mp h, fun hc' => absurd (hw c hc) (by omega)⟩
  · subst hb
    have h : (-1 : ℝ) < f w := by linarith
    rw [max_real, if_pos (EReal.coe_lt_coe_iff.mpr h), max_eq_right h.le]
    refine .inl ⟨w, .inr rfl, rfl, rfl, fun v hv' => ?_⟩
    rcases hv' with hv' | rfl
    · exact absurd hv' (hn v)
    · exact ⟨le_refl _, fun h => absurd h (lt_irrefl _)⟩

/-- Lanes that together have seen every index below 100000: their best is the first of the largest. -/
theorem lanes_first {ι : Type*} [Fintype ι] (f : ℕ → ℝ) (P : ι → ℕ → Prop) (b : ι → EReal) (i : ι → BitVec 32) (hg : ∀ l, Good f (P l) (b l) (i l))
    (hne : ∀ l, ∃ v, P l v) (hlt : ∀ l v, P l v → v < 100000) (hcov : ∀ v, v < 100000 → ∃ l, P l v) (k : ℕ) (hk : IsFM f k) :
    (Finset.univ.fold max ⊥ b = (f k : EReal)) ∧
    (Finset.univ : Finset ι).fold IntOp.minsi 2147483647#32 (fun l => if b l = (f k : EReal) then i l else 100000#32) = BitVec.ofNat 32 k := by
  classical
  have hc : ∀ l, ∃ c, P l c ∧ i l = BitVec.ofNat 32 c ∧ b l = (f c : EReal) ∧ ∀ v, P l v → f v ≤ f c ∧ (v < c → f v < f c) := by
    intro l
    rcases hg l with h | ⟨hn, _⟩
    · exact h
    · obtain ⟨v, hv⟩ := hne l; exact absurd hv (hn v)
  choose c hP hi hb hv using hc
  obtain ⟨l0, hl0⟩ := hcov k hk.1
  have e0 : c l0 = k := by
    have h1 := (hv l0 k hl0)
    have h2 := hk.2.1 (c l0) (hlt l0 _ (hP l0))
    rcases lt_trichotomy (c l0) k with h | h | h
    · have := hk.2.2 _ h; linarith [h1.1]
    · exact h
    · have := h1.2 h; linarith
  constructor
  · refine fold_max _ _ _ ⟨l0, Finset.mem_univ _, by rw [hb, e0]⟩ fun l _ => ?_
    rw [hb, EReal.coe_le_coe_iff]
    exact hk.2.1 _ (hlt l _ (hP l))
  · refine fold_min _ _ (fun l => if b l = (f k : EReal) then c l else 100000) (fun l _ => ?_) (fun l _ => ?_) k ⟨l0, Finset.mem_univ _, ?_⟩ (fun l _ => ?_)
    · split
      · exact hi l
      · rfl
    · have := hlt l _ (hP l); split <;> omega
    · rw [if_pos (by rw [hb, e0]), e0]
    · have h1 := hlt l _ (hP l)
      have h2 := hk.1
      split
      · rename_i h
        rw [hb, EReal.coe_eq_coe_iff] at h
        by_contra hcon
        have := hk.2.2 (c l) (by omega)
        linarith
      · omega

/-- The first of the largest, read off a whole row. -/
theorem row_first (f : ℕ → ℝ) (k : ℕ) (hk : IsFM f k) (x : Fin 100000 → EReal) (hx : ∀ v, x v = (f v.val : EReal)) :
    (Finset.univ.fold max ⊥ x = (f k : EReal)) ∧
    (Finset.univ : Finset (Fin 100000)).fold IntOp.minsi 2147483647#32 (fun v => if x v = (f k : EReal) then BitVec.ofNat 32 v.val else 100000#32) = BitVec.ofNat 32 k :=
  lanes_first f (fun l v => v = l.val) x (fun l => BitVec.ofNat 32 l.val)
    (fun l => .inl ⟨l.val, rfl, rfl, hx l, fun v hv => by subst hv; exact ⟨le_refl _, fun h => absurd h (lt_irrefl _)⟩⟩)
    (fun l => ⟨l.val, rfl⟩) (fun l v hv => hv ▸ l.isLt) (fun v hv => ⟨⟨v, hv⟩, rfl⟩) k hk

/-! ## Where the first rejection is -/

/-- `n` is the first of eight positions not accepted, eight when all are. -/
def FirstRej (acc : ℕ → Prop) (n : ℕ) : Prop := n ≤ 8 ∧ (∀ j, j < n → acc j) ∧ (n < 8 → ¬ acc n)

theorem FirstRej.exists (acc : ℕ → Prop) : ∃ n, FirstRej acc n := by
  classical
  by_cases h : ∃ n, n < 8 ∧ ¬ acc n
  · refine ⟨Nat.find h, by have := (Nat.find_spec h).1; omega, fun j hj => ?_, fun _ => (Nat.find_spec h).2⟩
    by_contra hc
    exact Nat.find_min h hj ⟨by have := (Nat.find_spec h).1; omega, hc⟩
  · exact ⟨8, le_refl _, fun j hj => by by_contra hc; exact h ⟨j, hj, hc⟩, fun h => absurd h (by omega)⟩

/-- The row of tokens: the accepted drafts, the recovered token at the first rejection, the bonus token if there is none. -/
def specRow (n : ℕ) (d rec : ℕ → BitVec 32) (bonus : BitVec 32) (p : ℕ) : BitVec 32 :=
  if p < n then (if p < 8 then d p else 4294967295#32) else if p = n then (if p < 8 then rec p else bonus) else 4294967295#32

theorem fold_reject (acc : ℕ → Prop) (n : ℕ) (hn : FirstRej acc n) (x : Fin 8 → BitVec 32)
    (h1 : ∀ j : Fin 8, acc j.val → x j = 8#32) (h2 : ∀ j : Fin 8, ¬ acc j.val → x j = BitVec.ofNat 32 j.val) :
    (Finset.univ : Finset (Fin 8)).fold IntOp.minsi 2147483647#32 x = BitVec.ofNat 32 n := by
  classical
  refine fold_min _ _ (fun j => if acc j.val then 8 else j.val) (fun j _ => ?_) (fun j _ => ?_) n ?_ (fun j _ => ?_)
  · split
    · rename_i h; exact h1 j h
    · rename_i h; exact h2 j h
  · split <;> omega
  · by_cases h : n < 8
    · exact ⟨⟨n, h⟩, Finset.mem_univ _, by rw [if_neg (hn.2.2 h)]⟩
    · have e : n = 8 := by have := hn.1; omega
      exact ⟨0, Finset.mem_univ _, by rw [if_pos (hn.2.1 _ (by rw [e]; exact (0 : Fin 8).isLt)), e]⟩
  · split
    · exact hn.1
    · rename_i h
      by_contra hc
      exact h (hn.2.1 _ (by omega))

/-! ## Sums over chunks of 1024 -/

theorem sum_chunk (f : ℕ → EReal) (o n : ℕ) : ∑ v ∈ Finset.range ((n + 1) * 1024), f (o + v)
    = ∑ l : Fin 1024, f (o + l.val) + ∑ v ∈ Finset.range (n * 1024), f (o + 1024 + v) := by
  rw [show (n + 1) * 1024 = 1024 + n * 1024 by ring, Finset.sum_range_add, ← Finset.sum_range (fun l => f (o + l))]
  congr 1
  exact Finset.sum_congr rfl fun v _ => by rw [Nat.add_assoc]

/-- The last chunk counts from column 99328 on only. -/
theorem sum_tail (f : ℕ → EReal) : ∑ l : Fin 1024, (if 99328 ≤ 98976 + l.val then f (98976 + l.val) else 0) = ∑ v ∈ Finset.range 672, f (99328 + v) := by
  rw [← Finset.sum_range (fun l => if 99328 ≤ 98976 + l then f (98976 + l) else 0), show 1024 = 352 + 672 from rfl, Finset.sum_range_add,
    Finset.sum_eq_zero (fun l hl => by rw [Finset.mem_range] at hl; rw [if_neg (by omega)]), zero_add]
  exact Finset.sum_congr rfl fun v _ => by rw [if_pos (by omega), ← Nat.add_assoc]

theorem sum_all (f : ℕ → EReal) : ∑ v ∈ Finset.range 99328, f v + ∑ v ∈ Finset.range 672, f (99328 + v) = ∑ v ∈ Finset.range 100000, f v := by
  rw [show 100000 = 99328 + 672 from rfl, Finset.sum_range_add]

end Cert.Arith
-- ==== Proof.KVec.lean ====
module

public import proofs.«01_k».proof.Proof.Walk
public import proofs.«01_k».proof.Proof.Arith
public import Idealize.ShloMosaic.Lib.Pointwise.Reduce

@[expose] public section

set_option maxRecDepth 65536

noncomputable section

namespace Cert.KernelIdeal.Proof

open Cert.KernelIdeal Cert.KernelIdeal.Gen Cert.Arith
open Idealize.ShloMosaic
open Idealize.ShloMosaic.TcCoe Idealize.ShloMosaic.Tactic

/-! ## The second call's vectors at an index -/

theorem win8_at {α : Type} (o : Nat) (h : o + 1024 ≤ 100000) (x : S8x100000.Idx → α) (r : Fin 8) (l : Fin 1024) :
    win8 o h x (ix2 r l) = x (ix2 r ⟨o + l.val, by omega⟩) := by
  unfold win8
  congr 1
  funext a
  apply Fin.ext
  fin_cases a
  · show 0 + 1 * r.val = r.val; omega
  · show o + 1 * l.val = o + l.val; omega
theorem win1_at {α : Type} (o : Nat) (h : o + 1024 ≤ 100000) (x : S1x100000.Idx → α) (l : Fin 1024) :
    win1 o h x (ix2 0 l) = x (ix2 0 ⟨o + l.val, by omega⟩) := by
  unfold win1
  congr 1
  funext a
  apply Fin.ext
  fin_cases a
  · rfl
  · show o + 1 * l.val = o + l.val; omega

theorem bc_row {α : Type} (x : S1x1024.Idx → α) (r : Fin 8) (l : Fin 1024) : broadcastTo S8x1024 x broadcasts_S1x1024_S8x1024 (ix2 r l) = x (ix2 0 l) :=
  broadcastTo_apply (s := S1x1024) (t := S8x1024) _ _ _ _ (fun a => by fin_cases a <;> rfl)
theorem bc_col {α : Type} (x : S8x1.Idx → α) (r : Fin 8) (l : Fin 1024) : broadcastTo S8x1024 x broadcasts_S8x1_S8x1024 (ix2 r l) = x (ix2 r 0) :=
  broadcastTo_apply (s := S8x1) (t := S8x1024) _ _ _ _ (fun a => by fin_cases a <;> rfl)
theorem cast_col {α : Type} (x : S8.Idx → α) (r : Fin 8) : shapeCast S8x1 x shapeCasts_S8_S8x1 (ix2 r 0) = x (ix1 r) := by
  pointwise

theorem lanes_at (l : Fin 1024) : lanes (ix2 0 l) = BitVec.ofNat 32 l.val := by
  show iota .tc S1x1024 32 [1] iota_S1x1024_d1_w32 (ix2 0 l) = _
  rw [iota_apply]
  show BitVec.ofNat 32 (0 * 1024 + l.val) = _
  congr 1; omega
theorem iotaAt_at (o : ℕ) (l : Fin 1024) : iotaAt lanes o (ix2 0 l) = BitVec.ofNat 32 (o + l.val) := by
  show lanes (ix2 0 l) + BitVec.ofNat 32 o = _
  rw [lanes_at, ← BitVec.ofNat_add, Nat.add_comm]
theorem newlo_at (l : Fin 1024) : newlo lanes (ix2 0 l) = BitVec.ofBool (decide (99328 ≤ 98976 + l.val)) := by
  show BitVec.ofBool ((99328#32).sle (iotaAt lanes 98976 (ix2 0 l))) = _
  rw [iotaAt_at, show (99328#32 : BitVec 32) = BitVec.ofNat 32 99328 from rfl, sle_small _ _ (by omega) (by omega)]
theorem eqAt_at (d8 : IVec S8x1 32) (d : Fin 8 → ℕ) (hd : ∀ r, d8 (ix2 r 0) = BitVec.ofNat 32 (d r)) (hl : ∀ r, d r < 100000) (o : ℕ) (ho : o ≤ 100000) (r : Fin 8) (l : Fin 1024) :
    eqAt lanes d8 o (ix2 r l) = BitVec.ofBool (decide (o + l.val = d r)) := by
  show IntOp.cmpi .eq (broadcastTo S8x1024 (iotaAt lanes o) broadcasts_S1x1024_S8x1024 (ix2 r l)) (broadcastTo S8x1024 d8 broadcasts_S8x1_S8x1024 (ix2 r l)) = _
  rw [bc_row, bc_col, iotaAt_at, hd]
  show BitVec.ofBool (_ == _) = _
  have := hl r
  rw [beq_small _ _ (by omega) (by omega)]

theorem minus_one : (Ideal.ofBits .f32 0xBF800000#32 : EReal) = ((-1 : ℝ) : EReal) := by
  simp [Ideal.ofBits, Ideal.ieee, -EReal.coe_mul]
  norm_num
theorem minus_inf : (Ideal.ofBits .f32 0xFF800000#32 : EReal) = ⊥ := by
  simp [Ideal.ofBits, Ideal.ieee]

theorem scOf_at (cf : FVec Ideal S8x1 .f32) (et ed : FVec Ideal S8x1024 .f32) (q : FVec Ideal S1x1024 .f32) (r : Fin 8) (l : Fin 1024) :
    scOf cf et ed q (ix2 r l) = Ideal.div (max (et (ix2 r l) * cf (ix2 r 0) - ed (ix2 r l)) 0) (q (ix2 0 l)) := by
  show Ideal.div (max (et (ix2 r l) * broadcastTo S8x1024 cf broadcasts_S8x1_S8x1024 (ix2 r l) - ed (ix2 r l)) (Ideal.ofBits .f32 0x00000000#32)) (broadcastTo S8x1024 q broadcasts_S1x1024_S8x1024 (ix2 r l)) = _
  rw [bc_row, bc_col, Ideal.ofBits_zero_f32]

theorem sel_at {α : Type} {s : Shape} (p : IVec s 1) (x y : s.Idx → α) (i : s.Idx) (P : Prop) [Decidable P] (h : p i = BitVec.ofBool (decide P)) :
    select p x y i = if P then x i else y i := by
  show (if p i = 1 then x i else y i) = _
  rw [h]
  by_cases hp : P
  · rw [if_pos hp]; exact if_pos ((ofBool_prop P).mpr hp)
  · rw [if_neg hp]; exact if_neg (fun h' => hp ((ofBool_prop P).mp h'))

/-! ## The first pass: the sums -/

theorem foldA_sum (X : FVec Ideal S8x100000 .f32) (r : Fin 8) (f : ℕ → EReal) (hX : ∀ v (h : v < 100000), X (ix2 r ⟨v, h⟩) = f v) :
    ∀ (n o : Nat) (h : o + n * 1024 ≤ 99328) (acc : FVec Ideal S8x1024 .f32),
      ∑ l : Fin 1024, foldA X n o h acc (ix2 r l) = ∑ l : Fin 1024, acc (ix2 r l) + ∑ v ∈ Finset.range (n * 1024), f (o + v) := by
  intro n
  induction n with
  | zero => intro o h acc; rw [foldA, Nat.zero_mul, Finset.range_zero, Finset.sum_empty, add_zero]
  | succ n ih =>
    intro o h acc
    rw [foldA, ih, sum_chunk, ← add_assoc, ← Finset.sum_add_distrib]
    congr 1
    refine Finset.sum_congr rfl fun l _ => ?_
    show acc (ix2 r l) + win8 o _ X (ix2 r l) = _
    rw [win8_at, hX]

theorem rowsum_at (x : FVec Ideal S8x1024 .f32) (r : Fin 8) :
    shapeCast S8x1 (multiReduction .add [1] S8 x 0x00000000#32 reduces_S8x1024_S8 (.inl rfl) rfl) shapeCasts_S8_S8x1 (ix2 r 0) = ∑ l : Fin 1024, x (ix2 r l) := by
  rw [cast_col]
  exact Ideal.reduceAdd_r2_a1 reduces_S8x1024_S8 x (ix1 r)

theorem newlo_bc (r : Fin 8) (l : Fin 1024) : broadcastTo S8x1024 (newlo lanes) broadcasts_S1x1024_S8x1024 (ix2 r l) = BitVec.ofBool (decide (99328 ≤ 98976 + l.val)) := by
  rw [bc_row, newlo_at]

theorem stOf_at (X : FVec Ideal S8x100000 .f32) (r : Fin 8) (f : ℕ → EReal) (hX : ∀ v (h : v < 100000), X (ix2 r ⟨v, h⟩) = f v) :
    stOf X (ix2 r 0) = ∑ v ∈ Finset.range 100000, f v := by
  unfold stOf
  rw [rowsum_at, shapeCast_self, ← sum_all, ← sum_tail]
  have e : ∀ l : Fin 1024, (addf (foldA X 97 0 (by omega) (broadcast S8x1024 (Scalar.ofBits .f32 0x00000000#32 : Ideal .f32))) (select (broadcastTo S8x1024 (newlo lanes) broadcasts_S1x1024_S8x1024) (win8 98976 (by omega) X) (broadcast S8x1024 (Scalar.ofBits .f32 0x00000000#32 : Ideal .f32)))) (ix2 r l)
      = foldA X 97 0 (by omega) (broadcast S8x1024 (Scalar.ofBits .f32 0x00000000#32 : Ideal .f32)) (ix2 r l) + (if 99328 ≤ 98976 + l.val then f (98976 + l.val) else 0) := by
    intro l
    show _ + select (broadcastTo S8x1024 (newlo lanes) broadcasts_S1x1024_S8x1024) (win8 98976 (by omega) X) (broadcast S8x1024 (Scalar.ofBits .f32 0x00000000#32 : Ideal .f32)) (ix2 r l) = _
    rw [sel_at _ _ _ _ _ (newlo_bc r l), win8_at, hX]
    congr 1
    show (if _ then _ else Ideal.ofBits .f32 0x00000000#32) = _
    rw [Ideal.ofBits_zero_f32]
  rw [Finset.sum_congr rfl fun l _ => e l, Finset.sum_add_distrib, foldA_sum X r f hX]
  have z : ∑ l : Fin 1024, (broadcast S8x1024 (Scalar.ofBits .f32 0x00000000#32 : Ideal .f32)) (ix2 r l) = 0 :=
    Finset.sum_eq_zero fun l _ => Ideal.ofBits_zero_f32
  have e2 : ∑ v ∈ Finset.range (97 * 1024), f (0 + v) = ∑ v ∈ Finset.range 99328, f v :=
    Finset.sum_congr rfl fun v _ => by rw [Nat.zero_add]
  rw [z, zero_add, e2]

/-! ## The second pass: the gathered weights and the running best -/

section Second
variable (X D : FVec Ideal S8x100000 .f32) (q : FVec Ideal S1x100000 .f32) (d8 : IVec S8x1 32) (cf : FVec Ideal S8x1 .f32)

theorem stepG_sum (m : IVec S8x1024 1) (g x : FVec Ideal S8x1024 .f32) (r : Fin 8) (P : Fin 1024 → Prop) [DecidablePred P] (h : ∀ l, m (ix2 r l) = BitVec.ofBool (decide (P l))) :
    ∑ l : Fin 1024, stepG m g x (ix2 r l) = ∑ l : Fin 1024, g (ix2 r l) + ∑ l : Fin 1024, if P l then x (ix2 r l) else 0 := by
  rw [← Finset.sum_add_distrib]
  refine Finset.sum_congr rfl fun l _ => ?_
  show g (ix2 r l) + select m x (broadcast S8x1024 (Scalar.ofBits .f32 0x00000000#32 : Ideal .f32)) (ix2 r l) = _
  rw [sel_at _ _ _ _ _ (h l)]
  congr 1
  show (if _ then _ else Ideal.ofBits .f32 0x00000000#32) = _
  rw [Ideal.ofBits_zero_f32]

theorem foldB_gt (d : Fin 8 → ℕ) (hd : ∀ r, d8 (ix2 r 0) = BitVec.ofNat 32 (d r)) (hl : ∀ r, d r < 100000) (r : Fin 8) (f : ℕ → EReal) (hX : ∀ v (h : v < 100000), X (ix2 r ⟨v, h⟩) = f v) :
    ∀ (n o : Nat) (h : o + n * 1024 ≤ 99328) (a : AccB Ideal),
      ∑ l : Fin 1024, (foldB X D q d8 cf n o h a).gt (ix2 r l) = ∑ l : Fin 1024, a.gt (ix2 r l) + ∑ v ∈ Finset.range (n * 1024), (if o + v = d r then f (o + v) else 0) := by
  intro n
  induction n with
  | zero => intro o h a; rw [foldB, Nat.zero_mul, Finset.range_zero, Finset.sum_empty, add_zero]
  | succ n ih =>
    intro o h a
    rw [foldB, ih, sum_chunk (fun v => if v = d r then f v else 0), ← add_assoc]
    congr 1
    rw [stepAt, stepB, stepG_sum _ _ _ r (fun l => o + l.val = d r) fun l => eqAt_at d8 d hd hl o (by omega) r l]
    congr 1
    exact Finset.sum_congr rfl fun l _ => by rw [win8_at, hX]

theorem foldB_gd (d : Fin 8 → ℕ) (hd : ∀ r, d8 (ix2 r 0) = BitVec.ofNat 32 (d r)) (hl : ∀ r, d r < 100000) (r : Fin 8) (f : ℕ → EReal) (hD : ∀ v (h : v < 100000), D (ix2 r ⟨v, h⟩) = f v) :
    ∀ (n o : Nat) (h : o + n * 1024 ≤ 99328) (a : AccB Ideal),
      ∑ l : Fin 1024, (foldB X D q d8 cf n o h a).gd (ix2 r l) = ∑ l : Fin 1024, a.gd (ix2 r l) + ∑ v ∈ Finset.range (n * 1024), (if o + v = d r then f (o + v) else 0) := by
  intro n
  induction n with
  | zero => intro o h a; rw [foldB, Nat.zero_mul, Finset.range_zero, Finset.sum_empty, add_zero]
  | succ n ih =>
    intro o h a
    rw [foldB, ih, sum_chunk (fun v => if v = d r then f v else 0), ← add_assoc]
    congr 1
    rw [stepAt, stepB, stepG_sum _ _ _ r (fun l => o + l.val = d r) fun l => eqAt_at d8 d hd hl o (by omega) r l]
    congr 1
    exact Finset.sum_congr rfl fun l _ => by rw [win8_at, hD]

theorem lastMask (d : Fin 8 → ℕ) (hd : ∀ r, d8 (ix2 r 0) = BitVec.ofNat 32 (d r)) (hl : ∀ r, d r < 100000) (r : Fin 8) (l : Fin 1024) :
    andi (eqAt lanes d8 98976) (broadcastTo S8x1024 (newlo lanes) broadcasts_S1x1024_S8x1024) (ix2 r l) = BitVec.ofBool (decide (99328 ≤ 98976 + l.val ∧ 98976 + l.val = d r)) := by
  show eqAt lanes d8 98976 (ix2 r l) &&& broadcastTo S8x1024 (newlo lanes) broadcasts_S1x1024_S8x1024 (ix2 r l) = _
  rw [newlo_bc, eqAt_at d8 d hd hl _ (by omega)]
  generalize 98976 + l.val = w
  rcases Decidable.em (99328 ≤ w) with h1 | h1 <;> rcases Decidable.em (w = d r) with h2 | h2
  · rw [decide_eq_true h1, decide_eq_true h2, decide_eq_true ⟨h1, h2⟩]; rfl
  · rw [decide_eq_true h1, decide_eq_false h2, decide_eq_false fun h => h2 h.2]; rfl
  · rw [decide_eq_false h1, decide_eq_true h2, decide_eq_false fun h => h1 h.1]; rfl
  · rw [decide_eq_false h1, decide_eq_false h2, decide_eq_false fun h => h1 h.1]; rfl

theorem pick (f : ℕ → EReal) (d : ℕ) (hd : d < 100000) :
    ∑ v ∈ Finset.range (97 * 1024), (if 0 + v = d then f (0 + v) else 0) + ∑ l : Fin 1024, (if 99328 ≤ 98976 + l.val ∧ 98976 + l.val = d then f (98976 + l.val) else 0) = f d := by
  have e : ∀ l : Fin 1024, (if 99328 ≤ 98976 + l.val ∧ 98976 + l.val = d then f (98976 + l.val) else 0)
      = if 99328 ≤ 98976 + l.val then (fun v => if v = d then f v else 0) (98976 + l.val) else 0 := by
    intro l
    by_cases h1 : 99328 ≤ 98976 + l.val <;> by_cases h2 : 98976 + l.val = d <;> simp [h1, h2]
  rw [Finset.sum_congr rfl fun l _ => e l, sum_tail (fun v => if v = d then f v else 0)]
  have e2 : ∑ v ∈ Finset.range (97 * 1024), (if 0 + v = d then f (0 + v) else 0) = ∑ v ∈ Finset.range 99328, (if v = d then f v else 0) :=
    Finset.sum_congr rfl fun v _ => by rw [Nat.zero_add]
  rw [e2, sum_all (fun v => if v = d then f v else 0), Finset.sum_ite_eq' , if_pos (Finset.mem_range.mpr hd)]

theorem accOf_gt (d : Fin 8 → ℕ) (hd : ∀ r, d8 (ix2 r 0) = BitVec.ofNat 32 (d r)) (hl : ∀ r, d r < 100000) (r : Fin 8) (f : ℕ → EReal) (hX : ∀ v (h : v < 100000), X (ix2 r ⟨v, h⟩) = f v) :
    ∑ l : Fin 1024, (accOf X D q d8 cf).gt (ix2 r l) = f (d r) := by
  rw [accOf, stepAt, stepB, stepG_sum _ _ _ r _ fun l => lastMask d8 d hd hl r l, foldB_gt X D q d8 cf d hd hl r f hX]
  have z : ∑ l : Fin 1024, (k1_pay383 : FVec Ideal S8x1024 .f32) (ix2 r l) = 0 := Finset.sum_eq_zero fun l _ => Ideal.ofBits_zero_f32
  rw [z, zero_add]
  refine Eq.trans (congrArg (_ + ·) (Finset.sum_congr rfl fun l _ => ?_)) (pick f (d r) (hl r))
  rw [win8_at, hX]
theorem accOf_gd (d : Fin 8 → ℕ) (hd : ∀ r, d8 (ix2 r 0) = BitVec.ofNat 32 (d r)) (hl : ∀ r, d r < 100000) (r : Fin 8) (f : ℕ → EReal) (hD : ∀ v (h : v < 100000), D (ix2 r ⟨v, h⟩) = f v) :
    ∑ l : Fin 1024, (accOf X D q d8 cf).gd (ix2 r l) = f (d r) := by
  rw [accOf, stepAt, stepB, stepG_sum _ _ _ r _ fun l => lastMask d8 d hd hl r l, foldB_gd X D q d8 cf d hd hl r f hD]
  have z : ∑ l : Fin 1024, (k1_pay384 : FVec Ideal S8x1024 .f32) (ix2 r l) = 0 := Finset.sum_eq_zero fun l _ => Ideal.ofBits_zero_f32
  rw [z, zero_add]
  refine Eq.trans (congrArg (_ + ·) (Finset.sum_congr rfl fun l _ => ?_)) (pick f (d r) (hl r))
  rw [win8_at, hD]

/-- What lane `l` has seen of the columns below `o`. -/
def Seen (o l : ℕ) (v : ℕ) : Prop := v < o ∧ v % 1024 = l

/-- A step of the second pass keeps a lane's best. -/
theorem stepAt_good (m : IVec S8x1024 1) (r : Fin 8) (f : ℕ → ℝ) (o : ℕ) (ho : o + 1024 ≤ 100000) (a : AccB Ideal) (l : Fin 1024) (P : ℕ → Prop)
    (hf : scOf cf (win8 o ho X) (win8 o ho D) (win1 o ho q) (ix2 r l) = (f (o + l.val) : EReal)) (h0 : 0 ≤ f (o + l.val)) (hw : ∀ v, P v → v < o + l.val)
    (hg : Good f P (a.best (ix2 r l)) (a.bidx (ix2 r l))) :
    Good f (fun v => P v ∨ v = o + l.val) ((stepAt X D q d8 cf m o ho a).best (ix2 r l)) ((stepAt X D q d8 cf m o ho a).bidx (ix2 r l)) := by
  have e1 : (stepAt X D q d8 cf m o ho a).best (ix2 r l) = max (a.best (ix2 r l)) (f (o + l.val) : EReal) := by
    rw [← hf]; rfl
  have e2 : (stepAt X D q d8 cf m o ho a).bidx (ix2 r l) = if a.best (ix2 r l) < (f (o + l.val) : EReal) then BitVec.ofNat 32 (o + l.val) else a.bidx (ix2 r l) := by
    show select (cmpf .ogt (scOf cf (win8 o ho X) (win8 o ho D) (win1 o ho q)) a.best) (broadcastTo S8x1024 (shapeCast S1x1024 (iotaAt lanes o) shapeCasts_S1x1024_S1x1024) broadcasts_S1x1024_S8x1024) a.bidx (ix2 r l) = _
    rw [sel_at _ _ _ _ (a.best (ix2 r l) < (f (o + l.val) : EReal)) (by rw [← hf]; rfl), bc_row, shapeCast_self, iotaAt_at]
  rw [e1, e2]
  exact hg.step _ hw h0

theorem foldB_good (r : Fin 8) (f : ℕ → ℝ) (h0 : ∀ v, v < 100000 → 0 ≤ f v)
    (hf : ∀ (o : ℕ) (ho : o + 1024 ≤ 100000) (l : Fin 1024), scOf cf (win8 o ho X) (win8 o ho D) (win1 o ho q) (ix2 r l) = (f (o + l.val) : EReal)) (l : Fin 1024) :
    ∀ (n k : Nat) (h : k * 1024 + n * 1024 ≤ 99328) (a : AccB Ideal), Good f (Seen (k * 1024) l.val) (a.best (ix2 r l)) (a.bidx (ix2 r l)) →
      Good f (Seen ((k + n) * 1024) l.val) ((foldB X D q d8 cf n (k * 1024) h a).best (ix2 r l)) ((foldB X D q d8 cf n (k * 1024) h a).bidx (ix2 r l)) := by
  intro n
  induction n with
  | zero => intro k h a hg; rw [foldB, Nat.add_zero]; exact hg
  | succ n ih =>
    intro k h a hg
    have hl := l.isLt
    have hs := stepAt_good X D q d8 cf (eqAt lanes d8 (k * 1024)) r f (k * 1024) (by omega) a l _ (hf _ _ l) (h0 _ (by omega)) (fun v hv => by unfold Seen at hv; omega) hg
    have hs' : Good f (Seen ((k + 1) * 1024) l.val) _ _ := hs.congr fun v => by unfold Seen; omega
    have := ih (k + 1) (by omega) _ hs'
    rw [show k + (n + 1) = k + 1 + n by omega, foldB]
    simp only [show k * 1024 + 1024 = (k + 1) * 1024 by ring]
    exact this

theorem recOf_at (r : Fin 8) (f : ℕ → ℝ) (h0 : ∀ v, v < 100000 → 0 ≤ f v)
    (hf : ∀ (o : ℕ) (ho : o + 1024 ≤ 100000) (l : Fin 1024), scOf cf (win8 o ho X) (win8 o ho D) (win1 o ho q) (ix2 r l) = (f (o + l.val) : EReal))
    (k : ℕ) (hk : IsFM f k) : recOf (accOf X D q d8 cf) (ix1 r) = BitVec.ofNat 32 k := by
  have hg : ∀ l : Fin 1024, Good f (fun v => Seen 99328 l.val v ∨ v = 98976 + l.val) ((accOf X D q d8 cf).best (ix2 r l)) ((accOf X D q d8 cf).bidx (ix2 r l)) := by
    intro l
    have hl := l.isLt
    rw [accOf]
    refine stepAt_good X D q d8 cf _ r f 98976 (by omega) _ l _ (hf _ _ l) (h0 _ (by omega)) (fun v hv => by unfold Seen at hv; omega) ?_
    have := foldB_good X D q d8 cf r f h0 hf l 97 0 (by omega) ⟨k1_pay381, k1_pay382, k1_pay383, k1_pay384⟩
      (.inr ⟨fun v hv => by unfold Seen at hv; omega, minus_one⟩)
    exact this
  obtain ⟨h1, h2⟩ := lanes_first f (fun (l : Fin 1024) v => Seen 99328 l.val v ∨ v = 98976 + l.val) _ _ hg (fun l => ⟨98976 + l.val, .inr rfl⟩)
    (fun l v hv => by have := l.isLt; unfold Seen at hv; omega)
    (fun v hv => by
      by_cases h : v < 99328
      · exact ⟨⟨v % 1024, Nat.mod_lt _ (by omega)⟩, .inl ⟨h, rfl⟩⟩
      · exact ⟨⟨v - 98976, by omega⟩, .inr (by show v = 98976 + (v - 98976); omega)⟩) k hk
  generalize accOf X D q d8 cf = a at h1 h2
  have emax : ∀ l : Fin 1024, broadcastTo S8x1024 (shapeCast S8x1 (multiReduction .maximumf [1] S8 a.best 0xFF800000#32 reduces_S8x1024_S8 (.inl rfl) rfl) shapeCasts_S8_S8x1) broadcasts_S8x1_S8x1024 (ix2 r l) = (f k : EReal) := by
    intro l
    rw [bc_col, cast_col]
    refine (multiReduction_maximumf_eq_fold (s := S8x1024) (t := S8) _ _ _ _ _ _).trans ?_
    refine (Shape.Reduces.fold_fiber_r2_a1 reduces_S8x1024_S8 (ix1 r) _ _ _).trans ?_
    rw [← h1]
    show Finset.fold _ (Ideal.ofBits .f32 0xFF800000#32) _ _ = _
    rw [minus_inf]
    rfl
  unfold recOf
  refine (multiReductionI_eq_fold (s := S8x1024) (t := S8) _ _ _ _ _ _).trans ?_
  refine (Shape.Reduces.fold_fiber_r2_a1 reduces_S8x1024_S8 (ix1 r) _ _ _).trans ?_
  rw [← h2]
  show Finset.fold IntOp.minsi _ _ _ = _
  refine Finset.fold_congr fun l _ => ?_
  refine (sel_at _ _ _ _ (a.best (ix2 r l) = (f k : EReal)) ?_).trans rfl
  rw [← emax l]
  rfl

end Second

end Cert.KernelIdeal.Proof
-- ==== Proof.KRow.lean ====
module

public import proofs.«01_k».proof.Proof.KVec

@[expose] public section

set_option maxRecDepth 65536

noncomputable section

namespace Cert.Arith

/-- The sum of a row of weights over the vocabulary. -/
def tot (f : ℕ → ℝ) : ℝ := ∑ v ∈ Finset.range 100000, f v
/-- The recovery score of token `v`: the positive part of the difference of the two distributions over the exponential draw. -/
def score (et ed q : ℕ → ℝ) (v : ℕ) : ℝ := max (et v / tot et - ed v / tot ed) 0 / q v
/-- The draft token `d` is accepted at the uniform draw `u`. -/
def accepts (et ed : ℕ → ℝ) (d : ℕ) (u : EReal) : Prop := u ≤ (((et d / tot et) / (ed d / tot ed) : ℝ) : EReal)

theorem tot_pos (f : ℕ → ℝ) (h : ∀ v, 0 < f v) : 0 < tot f :=
  Finset.sum_pos (fun v _ => h v) ⟨0, Finset.mem_range.mpr (by omega)⟩
theorem score_nonneg (et ed q : ℕ → ℝ) (v : ℕ) (hq : 0 < q v) : 0 ≤ score et ed q v :=
  div_nonneg (le_max_right _ _) hq.le
theorem score_scale (et ed q : ℕ → ℝ) (ht : 0 < tot et) (hd : 0 < tot ed) (v : ℕ) :
    max (et v * (tot ed / tot et) - ed v) 0 / q v = tot ed * score et ed q v := by
  unfold score
  have e : et v * (tot ed / tot et) - ed v = tot ed * (et v / tot et - ed v / tot ed) := by field_simp
  rw [e, ← mul_div_assoc, mul_max_of_nonneg _ _ hd.le, mul_zero]

end Cert.Arith

namespace Cert.KernelIdeal.Proof

open Cert.KernelIdeal Cert.KernelIdeal.Gen Cert.Arith
open Idealize.ShloMosaic
open Idealize.ShloMosaic.TcCoe Idealize.ShloMosaic.Tactic

theorem cast_un {α : Type} (x : S1x8x1.Idx → α) (r : Fin 8) : shapeCast S8x1 x shapeCasts_S1x8x1_S8x1 (ix2 r 0) = x (ix3 0 r 0) := by
  pointwise
theorem cast_dd {α : Type} (x : S1x16x1.Idx → α) (p : Fin 16) : shapeCast S16x1 x shapeCasts_S1x16x1_S16x1 (ix2 p 0) = x (ix3 0 p 0) := by
  pointwise
theorem cast_out {α : Type} (x : S16x1.Idx → α) (p : Fin 16) : shapeCast S1x16x1 x shapeCasts_S16x1_S1x16x1 (ix3 0 p 0) = x (ix2 p 0) := by
  pointwise
theorem cast_one {α : Type} (x : S1.Idx → α) : shapeCast S1x1 x shapeCasts_S1_S1x1 (ix2 0 0) = x (ix1 0) := by
  pointwise
theorem bc_one {α : Type} (x : S1x1.Idx → α) (p : Fin 16) : broadcastTo S16x1 x broadcasts_S1x1_S16x1 (ix2 p 0) = x (ix2 0 0) :=
  broadcastTo_apply (s := S1x1) (t := S16x1) _ _ _ _ (fun a => by fin_cases a <;> rfl)
theorem slice_dd {α : Type} (x : S16x1.Idx → α) (r : Fin 8) : extractStridedSlice S8x1 ![0, 0] x slices_S16x1_o0_0_S8x1 (ix2 r 0) = x (ix2 ⟨r.val, by omega⟩ 0) :=
  extractStridedSlice_apply _ _ _ _ _ (fun a => by fin_cases a <;> simp)
theorem iota8_at (r : Fin 8) : iota .tc S8x1 32 [0] iota_S8x1_d0_w32 (ix2 r 0) = BitVec.ofNat 32 r.val := by
  rw [iota_apply]
  show BitVec.ofNat 32 (0 * 8 + r.val) = _
  congr 1; omega
theorem iota16_at (p : Fin 16) : iota .tc S16x1 32 [0] iota_S16x1_d0_w32 (ix2 p 0) = BitVec.ofNat 32 p.val := by
  rw [iota_apply]
  show BitVec.ofNat 32 (0 * 16 + p.val) = _
  congr 1; omega
theorem rec16_at {α : Type} (x y : S8x1.Idx → α) (p : Fin 16) (h : p.val < 8) : concatenate S16x1 0 [⟨S8x1, x⟩, ⟨S8x1, y⟩] concatenates_S8x1_S8x1_S16x1_d0 (ix2 p 0) = x (ix2 ⟨p.val, h⟩ 0) :=
  concatenate_pair_apply_left (t := S16x1) (s₁ := S8x1) (s₂ := S8x1) 0 x y _ _ rfl (ix2 ⟨p.val, h⟩ 0) (fun a => by fin_cases a <;> rfl)

/-- The first rejected position, as the row's word. -/
theorem first_at (st sd : FVec Ideal S8x1 .f32) (gt gd : FVec Ideal S8x1024 .f32) (un : Vec Ideal S1x8x1 .f32) (et ed : ℕ → ℕ → ℝ) (het : ∀ r v, 0 < et r v) (hed : ∀ r v, 0 < ed r v)
    (d : ℕ → ℕ) (u : ℕ → EReal) (hst : ∀ r : Fin 8, st (ix2 r 0) = (tot (et r) : EReal)) (hsd : ∀ r : Fin 8, sd (ix2 r 0) = (tot (ed r) : EReal))
    (hgt : ∀ r : Fin 8, ∑ l : Fin 1024, gt (ix2 r l) = (et r (d r) : EReal)) (hgd : ∀ r : Fin 8, ∑ l : Fin 1024, gd (ix2 r l) = (ed r (d r) : EReal))
    (hu : ∀ r : Fin 8, un (ix3 0 r 0) = u r) (n : ℕ) (hn : FirstRej (fun j => accepts (et j) (ed j) (d j) (u j)) n) :
    k1_pay1104 st sd gt gd un (ix2 0 0) = BitVec.ofNat 32 n := by
  classical
  unfold k1_pay1104
  rw [cast_one]
  refine (multiReductionI_eq_fold (s := S8x1) (t := S1) _ _ _ _ _ _).trans ?_
  refine (Shape.Reduces.fold_fiber_r2_a0 reduces_S8x1_S1 (ix1 0) _ _ _).trans ?_
  have hdp : ∀ r : Fin 8, (divf (shapeCast S8x1 (multiReduction .add [1] S8 gd 0x00000000#32 reduces_S8x1024_S8 (.inl rfl) rfl) shapeCasts_S8_S8x1) sd : FVec Ideal S8x1 .f32) (ix2 r 0) = ((ed r (d r) / tot (ed r) : ℝ) : EReal) := by
    intro r
    rw [divf_apply, rowsum_at, hgd, hsd]
    exact div_real _ _ (tot_pos _ (hed r)).ne'
  have htp : ∀ r : Fin 8, (divf (shapeCast S8x1 (multiReduction .add [1] S8 gt 0x00000000#32 reduces_S8x1024_S8 (.inl rfl) rfl) shapeCasts_S8_S8x1) st : FVec Ideal S8x1 .f32) (ix2 r 0) = ((et r (d r) / tot (et r) : ℝ) : EReal) := by
    intro r
    rw [divf_apply, rowsum_at, hgt, hst]
    exact div_real _ _ (tot_pos _ (het r)).ne'
  revert hdp htp
  generalize (divf (shapeCast S8x1 (multiReduction .add [1] S8 gd 0x00000000#32 reduces_S8x1024_S8 (.inl rfl) rfl) shapeCasts_S8_S8x1) sd : FVec Ideal S8x1 .f32) = dp
  generalize (divf (shapeCast S8x1 (multiReduction .add [1] S8 gt 0x00000000#32 reduces_S8x1024_S8 (.inl rfl) rfl) shapeCasts_S8_S8x1) st : FVec Ideal S8x1 .f32) = tp
  intro hdp htp
  have hz : ∀ r : Fin 8, cmpf .oeq dp (broadcast S8x1 (Scalar.ofBits .f32 0x00000000#32 : Ideal .f32)) (ix2 r 0) = BitVec.ofBool (decide False) := by
    intro r
    show BitVec.ofBool (decide (dp (ix2 r 0) = Ideal.ofBits .f32 0x00000000#32)) = _
    rw [hdp, Ideal.ofBits_zero_f32, ← EReal.coe_zero]
    congr 1
    refine decide_eq_decide.mpr ⟨fun h => ?_, False.elim⟩
    exact (div_pos (hed r (d r)) (tot_pos _ (hed r))).ne' (EReal.coe_eq_coe_iff.mp h)
  have hsafe : ∀ r : Fin 8, select (cmpf .oeq dp (broadcast S8x1 (Scalar.ofBits .f32 0x00000000#32 : Ideal .f32))) (broadcast S8x1 (Scalar.ofBits .f32 0x3F800000#32 : Ideal .f32)) dp (ix2 r 0) = ((ed r (d r) / tot (ed r) : ℝ) : EReal) := by
    intro r
    rw [sel_at _ _ _ _ False (hz r), if_neg not_false, hdp]
  have hacc : ∀ r : Fin 8, ori (cmpf .oeq dp (broadcast S8x1 (Scalar.ofBits .f32 0x00000000#32 : Ideal .f32))) (cmpf .oge (divf tp (select (cmpf .oeq dp (broadcast S8x1 (Scalar.ofBits .f32 0x00000000#32 : Ideal .f32))) (broadcast S8x1 (Scalar.ofBits .f32 0x3F800000#32 : Ideal .f32)) dp)) (shapeCast S8x1 un shapeCasts_S1x8x1_S8x1)) (ix2 r 0)
      = BitVec.ofBool (decide (accepts (et r) (ed r) (d r) (u r))) := by
    intro r
    show cmpf .oeq dp (broadcast S8x1 (Scalar.ofBits .f32 0x00000000#32 : Ideal .f32)) (ix2 r 0) ||| BitVec.ofBool (decide (shapeCast S8x1 un shapeCasts_S1x8x1_S8x1 (ix2 r 0) ≤ Ideal.div (tp (ix2 r 0)) (select (cmpf .oeq dp (broadcast S8x1 (Scalar.ofBits .f32 0x00000000#32 : Ideal .f32))) (broadcast S8x1 (Scalar.ofBits .f32 0x3F800000#32 : Ideal .f32)) dp (ix2 r 0)))) = _
    rw [hz, hsafe, htp, cast_un, hu, div_real _ _ (div_pos (hed r (d r)) (tot_pos _ (hed r))).ne']
    rw [show BitVec.ofBool (decide False) = 0#1 from rfl, BitVec.zero_or]
    exact congrArg BitVec.ofBool (decide_eq_decide.mpr Iff.rfl)
  refine fold_reject _ n hn _ (fun j hj => ?_) (fun j hj => ?_)
  · refine (sel_at _ _ _ _ _ (hacc j)).trans ?_
    rw [if_pos hj]; rfl
  · refine (sel_at _ _ _ _ _ (hacc j)).trans ?_
    rw [if_neg hj]; exact iota8_at j

/-- The row of tokens. -/
theorem row_at (st sd : FVec Ideal S8x1 .f32) (a : AccB Ideal) (un : Vec Ideal S1x8x1 .f32) (dd : Vec Ideal S1x16x1 .i32) (bo : BitVec 32) (d k : ℕ → ℕ) (n : ℕ) (hn : n ≤ 8)
    (hfr : k1_pay1104 st sd a.gt a.gd un (ix2 0 0) = BitVec.ofNat 32 n) (hdd : ∀ p : Fin 16, p.val < 8 → dd (ix3 0 p 0) = BitVec.ofNat 32 (d p.val)) (hk : ∀ r : Fin 8, recOf a (ix1 r) = BitVec.ofNat 32 (k r.val))
    (p : Fin 16) (hp : p.val < 9) :
    rowOf st sd a un dd bo (ix3 0 p 0) = specRow n (fun j => BitVec.ofNat 32 (d j)) (fun j => BitVec.ofNat 32 (k j)) bo p.val := by
  unfold rowOf k1_pay1 k1_pay1105 k1_pay1106
  generalize hfr' : k1_pay1104 st sd a.gt a.gd un = fr at hfr
  rw [cast_out]
  have eq8 : andi (cmpi .eq (iota .tc S16x1 32 [0] iota_S16x1_d0_w32) (broadcast S16x1 8#32)) (broadcastTo S16x1 (cmpi .eq fr (broadcast S1x1 8#32)) broadcasts_S1x1_S16x1) (ix2 p 0) = BitVec.ofBool (decide (p.val = 8 ∧ n = 8)) := by
    show BitVec.ofBool (iota .tc S16x1 32 [0] iota_S16x1_d0_w32 (ix2 p 0) == 8#32) &&& broadcastTo S16x1 (cmpi .eq fr (broadcast S1x1 8#32)) broadcasts_S1x1_S16x1 (ix2 p 0) = _
    rw [bc_one, iota16_at]
    show _ &&& BitVec.ofBool (fr (ix2 0 0) == 8#32) = _
    rw [hfr, beq_small p.val 8 (by omega) (by omega), beq_small n 8 (by omega) (by omega), Bool.decide_and]
    exact BitVec.ofBool_and_ofBool
  have lt8 : cmpi .slt (iota .tc S16x1 32 [0] iota_S16x1_d0_w32) (broadcastTo S16x1 fr broadcasts_S1x1_S16x1) (ix2 p 0) = BitVec.ofBool (decide (p.val < n)) := by
    show BitVec.ofBool ((iota .tc S16x1 32 [0] iota_S16x1_d0_w32 (ix2 p 0)).slt (broadcastTo S16x1 fr broadcasts_S1x1_S16x1 (ix2 p 0))) = _
    rw [bc_one, iota16_at, hfr, slt_small _ _ (by omega) (by omega)]
  have eqn : andi (cmpi .eq (iota .tc S16x1 32 [0] iota_S16x1_d0_w32) (broadcastTo S16x1 fr broadcasts_S1x1_S16x1)) (broadcastTo S16x1 (cmpi .slt fr (broadcast S1x1 8#32)) broadcasts_S1x1_S16x1) (ix2 p 0) = BitVec.ofBool (decide (p.val = n ∧ n < 8)) := by
    show BitVec.ofBool (iota .tc S16x1 32 [0] iota_S16x1_d0_w32 (ix2 p 0) == broadcastTo S16x1 fr broadcasts_S1x1_S16x1 (ix2 p 0)) &&& broadcastTo S16x1 (cmpi .slt fr (broadcast S1x1 8#32)) broadcasts_S1x1_S16x1 (ix2 p 0) = _
    rw [bc_one, bc_one, iota16_at]
    show _ &&& BitVec.ofBool ((fr (ix2 0 0)).slt 8#32) = _
    rw [hfr, beq_small p.val n (by omega) (by omega), slt_small n 8 (by omega) (by omega), Bool.decide_and]
    exact BitVec.ofBool_and_ofBool
  refine (sel_at _ _ _ _ _ eq8).trans ?_
  unfold specRow
  by_cases h8 : p.val = 8 ∧ n = 8
  · rw [if_pos h8, if_neg (by omega), if_pos (by omega), if_neg (by omega)]; rfl
  rw [if_neg h8]
  refine (sel_at _ _ _ _ _ eqn).trans ?_
  by_cases hpn : p.val = n ∧ n < 8
  · rw [if_pos hpn, if_neg (by omega), if_pos (by omega), if_pos (by omega), rec16_at _ _ p (by omega), cast_col, hk]
  rw [if_neg hpn]
  refine (sel_at _ _ _ _ _ lt8).trans ?_
  by_cases hl : p.val < n
  · rw [if_pos hl, if_pos hl, if_pos (by omega), cast_dd, hdd p (by omega)]
  · rw [if_neg hl, if_neg hl, if_neg (by omega)]; rfl

theorem out_at (X D : FVec Ideal S8x100000 .f32) (q : FVec Ideal S1x100000 .f32) (un : Vec Ideal S1x8x1 .f32) (dd : Vec Ideal S1x16x1 .i32) (sd : Vec Ideal S8x1 .f32) (bo : BitVec 32)
    (et ed : ℕ → ℕ → ℝ) (qq : ℕ → ℝ) (het : ∀ r v, 0 < et r v) (hed : ∀ r v, 0 < ed r v) (hqq : ∀ v, v < 100000 → 0 < qq v)
    (hX : ∀ (r : Fin 8) v (h : v < 100000), X (ix2 r ⟨v, h⟩) = (et r v : EReal)) (hD : ∀ (r : Fin 8) v (h : v < 100000), D (ix2 r ⟨v, h⟩) = (ed r v : EReal))
    (hq : ∀ v (h : v < 100000), q (ix2 0 ⟨v, h⟩) = (qq v : EReal)) (hsd : ∀ r : Fin 8, sd (ix2 r 0) = (tot (ed r) : EReal))
    (d : ℕ → ℕ) (hl : ∀ r, d r < 100000) (hdd : ∀ p : Fin 16, p.val < 8 → dd (ix3 0 p 0) = BitVec.ofNat 32 (d p.val)) (u : ℕ → EReal) (hu : ∀ r : Fin 8, un (ix3 0 r 0) = u r)
    (n : ℕ) (hn : FirstRej (fun j => accepts (et j) (ed j) (d j) (u j)) n) (k : ℕ → ℕ) (hk : ∀ r, IsFM (score (et r) (ed r) qq) (k r)) (p : Fin 16) (hp : p.val < 9) :
    outRow X D q un dd sd bo (ix3 0 p 0) = specRow n (fun j => BitVec.ofNat 32 (d j)) (fun j => BitVec.ofNat 32 (k j)) bo p.val := by
  have hst : ∀ r : Fin 8, stOf X (ix2 r 0) = (tot (et r) : EReal) := by
    intro r
    rw [stOf_at X r (fun v => (et r v : EReal)) (hX r), sum_real]; rfl
  have hsd' : ∀ r : Fin 8, (k1_pay379 sd : FVec Ideal S8x1 .f32) (ix2 r 0) = (tot (ed r) : EReal) := by
    intro r
    unfold k1_pay379
    rw [shapeCast_self]; exact hsd r
  have hd8 : ∀ r : Fin 8, k1_pay378 (F := Ideal) dd (ix2 r 0) = BitVec.ofNat 32 (d r) := by
    intro r
    unfold k1_pay378
    rw [slice_dd, cast_dd, hdd _ (by show r.val < 8; omega)]
  unfold outRow
  refine row_at _ _ _ un dd bo d k n hn.1 ?_ hdd (fun r => ?_) p hp
  · refine first_at _ _ _ _ un et ed het hed d u hst hsd' (fun r => ?_) (fun r => ?_) hu n hn
    · exact accOf_gt X D q _ _ (fun r => d r) hd8 (fun r => hl r) r (fun v => (et r v : EReal)) (hX r)
    · exact accOf_gd X D q _ _ (fun r => d r) hd8 (fun r => hl r) r (fun v => (ed r v : EReal)) (hD r)
  · have hpt := tot_pos _ (het r)
    have hpd := tot_pos _ (hed r)
    refine recOf_at X D q _ _ r (fun v => max (et r v * (tot (ed r) / tot (et r)) - ed r v) 0 / qq v) (fun v hv => div_nonneg (le_max_right _ _) (hqq v hv).le) (fun o ho l => ?_) (k r)
      (IsFM.scale (tot (ed r)) hpd (fun v _ => score_scale _ _ _ hpt hpd v) (hk r))
    rw [scOf_at, win8_at, win8_at, win1_at, hX, hD, hq, divf_apply, hst, hsd']
    show Ideal.div (max ((et r (o + l.val) : EReal) * Ideal.div (tot (ed r) : EReal) (tot (et r) : EReal) - (ed r (o + l.val) : EReal)) 0) _ = _
    rw [div_real _ _ hpt.ne', ← EReal.coe_mul, ← EReal.coe_sub, ← EReal.coe_zero, max_real, div_real _ _ (hqq _ (by omega)).ne']

end Cert.KernelIdeal.Proof
-- ==== Proof.KHost.lean ====
module

public import proofs.«01_k».proof.Proof.RunAll
public import proofs.«01_k».proof.Proof.KRow
public import Idealize.ShloMosaic.Lib.KernelVsHost

@[expose] public section

set_option maxRecDepth 65536

noncomputable section

namespace Cert.KernelIdeal.Proof

open Cert.KernelIdeal Cert.KernelIdeal.Gen Cert.Arith
open Idealize.ShloMosaic
open Idealize.ShloMosaic.TcCoe Idealize.ShloMosaic.Tactic

variable (m : (ℓ : Loc nD τ sig) → Buf (Elt Ideal) ℓ) (c : Dev nD)

/-! ## The arguments -/

abbrev g0 : S256x100000.Idx → EReal := m ((c.tc : Thread nD τ).loc main_arg0)
abbrev g1 : S288x100000.Idx → EReal := m ((c.tc : Thread nD τ).loc main_arg1)
abbrev g2 : S32.Idx → EReal := m ((c.tc : Thread nD τ).loc main_arg2)
abbrev g3 : S256.Idx → EReal := m ((c.tc : Thread nD τ).loc main_arg3)
abbrev g4 : S32x100000.Idx → EReal := m ((c.tc : Thread nD τ).loc main_arg4)
abbrev g5 : S256.Idx → BitVec 32 := m ((c.tc : Thread nD τ).loc main_arg5)
abbrev g6 : S32.Idx → BitVec 32 := m ((c.tc : Thread nD τ).loc main_arg6)

/-! ## The host's operations -/

theorem v5_at (t : Fin 256) (v : Fin 100000) : (V1 m c main_call0_v5 : S100000x256.Idx → EReal) (ix2 v t) = g0 m c (ix2 t v) := by
  have e : (V1 m c main_call0_v5 : S100000x256.Idx → EReal) = transpose S100000x256 [1, 0] (g0 m c) transposes_S256x100000_S100000x256_1_0 := by
    show StableHlo.after hostOps0 (V0 m c) (Proc.devRef .tc main_call0_v5) = _
    after_results
    rfl
  rw [e]
  exact transpose_apply _ _ _ _ _ (fun a => by fin_cases a <;> rfl)

theorem v4_at (r : Fin 8) (t : Fin 256) : (V1 m c main_call0_v4 : S8x256.Idx → EReal) (ix2 r t) = g2 m c (ix1 ⟨t.val / 8, by omega⟩) := by
  have e : (V1 m c main_call0_v4 : S8x256.Idx → EReal) = broadcastInDim S8x256 ![0, 1] bcast_S1x256_S8x256_0_1 (broadcastInDim S1x256 ![1] bcast_S256_S1x256_1 (shapeCast S256 (broadcastInDim S32x8 ![0, 1] bcast_S32x1_S32x8_0_1 (broadcastInDim S32x1 ![0] bcast_S32_S32x1_0 (g2 m c))) shapeCasts_S32x8_S256)) := by
    show StableHlo.after hostOps0 (V0 m c) (Proc.devRef .tc main_call0_v4) = _
    after_results
    rfl
  rw [e]
  pointwise

theorem v8_at (t : Fin 256) : (val1 m c main_call0_v8 : S256x1.Idx → EReal) (ix2 t 0) = accRow (val0 m) c 97 (ix2 0 t) := by
  have e : (val1 m c main_call0_v8 : S256x1.Idx → EReal) = transpose S256x1 [1, 0] (extractStridedSlice S1x256 ![0, 0] (X0 m c : S8x256.Idx → EReal) slices_S8x256_S1x256_0_0) transposes_S1x256_S256x1_1_0 := by
    show StableHlo.after hostOps1 (W2 m c (X0 m c)) (Proc.devRef .tc main_call0_v8) = _
    after_results
    rw [W2_at]
    rfl
  rw [e]
  refine (transpose_apply (s := S1x256) (t := S256x1) _ _ _ _ (ix2 0 t) (fun a => by fin_cases a <;> rfl)).trans ?_
  refine (extractStridedSlice_apply (s := S8x256) (t := S1x256) _ _ _ _ (ix2 0 t) (fun a => by fin_cases a <;> simp)).trans ?_
  show accRow (val0 m) c 97 _ = _
  congr 1
  funext a
  fin_cases a <;> rfl
theorem v11_at (b : Fin 32) (p : Fin 16) (h : p.val < 8) : (val1 m c main_call0_v11 : S32x16x1.Idx → BitVec 32) (ix3 b p 0) = g5 m c (ix1 ⟨8 * b.val + p.val, by omega⟩) := by
  have e : (val1 m c main_call0_v11 : S32x16x1.Idx → BitVec 32) = shapeCast S32x16x1 (pad S32x16 ![0, 0] ![0, 8] ![0, 0] (shapeCast S32x8 (g5 m c) shapeCasts_S256_S32x8) (constantI S_ 32 0#32) pads_S32x8_S32x16_000_080 h_S_) shapeCasts_S32x16_S32x16x1 := by
    show StableHlo.after hostOps1 (W2 m c (X0 m c)) (Proc.devRef .tc main_call0_v11) = _
    after_results
    rw [show W2 m c (X0 m c) (Proc.devRef .tc main_arg5) = m ((c.tc : Thread nD τ).loc main_arg5) from (W2_keep m c _ main_arg5 (by decide) (by decide)).trans (off0 m main_arg5 (by decide) c)]
    rfl
  rw [e]
  have e2 : ∀ x : S32x16.Idx → BitVec 32, shapeCast S32x16x1 x shapeCasts_S32x16_S32x16x1 (ix3 b p 0) = x (ix2 b p) := by intro x; pointwise
  rw [e2]
  refine (pad_apply_of_inside (s := S32x8) (t := S32x16) _ _ _ _ _ _ _ _ (ix2 b ⟨p.val, h⟩) (fun a => by fin_cases a <;> simp)).trans ?_
  have e3 : ∀ (x : S256.Idx → BitVec 32) (r : Fin 8), shapeCast S32x8 x shapeCasts_S256_S32x8 (ix2 b r) = x (ix1 ⟨b.val * 8 + r.val, by omega⟩) := by intro x r; pointwise
  rw [e3]
  exact congrArg (fun k => g5 m c (ix1 k)) (Fin.ext (by show b.val * 8 + p.val = 8 * b.val + p.val; omega))
theorem v12_at (b : Fin 32) (r : Fin 8) : (val1 m c main_call0_v12 : S32x8x1.Idx → EReal) (ix3 b r 0) = g3 m c (ix1 ⟨8 * b.val + r.val, by omega⟩) := by
  have e : (val1 m c main_call0_v12 : S32x8x1.Idx → EReal) = shapeCast S32x8x1 (g3 m c) shapeCasts_S256_S32x8x1 := by
    show StableHlo.after hostOps1 (W2 m c (X0 m c)) (Proc.devRef .tc main_call0_v12) = _
    after_results
    rw [show W2 m c (X0 m c) (Proc.devRef .tc main_arg3) = m ((c.tc : Thread nD τ).loc main_arg3) from (W2_keep m c _ main_arg3 (by decide) (by decide)).trans (off0 m main_arg3 (by decide) c)]
    rfl
  rw [e]
  have e3 : ∀ (x : S256.Idx → EReal), shapeCast S32x8x1 x shapeCasts_S256_S32x8x1 (ix3 b r 0) = x (ix1 ⟨b.val * 8 + r.val, by omega⟩) := by intro x; pointwise
  rw [e3]
  exact congrArg (fun k => g3 m c (ix1 k)) (Fin.ext (by show b.val * 8 + r.val = 8 * b.val + r.val; omega))
theorem v0_at (b : Fin 32) (p : Fin 9) : (W5 m c (Proc.devRef .tc main_v0) : S32x9.Idx → BitVec 32) (ix2 b p) = (A4 m c : S32x16x1.Idx → BitVec 32) (ix3 b ⟨p.val, by omega⟩ 0) := by
  have e : (W5 m c (Proc.devRef .tc main_v0) : S32x9.Idx → BitVec 32) = shapeCast S32x9 (extractStridedSlice S32x9x1 ![0, 0, 0] (A4 m c : S32x16x1.Idx → BitVec 32) slices_S32x16x1_S32x9x1_0_0_0) shapeCasts_S32x9x1_S32x9 := by
    show StableHlo.after hostOps2 (W4 m c) (Proc.devRef .tc main_v0) = _
    after_results
    rw [W4_v13]
    rfl
  rw [e]
  have e3 : ∀ (x : S32x9x1.Idx → BitVec 32), shapeCast S32x9 x shapeCasts_S32x9x1_S32x9 (ix2 b p) = x (ix3 b p 0) := by intro x; pointwise
  rw [e3]
  exact extractStridedSlice_apply (s := S32x16x1) (t := S32x9x1) _ _ _ _ (ix3 b ⟨p.val, by omega⟩ 0) (fun a => by fin_cases a <;> simp)

theorem keep1 (r : Ref sig .tc) (h0 : r ∉ hostOps0_W) (h1 : r ∉ hostOps1_W) (hb : r ≠ main_call0_v6_0) (hc : r ≠ main_call0_v6_1) :
    val1 m c r = m ((c.tc : Thread nD τ).loc r) :=
  (off1 m _ h1 c _).trans ((W2_keep m c _ r hb hc).trans (off0 m _ h0 c))
theorem a1_eq : (val1 m c main_arg1 : S288x100000.Idx → EReal) = g1 m c := keep1 m c _ (by decide) (by decide) (by decide) (by decide)
theorem a2_eq : (val1 m c main_arg2 : S32.Idx → EReal) = g2 m c := keep1 m c _ (by decide) (by decide) (by decide) (by decide)
theorem a4_eq : (val1 m c main_arg4 : S32x100000.Idx → EReal) = g4 m c := keep1 m c _ (by decide) (by decide) (by decide) (by decide)
theorem a6_eq : (val1 m c main_arg6 : S32.Idx → BitVec 32) = g6 m c := keep1 m c _ (by decide) (by decide) (by decide) (by decide)
theorem v60_eq : (val1 m c main_call0_v6_0 : S256x100000.Idx → EReal) = A2 m c :=
  (off1 m main_call0_v6_0 (by decide) c (X0 m c)).trans (W2_v6_0 m c _)

end Cert.KernelIdeal.Proof
-- ==== Proof.KArr0.lean ====
module

public import proofs.«01_k».proof.Proof.KHost
public import Idealize.ShloMosaic.Lib.Pipeline.ValueKit

@[expose] public section

set_option maxRecDepth 65536

noncomputable section

namespace Cert.KernelIdeal.Proof

open Cert.KernelIdeal Cert.KernelIdeal.Gen Cert.Arith
open Idealize.ShloMosaic
open Idealize.ShloMosaic.TcCoe Idealize.ShloMosaic.Tactic
open Idealize.ShloMosaic.Pipeline (Dat Cfg Window)

section First
variable (V : (c : Dev nD) → (b : Ref sig .tc) → Buf (Elt Ideal) ((c : Thread nD τ).loc b)) (c : Dev nD)

theorem index0_0 : ∀ t : Fin cfg0.N, win0_0.index t = ![(grid0.coords t 0).val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, (grid0.coords t 0).val] := (by decide +kernel : ∀ t : Fin grid0.N, _)

theorem xin_at (t : Fin cfg0.N) (l : Fin 1024) (j : Fin 256) (h : 1024 * t.val + l.val < 100000) :
    xin V c t zro (ix2 l j) = (V c main_call0_v5 : S100000x256.Idx → EReal) (ix2 ⟨1024 * t.val + l.val, h⟩ j) := by
  have hm := moved0_0 (grid0.coords t) (ix2 l j) (by show 1024 * (grid0.coords t 0).val + l.val < 100000; rw [coords0]; exact h)
  unfold xin Window.fill
  dsimp only
  rw [dif_pos hm]
  blk_simp [iblk0, index0_0, coords0]
  refine congrArg (V c main_call0_v5) (funext fun a => Fin.ext ?_)
  fin_cases a
  · blk_simp [index0_0, coords0]
    show t.val * 1024 + l.val = 1024 * t.val + l.val
    omega
  · blk_simp [index0_0, coords0]
    rfl

theorem trow_at (t : Fin cfg0.N) (j : Fin 256) : trow V c t (ix2 0 j) = (V c main_call0_v4 : S8x256.Idx → EReal) (ix2 0 j) := by
  unfold trow row0
  blk_simp [iblk0, index0_1]
  refine congrArg (V c main_call0_v4) (funext fun a => Fin.ext ?_)
  fin_cases a
  · blk_simp [index0_1]
    show 0 * 8 + (0 + 1 * 0) = 0
    rfl
  · blk_simp [index0_1]
    rfl

theorem pay1_at (T : Vec Ideal S1x256 .f32) (X : Vec Ideal S1024x256 .f32) (l : Fin 1024) (j : Fin 256) :
    k0_pay1 T X (ix2 l j) = Ideal.exp (Ideal.div (X (ix2 l j)) (T (ix2 0 j))) := by
  unfold k0_pay1
  simp only [shapeCast_self]
  show Ideal.exp (Ideal.div (X (ix2 l j)) (broadcastTo S1024x256 T _ (ix2 l j))) = _
  rw [broadcastTo_apply (s := S1x256) (t := S1024x256) T _ (ix2 l j) (ix2 0 j) (fun a => by fin_cases a <;> rfl)]

/-- The first result: each weight in its own row. -/
theorem arr2 (E : Fin 256 → ℕ → EReal)
    (hE : ∀ (j : Fin 256) v (h : v < 100000), Ideal.exp (Ideal.div ((V c main_call0_v5 : S100000x256.Idx → EReal) (ix2 ⟨v, h⟩ j)) ((V c main_call0_v4 : S8x256.Idx → EReal) (ix2 0 j))) = E j v) :
    ((dat0 V c).arrAt 2 cfg0.N : S256x100000.Idx → EReal) = fun i => E (i 0) (i 1).val := by
  refine (dat0 V c).arrAt_eq_of_covers 2 _ (by decide +kernel) fun t hf y => ?_
  blk_simp
  rw [after0_2]
  have ht : t.val < 98 := t.isLt
  have h0 : (y 0).val < 256 := by
    have h : (y 0).val < win0_2.xsize (grid0.coords t) 0 := (y 0).isLt
    rw [xsize0_2] at h
    exact h
  have h1 : (y 1).val < min 1024 (100000 - 1024 * (grid0.coords t 0).val) := by
    have h : (y 1).val < win0_2.xsize (grid0.coords t) 1 := (y 1).isLt
    rw [xsize0_2] at h
    exact h
  rw [coords0] at h1
  have hj : (1024 * t.val + (y 1).val) < 100000 := by omega
  rw [pay2_apply]
  have e1 : swp ((cfg0.win 2).xinj (cfg0.grid.coords t) y) = ix2 ⟨(y 1).val, by omega⟩ ⟨(y 0).val, h0⟩ := by
    funext a
    fin_cases a <;> rfl
  rw [e1, pay1_at, xin_at V c t ⟨(y 1).val, by omega⟩ ⟨(y 0).val, h0⟩ hj, trow_at, hE]
  have e2 : ((win0_2.blk t).view.emb y 0) = (⟨(y 0).val, h0⟩ : Fin 256) := by
    apply Fin.ext
    blk_simp [index0_2]
  have e3 : win0_2.index t 1 * 1024 + (y 1).val = 1024 * t.val + (y 1).val := by
    rw [index0_2, ← coords0 t]
    show (grid0.coords t 0).val * 1024 + _ = _
    omega
  rw [e3]
  exact congrArg (fun k => E k _) e2.symm

/-- Whether a row of the logits' block lies inside the array. -/
theorem inside_at (t : Fin cfg0.N) (l : Fin 1024) (j : Fin 256) :
    broadcastTo S1024x256 (shapeCast S1024x1 (cmpi .slt (addi (iota .tc S1024x1 32 [0] iota_S1024x1_d0_w32) (broadcast S1024x1 (Scalar.muli (BitVec.ofNat 32 (grid0.coords t 0).val) 1024#32))) (broadcast S1024x1 100000#32)) shapeCasts_S1024x1_S1024x1) broadcasts_S1024x1_S1024x256 (ix2 l j)
      = BitVec.ofBool (decide (t.val * 1024 + l.val < 100000)) := by
  have ht : t.val < 98 := t.isLt
  have hl := l.isLt
  rw [broadcastTo_apply (s := S1024x1) (t := S1024x256) _ _ (ix2 l j) (ix2 l 0) (fun a => by fin_cases a <;> rfl), shapeCast_self, coords0]
  show BitVec.ofBool ((iota .tc S1024x1 32 [0] iota_S1024x1_d0_w32 (ix2 l 0) + BitVec.ofNat 32 t.val * BitVec.ofNat 32 1024).slt (BitVec.ofNat 32 100000)) = _
  rw [iota_apply]
  show BitVec.ofBool ((BitVec.ofNat 32 (0 * 1024 + l.val) + BitVec.ofNat 32 t.val * BitVec.ofNat 32 1024).slt (BitVec.ofNat 32 100000)) = _
  rw [← BitVec.ofNat_mul, ← BitVec.ofNat_add, slt_small _ _ (by omega) (by omega), show 0 * 1024 + l.val + t.val * 1024 = t.val * 1024 + l.val by omega]

theorem pay3_at (E : Fin 256 → ℕ → EReal)
    (hE : ∀ (j : Fin 256) v (h : v < 100000), Ideal.exp (Ideal.div ((V c main_call0_v5 : S100000x256.Idx → EReal) (ix2 ⟨v, h⟩ j)) ((V c main_call0_v4 : S8x256.Idx → EReal) (ix2 0 j))) = E j v)
    (t : Fin cfg0.N) (j : Fin 256) :
    k0_pay3 (grid0.coords t) (trow V c t) (xin V c t zro) (ix2 0 j) = ∑ l : Fin 1024, if t.val * 1024 + l.val < 100000 then E j (t.val * 1024 + l.val) else 0 := by
  unfold k0_pay3
  dsimp only
  have e : ∀ x : S256.Idx → EReal, shapeCast S1x256 x shapeCasts_S256_S1x256 (ix2 0 j) = x (ix1 j) := by intro x; pointwise
  rw [e]
  refine (Ideal.reduceAdd_r2_a0 reduces_S1024x256_S256 _ (ix1 j)).trans (Finset.sum_congr rfl fun l _ => ?_)
  refine (sel_at _ _ _ _ _ (inside_at t l j)).trans ?_
  by_cases h : t.val * 1024 + l.val < 100000
  · have h' : 1024 * t.val + l.val < 100000 := by omega
    rw [if_pos h, if_pos h]
    show k0_pay1 _ _ (ix2 l j) = _
    rw [pay1_at, xin_at V c t l j h', trow_at, hE, Nat.mul_comm]
  · rw [if_neg h, if_neg h]
    exact Ideal.ofBits_zero_f32

theorem accRow_at (E : Fin 256 → ℕ → EReal)
    (hE : ∀ (j : Fin 256) v (h : v < 100000), Ideal.exp (Ideal.div ((V c main_call0_v5 : S100000x256.Idx → EReal) (ix2 ⟨v, h⟩ j)) ((V c main_call0_v4 : S8x256.Idx → EReal) (ix2 0 j))) = E j v)
    (j : Fin 256) : ∀ k : ℕ, k < 98 → accRow V c k (ix2 0 j) = ∑ v ∈ Finset.range ((k + 1) * 1024), if v < 100000 then E j v else 0 := by
  have blk : ∀ k, k < 98 → ∑ l : Fin 1024, (if k * 1024 + l.val < 100000 then E j (k * 1024 + l.val) else 0) = ∑ v ∈ Finset.range 1024, (fun v => if v < 100000 then E j v else 0) (k * 1024 + v) := fun k _ =>
    (Finset.sum_range fun v => (fun v => if v < 100000 then E j v else 0) (k * 1024 + v)).symm
  intro k
  induction k with
  | zero =>
    intro hk
    rw [accRow]
    refine (pay3_at V c E hE (⟨0, by decide⟩ : Fin cfg0.N) j).trans ((blk 0 hk).trans ?_)
    rw [Nat.zero_add, Nat.one_mul]
    exact Finset.sum_congr rfl fun v _ => by rw [Nat.zero_mul, Nat.zero_add]
  | succ k ih =>
    intro hk
    rw [accRow, dif_pos hk]
    unfold k0_pay4
    rw [shapeCast_self, show (k + 1 + 1) * 1024 = (k + 1) * 1024 + 1024 by ring, Finset.sum_range_add, ← ih (by omega), ← blk (k + 1) hk]
    exact congrArg (accRow V c k (ix2 0 j) + ·) (pay3_at V c E hE (⟨k + 1, hk⟩ : Fin cfg0.N) j)

/-- The second result: the row's sum of weights. -/
theorem accRow_all (E : Fin 256 → ℕ → EReal)
    (hE : ∀ (j : Fin 256) v (h : v < 100000), Ideal.exp (Ideal.div ((V c main_call0_v5 : S100000x256.Idx → EReal) (ix2 ⟨v, h⟩ j)) ((V c main_call0_v4 : S8x256.Idx → EReal) (ix2 0 j))) = E j v)
    (j : Fin 256) : accRow V c 97 (ix2 0 j) = ∑ v ∈ Finset.range 100000, E j v := by
  rw [accRow_at V c E hE j 97 (by omega), show (97 + 1) * 1024 = 100000 + 352 by norm_num, Finset.sum_range_add]
  have z : ∑ x ∈ Finset.range 352, (if 100000 + x < 100000 then E j (100000 + x) else 0) = 0 :=
    Finset.sum_eq_zero fun x _ => if_neg (by omega)
  rw [z, add_zero]
  exact Finset.sum_congr rfl fun v hv => if_pos (Finset.mem_range.mp hv)

end First

end Cert.KernelIdeal.Proof
-- ==== Proof.KArr1.lean ====
module

public import proofs.«01_k».proof.Proof.KHost
public import Idealize.ShloMosaic.Lib.Pipeline.ValueKit

@[expose] public section

set_option maxRecDepth 65536

noncomputable section

namespace Cert.KernelIdeal.Proof

open Cert.KernelIdeal Cert.KernelIdeal.Gen Cert.Arith
open Idealize.ShloMosaic
open Idealize.ShloMosaic.TcCoe Idealize.ShloMosaic.Tactic
open Idealize.ShloMosaic.Pipeline (Dat Cfg Window)

section Second
variable (V : (c : Dev nD) → (b : Ref sig .tc) → Buf (Elt Ideal) ((c : Thread nD τ).loc b)) (c : Dev nD)

theorem rq_val : ∀ t : Fin cfg1.N, (rq (grid1.coords t)).val = t.val := (by decide +kernel : ∀ t : Fin grid1.N, _)
theorem b81_val : ∀ t : Fin cfg1.N, (b81 (grid1.coords t)).toNat % 16 = (16 - t.val % 8) % 16 := (by decide +kernel : ∀ t : Fin grid1.N, _)
theorem b92_val : ∀ t : Fin cfg1.N, (b92 (grid1.coords t)).toNat % 8 = (8 - t.val % 8) % 8 := (by decide +kernel : ∀ t : Fin grid1.N, _)
theorem index1_0 : ∀ t : Fin cfg1.N, win1_0.index t = ![0] := (by decide +kernel : ∀ t : Fin grid1.N, _)
theorem index1_1 : ∀ t : Fin cfg1.N, win1_1.index t = ![0] := (by decide +kernel : ∀ t : Fin grid1.N, _)
theorem index1_2 : ∀ t : Fin cfg1.N, win1_2.index t = ![t.val / 8, 0] := (by decide +kernel : ∀ t : Fin grid1.N, _)
theorem index1_3 : ∀ t : Fin cfg1.N, win1_3.index t = ![t.val, 0, 0] := (by decide +kernel : ∀ t : Fin grid1.N, _)
theorem index1_4 : ∀ t : Fin cfg1.N, win1_4.index t = ![t.val, 0, 0] := (by decide +kernel : ∀ t : Fin grid1.N, _)
theorem index1_5 : ∀ t : Fin cfg1.N, win1_5.index t = ![t.val, 0] := (by decide +kernel : ∀ t : Fin grid1.N, _)
theorem index1_6 : ∀ t : Fin cfg1.N, win1_6.index t = ![t.val, 0, 0] := (by decide +kernel : ∀ t : Fin grid1.N, _)

theorem tgrp_at (b : Fin 32) (X : S288x100000.Idx → EReal) (r : Fin 16) (v : Fin 100000) :
    ((tgrp b).view.read (Elt Ideal) X : S16x100000.Idx → EReal) (ix2 r v) = X (ix2 ⟨8 * (9 * b.val / 8) + r.val, by omega⟩ v) := by
  show X _ = X _
  refine congrArg X (funext fun a => Fin.ext ?_)
  fin_cases a
  · show 8 * (9 * b.val / 8) + 1 * r.val = 8 * (9 * b.val / 8) + r.val
    omega
  · show 0 + 1 * v.val = v.val
    omega
theorem egrp_at (b : Fin 32) (X : S256x100000.Idx → EReal) (r : Fin 8) (v : Fin 100000) :
    ((egrp b).view.read (Elt Ideal) X : S8x100000.Idx → EReal) (ix2 r v) = X (ix2 ⟨8 * b.val + r.val, by omega⟩ v) := by
  show X _ = X _
  refine congrArg X (funext fun a => Fin.ext ?_)
  fin_cases a
  · show 8 * b.val + 1 * r.val = 8 * b.val + r.val
    omega
  · show 0 + 1 * v.val = v.val
    omega

theorem i1_0 (t : Fin cfg1.N) (b : Fin 32) : (iblk1 V c 0 t : S32.Idx → EReal) (ix1 b) = (V c main_arg2 : S32.Idx → EReal) (ix1 b) := by
  blk_simp [iblk1]
  refine congrArg (V c main_arg2) (funext fun a => Fin.ext ?_)
  fin_cases a
  blk_simp [index1_0]
theorem i1_1 (t : Fin cfg1.N) (b : Fin 32) : (iblk1 V c 1 t : S32.Idx → BitVec 32) (ix1 b) = (V c main_arg6 : S32.Idx → BitVec 32) (ix1 b) := by
  blk_simp [iblk1]
  refine congrArg (V c main_arg6) (funext fun a => Fin.ext ?_)
  fin_cases a
  blk_simp [index1_1]
theorem i1_2 (t : Fin cfg1.N) (r : Fin 8) (v : Fin 100000) (h : 8 * (t.val / 8) + r.val < 32) : (iblk1 V c 2 t : S8x100000.Idx → EReal) (ix2 r v) = (V c main_arg4 : S32x100000.Idx → EReal) (ix2 ⟨8 * (t.val / 8) + r.val, h⟩ v) := by
  blk_simp [iblk1]
  refine congrArg (V c main_arg4) (funext fun a => Fin.ext ?_)
  fin_cases a
  · blk_simp [index1_2]
    show t.val / 8 * 8 + r.val = 8 * (t.val / 8) + r.val
    omega
  · blk_simp [index1_2]
    rfl
theorem i1_3 (t : Fin cfg1.N) (p : Fin 16) (h : t.val < 32) : (iblk1 V c 3 t : S1x16x1.Idx → BitVec 32) (ix3 0 p 0) = (V c main_call0_v11 : S32x16x1.Idx → BitVec 32) (ix3 ⟨t.val, h⟩ p 0) := by
  blk_simp [iblk1]
  refine congrArg (V c main_call0_v11) (funext fun a => Fin.ext ?_)
  fin_cases a <;> blk_simp [index1_3] <;> rfl
theorem i1_4 (t : Fin cfg1.N) (p : Fin 8) (h : t.val < 32) : (iblk1 V c 4 t : S1x8x1.Idx → EReal) (ix3 0 p 0) = (V c main_call0_v12 : S32x8x1.Idx → EReal) (ix3 ⟨t.val, h⟩ p 0) := by
  blk_simp [iblk1]
  refine congrArg (V c main_call0_v12) (funext fun a => Fin.ext ?_)
  fin_cases a <;> blk_simp [index1_4] <;> rfl
theorem i1_5 (t : Fin cfg1.N) (r : Fin 8) (h : 8 * t.val + r.val < 256) : (iblk1 V c 5 t : S8x1.Idx → EReal) (ix2 r 0) = (V c main_call0_v8 : S256x1.Idx → EReal) (ix2 ⟨8 * t.val + r.val, h⟩ 0) := by
  blk_simp [iblk1]
  refine congrArg (V c main_call0_v8) (funext fun a => Fin.ext ?_)
  fin_cases a
  · blk_simp [index1_5]
    show t.val * 8 + r.val = 8 * t.val + r.val
    omega
  · blk_simp [index1_5]

/-- The second call's result: block by block. -/
theorem arr6 : ((dat1 V c).arrAt 6 cfg1.N : S32x16x1.Idx → BitVec 32) = fun i => outAt1 V c (⟨(i 0).val, (i 0).isLt⟩ : Fin cfg1.N) (ix3 0 (i 1) 0) := by
  refine (dat1 V c).arrAt_eq_of_covers 6 _ (by decide +kernel) fun t hf y => ?_
  blk_simp
  rw [after1_6]
  have ht : (⟨win1_6.index t 0, by rw [index1_6]; exact t.isLt⟩ : Fin cfg1.N) = t := Fin.ext (by show win1_6.index t 0 = t.val; rw [index1_6]; rfl)
  have hy : (y : S1x16x1.Idx) = ix3 0 ((win1_6.blk t).view.emb y 1) 0 := by
    funext a
    fin_cases a
    · exact Subsingleton.elim (α := Fin 1) _ _
    · apply Fin.ext
      show (y 1).val = ((win1_6.blk t).view.emb y 1).val
      blk_simp [index1_6]
    · exact Subsingleton.elim (α := Fin 1) _ _
  exact (congrArg (outAt1 V c t) hy).trans (congrArg (fun s => outAt1 V c s _) ht.symm)

end Second

end Cert.KernelIdeal.Proof
-- ==== Proof.Spec.lean ====
module

public import proofs.«01_k».proof.Proof.KRow

@[expose] public section

noncomputable section

/-! What both programs compute, over the reals. -/

namespace Cert.Arith

/-- The exponentials of the target and of the draft logits of token `t`, and the exponential draws of request `b`. -/
def etR (x1 : ℕ → ℕ → ℝ) (x2 : ℕ → ℝ) (t v : ℕ) : ℝ := Real.exp (x1 (t + t / 8) v / x2 (t / 8))
def edR (x0 : ℕ → ℕ → ℝ) (x2 : ℕ → ℝ) (t v : ℕ) : ℝ := Real.exp (x0 t v / x2 (t / 8))
def qR (x4 : ℕ → ℕ → ℝ) (b v : ℕ) : ℝ := -Real.log (x4 b v)

/-- The arguments are these real numbers, and in the ranges the problem draws them from. -/
structure Data (x0 x1 x4 : ℕ → ℕ → ℝ) (x2 : ℕ → ℝ) (u : ℕ → EReal) (d : ℕ → ℕ) (bo : ℕ → BitVec 32)
    (g0 : Fin 256 → Fin 100000 → EReal) (g1 : Fin 288 → Fin 100000 → EReal) (g2 : Fin 32 → EReal) (g3 : Fin 256 → EReal)
    (g4 : Fin 32 → Fin 100000 → EReal) (g5 : Fin 256 → BitVec 32) (g6 : Fin 32 → BitVec 32) : Prop where
  h0 : ∀ t v, g0 t v = (x0 t.val v.val : EReal)
  h1 : ∀ t v, g1 t v = (x1 t.val v.val : EReal)
  h2 : ∀ b, g2 b = (x2 b.val : EReal)
  h2' : ∀ b, x2 b ≠ 0
  h3 : ∀ t, g3 t = u t.val
  h4 : ∀ b v, g4 b v = (x4 b.val v.val : EReal)
  h4p : ∀ b v, 0 < x4 b v
  h4l : ∀ b v, x4 b v < 1
  h5 : ∀ t, g5 t = BitVec.ofNat 32 (d t.val)
  h5' : ∀ t, d t < 100000
  h6 : ∀ b, g6 b = bo b.val

theorem etR_pos (x1 : ℕ → ℕ → ℝ) (x2 : ℕ → ℝ) (t v : ℕ) : 0 < etR x1 x2 t v := Real.exp_pos _
theorem edR_pos (x0 : ℕ → ℕ → ℝ) (x2 : ℕ → ℝ) (t v : ℕ) : 0 < edR x0 x2 t v := Real.exp_pos _
theorem qR_pos (x4 : ℕ → ℕ → ℝ) (b v : ℕ) (h : 0 < x4 b v) (h' : x4 b v < 1) : 0 < qR x4 b v := by
  have := Real.log_neg h h'
  unfold qR; linarith

/-- Request `b` accepts `n` tokens. -/
def Accepted (x0 x1 : ℕ → ℕ → ℝ) (x2 : ℕ → ℝ) (u : ℕ → EReal) (d : ℕ → ℕ) (b n : ℕ) : Prop :=
  FirstRej (fun j => accepts (etR x1 x2 (8 * b + j)) (edR x0 x2 (8 * b + j)) (d (8 * b + j)) (u (8 * b + j))) n
/-- Token `k` is the one recovered at token `t`. -/
def Recovered (x0 x1 x4 : ℕ → ℕ → ℝ) (x2 : ℕ → ℝ) (t k : ℕ) : Prop := IsFM (score (etR x1 x2 t) (edR x0 x2 t) (qR x4 (t / 8))) k

/-- The table of tokens. -/
def Out (x0 x1 x4 : ℕ → ℕ → ℝ) (x2 : ℕ → ℝ) (u : ℕ → EReal) (d : ℕ → ℕ) (bo : ℕ → BitVec 32) (o : Fin 32 → Fin 9 → BitVec 32) : Prop :=
  ∀ (n : ℕ → ℕ) (_ : ∀ b, b < 32 → Accepted x0 x1 x2 u d b (n b)) (k : ℕ → ℕ) (_ : ∀ t, Recovered x0 x1 x4 x2 t (k t)) (b : Fin 32) (p : Fin 9),
    o b p = specRow (n b.val) (fun j => BitVec.ofNat 32 (d (8 * b.val + j))) (fun j => BitVec.ofNat 32 (k (8 * b.val + j))) (bo b.val) p.val

theorem Out.unique {x0 x1 x4 : ℕ → ℕ → ℝ} {x2 : ℕ → ℝ} {u : ℕ → EReal} {d : ℕ → ℕ} {bo : ℕ → BitVec 32} {o o' : Fin 32 → Fin 9 → BitVec 32}
    (h : Out x0 x1 x4 x2 u d bo o) (h' : Out x0 x1 x4 x2 u d bo o') : o = o' := by
  funext b p
  have e1 : ∀ b, ∃ n, Accepted x0 x1 x2 u d b n := fun b => FirstRej.exists _
  have e2 : ∀ t, ∃ k, Recovered x0 x1 x4 x2 t k := fun t => IsFM.exists _
  choose n hn using e1
  choose k hk using e2
  rw [h n (fun b _ => hn b) k hk, h' n (fun b _ => hn b) k hk]

end Cert.Arith
-- ==== Proof.KFin.lean ====
module

public import proofs.«01_k».proof.Proof.KArr0
public import proofs.«01_k».proof.Proof.KArr1
public import proofs.«01_k».proof.Proof.Spec

@[expose] public section

set_option maxRecDepth 65536

noncomputable section

/-! The kernel's result. -/

namespace Cert.KernelIdeal.Proof

open Cert.KernelIdeal Cert.KernelIdeal.Gen Cert.Arith
open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD)

/-- The arguments of the launch are these numbers. -/
abbrev KData (x0 x1 x4 : ℕ → ℕ → ℝ) (x2 : ℕ → ℝ) (u : ℕ → EReal) (d : ℕ → ℕ) (bo : ℕ → BitVec 32) : Prop :=
  Data x0 x1 x4 x2 u d bo (fun t v => g0 m c (ix2 t v)) (fun t v => g1 m c (ix2 t v)) (fun b => g2 m c (ix1 b)) (fun t => g3 m c (ix1 t))
    (fun b v => g4 m c (ix2 b v)) (fun t => g5 m c (ix1 t)) (fun b => g6 m c (ix1 b))

variable {x0 x1 x4 : ℕ → ℕ → ℝ} {x2 : ℕ → ℝ} {u : ℕ → EReal} {d : ℕ → ℕ} {bo : ℕ → BitVec 32}

theorem expE (H : KData m c x0 x1 x4 x2 u d bo) (j : Fin 256) (v : ℕ) (h : v < 100000) :
    Ideal.exp (Ideal.div ((val0 m c main_call0_v5 : S100000x256.Idx → EReal) (ix2 ⟨v, h⟩ j)) ((val0 m c main_call0_v4 : S8x256.Idx → EReal) (ix2 0 j)))
      = (edR x0 x2 j.val v : EReal) := by
  have a : (val0 m c main_call0_v5 : S100000x256.Idx → EReal) (ix2 ⟨v, h⟩ j) = (x0 j.val v : EReal) := (v5_at m c j ⟨v, h⟩).trans (H.h0 j ⟨v, h⟩)
  have b : (val0 m c main_call0_v4 : S8x256.Idx → EReal) (ix2 0 j) = (x2 (j.val / 8) : EReal) := (v4_at m c 0 j).trans (H.h2 _)
  rw [a, b, div_real _ _ (H.h2' _), Ideal.exp_coe]
  rfl

theorem outAt_spec (H : KData m c x0 x1 x4 x2 u d bo) (t : Fin cfg1.N) (ht : t.val < 32) (n : ℕ) (hn : Accepted x0 x1 x2 u d t.val n)
    (k : ℕ → ℕ) (hk : ∀ t, Recovered x0 x1 x4 x2 t (k t)) (p : Fin 16) (hp : p.val < 9) :
    outAt1 (val1 m) c t (ix3 0 p 0) = specRow n (fun j => BitVec.ofNat 32 (d (8 * t.val + j))) (fun j => BitVec.ofNat 32 (k (8 * t.val + j))) (bo t.val) p.val := by
  have hbo : (iblk1 (val1 m) c 1 t : S32.Idx → BitVec 32) (ix1 (rq (grid1.coords t))) = bo t.val := by
    rw [i1_1, a6_eq]
    exact (H.h6 _).trans (congrArg bo (rq_val t))
  have h3 : (iblk1 (val1 m) c 0 t : S32.Idx → EReal) (ix1 (rq (grid1.coords t))) = (x2 t.val : EReal) := by
    rw [i1_0, a2_eq]
    exact (H.h2 _).trans (congrArg (fun b => (x2 b : EReal)) (rq_val t))
  let k' : ℕ → ℕ := fun r => if r < 8 then k (8 * t.val + r) else Classical.choose (IsFM.exists (score (etR x1 x2 (8 * t.val + r)) (edR x0 x2 (8 * t.val + r)) (qR x4 t.val)))
  have hk' : ∀ r, IsFM (score (etR x1 x2 (8 * t.val + r)) (edR x0 x2 (8 * t.val + r)) (qR x4 t.val)) (k' r) := by
    intro r
    by_cases h : r < 8
    · have e := hk (8 * t.val + r)
      unfold Recovered at e
      rw [show (8 * t.val + r) / 8 = t.val by omega] at e
      show IsFM _ (if r < 8 then k (8 * t.val + r) else _)
      rw [if_pos h]; exact e
    · show IsFM _ (if r < 8 then k (8 * t.val + r) else _)
      rw [if_neg h]; exact Classical.choose_spec (IsFM.exists _)
  have e : specRow n (fun j => BitVec.ofNat 32 (d (8 * t.val + j))) (fun j => BitVec.ofNat 32 (k (8 * t.val + j))) (bo t.val) p.val
      = specRow n (fun j => BitVec.ofNat 32 (d (8 * t.val + j))) (fun j => BitVec.ofNat 32 (k' j)) (bo t.val) p.val := by
    unfold specRow
    by_cases h : p.val < 8
    · have ek : k' p.val = k (8 * t.val + p.val) := if_pos h
      simp only [if_pos h, ek]
    · simp only [if_neg h]
  rw [e]
  unfold outAt1
  rw [hbo, h3]
  refine out_at _ _ _ _ _ _ _ (fun r => etR x1 x2 (8 * t.val + r)) (fun r => edR x0 x2 (8 * t.val + r)) (qR x4 t.val)
    (fun r v => etR_pos _ _ _ _) (fun r v => edR_pos _ _ _ _) (fun v _ => qR_pos _ _ _ (H.h4p _ _) (H.h4l _ _))
    (fun r v h => ?_) (fun r v h => ?_) (fun v h => ?_) (fun r => ?_)
    (fun r => d (8 * t.val + r)) (fun r => H.h5' _) (fun p hp => ?_) (fun r => u (8 * t.val + r)) (fun r => ?_) n hn
    k' hk' p hp
  · have hrow : (r.val + 16 - (b81 (grid1.coords t)).toNat % 16) % 16 = r.val + t.val % 8 := by
      rw [b81_val]; have := r.isLt; omega
    have e : (rowsT (b81 (grid1.coords t)) ((tgrp (rq (grid1.coords t))).view.read (Elt Ideal) (val1 m c main_arg1)) : S8x100000.Idx → EReal) (ix2 r ⟨v, h⟩)
        = (x1 (8 * t.val + r.val + (8 * t.val + r.val) / 8) v : EReal) := by
      refine (tgrp_at _ _ _ _).trans ?_
      rw [a1_eq]
      refine (H.h1 _ _).trans (congrArg (fun s => (x1 s v : EReal)) ?_)
      show 8 * (9 * (rq (grid1.coords t)).val / 8) + (r.val + 16 - (b81 (grid1.coords t)).toNat % 16) % 16 = _
      rw [hrow, rq_val]
      have := r.isLt; omega
    show Ideal.exp (Ideal.div ((rowsT (b81 (grid1.coords t)) ((tgrp (rq (grid1.coords t))).view.read (Elt Ideal) (val1 m c main_arg1)) : S8x100000.Idx → EReal) (ix2 r ⟨v, h⟩)) (x2 t.val : EReal)) = _
    rw [e, div_real _ _ (H.h2' _), Ideal.exp_coe]
    unfold etR
    rw [show (8 * t.val + r.val) / 8 = t.val by have := r.isLt; omega]
  · refine (egrp_at _ _ _ _).trans ?_
    rw [v60_eq]
    refine (congrFun (arr2 (val0 m) c _ (expE m c H)) _).trans ?_
    show (edR x0 x2 (8 * (rq (grid1.coords t)).val + r.val) v : EReal) = _
    rw [rq_val]
  · have hr : ((0 : Fin 1).val + 8 - (b92 (grid1.coords t)).toNat % 8) % 8 = t.val % 8 := by
      rw [b92_val]; show (0 + 8 - _) % 8 = _; omega
    have e : (iblk1 (val1 m) c 2 t : S8x100000.Idx → EReal) (ix2 ⟨((0 : Fin 1).val + 8 - (b92 (grid1.coords t)).toNat % 8) % 8, Nat.mod_lt _ (by decide)⟩ ⟨v, h⟩) = (x4 t.val v : EReal) := by
      rw [i1_2 (val1 m) c t _ _ (by show 8 * (t.val / 8) + ((0 : Fin 1).val + 8 - (b92 (grid1.coords t)).toNat % 8) % 8 < 32; rw [hr]; omega), a4_eq]
      refine (H.h4 _ _).trans (congrArg (fun s => (x4 s v : EReal)) ?_)
      show 8 * (t.val / 8) + ((0 : Fin 1).val + 8 - (b92 (grid1.coords t)).toNat % 8) % 8 = _
      rw [hr]; omega
    show Ideal.ofBits .f32 0x00000000#32 - Ideal.log ((iblk1 (val1 m) c 2 t : S8x100000.Idx → EReal) (ix2 ⟨((0 : Fin 1).val + 8 - (b92 (grid1.coords t)).toNat % 8) % 8, Nat.mod_lt _ (by decide)⟩ ⟨v, h⟩)) = _
    rw [e, Ideal.ofBits_zero_f32, Ideal.log_coe, if_neg (not_le.mpr (H.h4p _ _)), zero_sub]
    rfl
  · rw [i1_5 (val1 m) c t r (by have := r.isLt; omega), v8_at, accRow_all (val0 m) c _ (expE m c H), sum_real]
    rfl
  · rw [i1_3 (val1 m) c t p ht, v11_at m c _ p hp]
    exact H.h5 _
  · rw [i1_4 (val1 m) c t r ht, v12_at]
    exact H.h3 _

theorem ker_out (H : KData m c x0 x1 x4 x2 u d bo) : Out x0 x1 x4 x2 u d bo (fun b p => (W5 m c (Proc.devRef .tc main_v0) : S32x9.Idx → BitVec 32) (ix2 b p)) := by
  intro n hn k hk b p
  refine (v0_at m c b p).trans ?_
  refine (congrFun (arr6 (val1 m) c) _).trans ?_
  exact outAt_spec m c H (⟨b.val, b.isLt⟩ : Fin cfg1.N) b.isLt (n b.val) (hn _ b.isLt) k hk _ p.isLt

end Cert.KernelIdeal.Proof
-- ==== Proof.RIdx.lean ====
module

public import proofs.«01_k».proof.Proof.Spec
public import proofs.«01_k».proof.Proof.Gen.ReferenceIdeal.Run
public import Idealize.ShloMosaic.Lib.Routing.OpsSet
public import Idealize.ShloMosaic.Lib.Pointwise.Reduce
public import Idealize.ShloMosaic.Lib.Pipeline.ValueKit
public import Idealize.ShloMosaic.Lib.KernelVsHost

@[expose] public section

set_option maxRecDepth 65536

noncomputable section

/-! The reference's index vectors, its gathers and its scatters at an index. -/

namespace Cert.ReferenceIdeal.Proof

open Cert.ReferenceIdeal Cert.ReferenceIdeal.Gen Cert.ReferenceIdeal.Value Cert.Arith
open Idealize.ShloMosaic Idealize.ShloMosaic.StableHlo
open Idealize.ShloMosaic.TcCoe Idealize.ShloMosaic.Tactic Idealize.ShloMosaic.Routing

theorem sel_at {α : Type} {s : Shape} (p : IVec s 1) (x y : s.Idx → α) (i : s.Idx) (P : Prop) [Decidable P] (h : p i = BitVec.ofBool (decide P)) :
    select p x y i = if P then x i else y i := by
  show (if p i = 1 then x i else y i) = _
  rw [h]
  by_cases hp : P
  · rw [if_pos hp, decide_eq_true hp]; exact if_pos rfl
  · rw [if_neg hp, decide_eq_false hp]; exact if_neg (by decide)

theorem sub_small (a b : ℕ) (h : b ≤ a) : BitVec.ofNat 32 a - BitVec.ofNat 32 b = BitVec.ofNat 32 (a - b) := by
  obtain ⟨c, rfl⟩ := Nat.exists_eq_add_of_le h
  rw [BitVec.ofNat_add, add_sub_cancel_left, Nat.add_sub_cancel_left]

/-! ## Broadcasts -/

theorem col256 {α : Type} (x : S256.Idx → α) (t : Fin 256) : broadcastInDim S256x1 ![0] bcast_S256_S256x1_0 x (ix2 t (0 : Fin 1)) = x (ix1 t) :=
  broadcastInDim_apply (s := S256) (t := S256x1) _ _ _ _ (ix1 t) (fun a => by fin_cases a; rfl)
theorem col32 {α : Type} (x : S32.Idx → α) (t : Fin 32) : broadcastInDim S32x1 ![0] bcast_S32_S32x1_0 x (ix2 t (0 : Fin 1)) = x (ix1 t) :=
  broadcastInDim_apply (s := S32) (t := S32x1) _ _ _ _ (ix1 t) (fun a => by fin_cases a; rfl)
theorem rowcol {α : Type} (x : S256.Idx → α) (t : Fin 256) (v : Fin 100000) :
    broadcastInDim S256x100000 ![0, 1] bcast_S256x1_S256x100000_0_1 (broadcastInDim S256x1 ![0] bcast_S256_S256x1_0 x) (ix2 t v) = x (ix1 t) :=
  (broadcastInDim_apply (s := S256x1) (t := S256x100000) _ _ _ _ (ix2 t (0 : Fin 1)) (fun a => by fin_cases a <;> rfl)).trans (col256 x t)

/-- A word below 2³¹ is not negative: the wrap leaves it. -/
theorem wrap256 (K : BitVec 32) (x : IVec S256 32) (t : Fin 256) (a : ℕ) (hx : x (ix1 t) = BitVec.ofNat 32 a) (ha : a < 2147483648) :
    broadcastInDim S256x1 ![0] bcast_S256_S256x1_0 (select (cmpi .slt x (broadcastInDim S256 ![] bcast_S_S256 (constantI S_ 32 0#32))) (addi x (broadcastInDim S256 ![] bcast_S_S256 (constantI S_ 32 K))) x) (ix2 t (0 : Fin 1)) = BitVec.ofNat 32 a := by
  rw [col256]
  refine (sel_at _ _ _ _ False ?_).trans ?_
  · show BitVec.ofBool ((x (ix1 t)).slt (BitVec.ofNat 32 0)) = _
    rw [hx, slt_small _ _ ha (by norm_num)]
    exact congrArg BitVec.ofBool (decide_eq_decide.mpr (by simp))
  · rw [if_neg not_false]; exact hx
theorem wrap32 (K : BitVec 32) (x : IVec S32 32) (t : Fin 32) (a : ℕ) (hx : x (ix1 t) = BitVec.ofNat 32 a) (ha : a < 2147483648) :
    broadcastInDim S32x1 ![0] bcast_S32_S32x1_0 (select (cmpi .slt x (broadcastInDim S32 ![] bcast_S_S32 (constantI S_ 32 0#32))) (addi x (broadcastInDim S32 ![] bcast_S_S32 (constantI S_ 32 K))) x) (ix2 t (0 : Fin 1)) = BitVec.ofNat 32 a := by
  rw [col32]
  refine (sel_at _ _ _ _ False ?_).trans ?_
  · show BitVec.ofBool ((x (ix1 t)).slt (BitVec.ofNat 32 0)) = _
    rw [hx, slt_small _ _ ha (by norm_num)]
    exact congrArg BitVec.ofBool (decide_eq_decide.mpr (by simp))
  · rw [if_neg not_false]; exact hx

/-! ## Gathers -/

theorem gather32 {α : Type} (x : S32.Idx → α) (idx : IVec S256x1 32) (t : Fin 256) (b : Fin 32) (hb : idx (ix2 t (0 : Fin 1)) = BitVec.ofNat 32 b.val) :
    Host.gather gather_S32_S256x1_S256_n_0_n_n_0_1_1 x idx (ix1 t) = x (ix1 b) :=
  gather_take1 (N := 32) (n := 256) gather_S32_S256x1_S256_n_0_n_n_0_1_1 rfl rfl rfl rfl x idx t b hb (by norm_num)
theorem gather256 {α : Type} (x : S256.Idx → α) (idx : IVec S256x1 32) (t : Fin 256) (b : Fin 256) (hb : idx (ix2 t (0 : Fin 1)) = BitVec.ofNat 32 b.val) :
    Host.gather gather_S256_S256x1_S256_n_0_n_n_0_1_1 x idx (ix1 t) = x (ix1 b) :=
  gather_take1 (N := 256) (n := 256) gather_S256_S256x1_S256_n_0_n_n_0_1_1 rfl rfl rfl rfl x idx t b hb (by norm_num)
theorem gatherT {α : Type} (x : S288x100000.Idx → α) (idx : IVec S256x1 32) (t : Fin 256) (v : Fin 100000) (b : Fin 288) (hb : idx (ix2 t (0 : Fin 1)) = BitVec.ofNat 32 b.val) :
    Host.gather gather_S288x100000_S256x1_S256x100000_1_0_n_n_0_1_1100000 x idx (ix2 t v) = x (ix2 b v) :=
  gather_row (nb := 288) (B := 100000) (n := 256) gather_S288x100000_S256x1_S256x100000_1_0_n_n_0_1_1100000 rfl rfl rfl rfl rfl x idx t v b hb (by norm_num)
theorem gatherQ {α : Type} (x : S32x100000.Idx → α) (idx : IVec S256x1 32) (t : Fin 256) (v : Fin 100000) (b : Fin 32) (hb : idx (ix2 t (0 : Fin 1)) = BitVec.ofNat 32 b.val) :
    Host.gather gather_S32x100000_S256x1_S256x100000_1_0_n_n_0_1_1100000 x idx (ix2 t v) = x (ix2 b v) :=
  gather_row (nb := 32) (B := 100000) (n := 256) gather_S32x100000_S256x1_S256x100000_1_0_n_n_0_1_1100000 rfl rfl rfl rfl rfl x idx t v b hb (by norm_num)

theorem gatherP {α : Type} (x : S256x100000.Idx → α) (idx : IVec S256x1x1 32) (t : Fin 256) (a : ℕ) (ha : a < 100000) (hb : idx (ix3 t (0 : Fin 1) (0 : Fin 1)) = BitVec.ofNat 32 a) :
    Host.gather gather_S256x100000_S256x1x1_S256x1_n_1_0_0_1_2_11 x idx (ix2 t (0 : Fin 1)) = x (ix2 t ⟨a, ha⟩) := by
  unfold Host.gather
  refine congrArg x (funext fun q => Fin.ext ?_)
  show (gather_S256x100000_S256x1x1_S256x1_n_1_0_0_1_2_11).start (ix2 t (0 : Fin 1)) idx q + (gather_S256x100000_S256x1x1_S256x1_n_1_0_0_1_2_11).batchCoord (ix2 t (0 : Fin 1)) q
      + (gather_S256x100000_S256x1x1_S256x1_n_1_0_0_1_2_11).offCoord (ix2 t (0 : Fin 1)) q = _
  fin_cases q
  · show (gather_S256x100000_S256x1x1_S256x1_n_1_0_0_1_2_11).start (ix2 t (0 : Fin 1)) idx (0 : Fin 2) + (gather_S256x100000_S256x1x1_S256x1_n_1_0_0_1_2_11).batchCoord (ix2 t (0 : Fin 1)) (0 : Fin 2)
      + (gather_S256x100000_S256x1x1_S256x1_n_1_0_0_1_2_11).offCoord (ix2 t (0 : Fin 1)) (0 : Fin 2) = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S256x100000_S256x1x1_S256x1_n_1_0_0_1_2_11).operandBatchingDims from List.mem_singleton.mpr rfl)]
    rfl
  · show (gather_S256x100000_S256x1x1_S256x1_n_1_0_0_1_2_11).start (ix2 t (0 : Fin 1)) idx (1 : Fin 2) + (gather_S256x100000_S256x1x1_S256x1_n_1_0_0_1_2_11).batchCoord (ix2 t (0 : Fin 1)) (1 : Fin 2)
      + (gather_S256x100000_S256x1x1_S256x1_n_1_0_0_1_2_11).offCoord (ix2 t (0 : Fin 1)) (1 : Fin 2) = a
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S256x100000_S256x1x1_S256x1_n_1_0_0_1_2_11).startIndexMap from List.mem_singleton.mpr rfl)]
    have hsi : (gather_S256x100000_S256x1x1_S256x1_n_1_0_0_1_2_11).siIdx (ix2 t (0 : Fin 1)) ⟨List.idxOf (1 : Fin 2) (gather_S256x100000_S256x1x1_S256x1_n_1_0_0_1_2_11).startIndexMap,
        List.idxOf_lt_length_iff.2 (List.mem_singleton.mpr rfl)⟩ = ix3 t (0 : Fin 1) (0 : Fin 1) := by
      funext b; refine Fin.ext ?_
      match b with
      | ⟨0, _⟩ => rfl
      | ⟨1, _⟩ => rfl
      | ⟨2, _⟩ => rfl
    rw [hsi, hb, toInt_small _ (by omega)]
    show min (a : ℤ).toNat (100000 - 1) = a
    rw [Int.toNat_natCast]; omega

/-! ## Where a scatter's updates land -/

theorem lands1 (idx : IVec S256x1 32) (i : Fin 256) (x : Fin 32) :
    scatter_S32_S256x1_S256_n_0_0_1.resultIdx? (ix1 i) idx = some (ix1 x) ↔ (idx (ix2 i (0 : Fin 1))).toInt = (x.val : ℤ) := by
  have hs : ∀ q : Fin 1, scatter_S32_S256x1_S256_n_0_0_1.start (ix1 i) idx q + (scatter_S32_S256x1_S256_n_0_0_1.window (ix1 i) q : ℤ) = (idx (ix2 i (0 : Fin 1))).toInt := by
    intro q
    obtain rfl : q = 0 := Subsingleton.elim _ _
    have hwin : scatter_S32_S256x1_S256_n_0_0_1.window (ix1 i) (0 : Fin 1) = 0 := by
      unfold ScatterDims.window
      rw [dif_neg fun h => (of_decide_eq_true (List.mem_filter.1 h).2) (List.mem_singleton.2 rfl)]
    rw [hwin]
    unfold ScatterDims.start
    rw [dif_pos (show (0 : Fin 1) ∈ scatter_S32_S256x1_S256_n_0_0_1.scatterDimsToOperandDims from List.mem_singleton.2 rfl)]
    have hsi : scatter_S32_S256x1_S256_n_0_0_1.siIdx (ix1 i) ⟨List.idxOf (0 : Fin 1) scatter_S32_S256x1_S256_n_0_0_1.scatterDimsToOperandDims, List.idxOf_lt_length_iff.2 (List.mem_singleton.2 rfl)⟩ = ix2 i (0 : Fin 1) := by
      funext b; refine Fin.ext ?_
      match b with
      | ⟨0, _⟩ => rfl
      | ⟨1, _⟩ => rfl
    rw [hsi]; simp
  rw [resultIdx?_eq_some]
  constructor
  · intro h; rw [← hs 0]; exact h 0
  · intro h a; rw [hs a, h]
    obtain rfl : a = 0 := Subsingleton.elim _ _
    rfl

theorem landsA (idx : IVec S256x2 32) (i : Fin 256) (b : Fin 32) (p : Fin 9) :
    scatter_S32x9_S256x2_S256_n_01_01_1.resultIdx? (ix1 i) idx = some (ix2 b p) ↔ (idx (ix2 i (0 : Fin 2))).toInt = (b.val : ℤ) ∧ (idx (ix2 i (1 : Fin 2))).toInt = (p.val : ℤ) := by
  have hm : ∀ q : Fin 2, q ∈ scatter_S32x9_S256x2_S256_n_01_01_1.scatterDimsToOperandDims := by decide
  have hs : ∀ q : Fin 2, scatter_S32x9_S256x2_S256_n_01_01_1.start (ix1 i) idx q + (scatter_S32x9_S256x2_S256_n_01_01_1.window (ix1 i) q : ℤ) = (idx (ix2 i q)).toInt := by
    intro q
    have hwin : scatter_S32x9_S256x2_S256_n_01_01_1.window (ix1 i) q = 0 := by
      unfold ScatterDims.window
      rw [dif_neg fun h => (of_decide_eq_true (List.mem_filter.1 h).2) (by fin_cases q <;> decide)]
    rw [hwin]
    unfold ScatterDims.start
    rw [dif_pos (hm q)]
    have hsi : scatter_S32x9_S256x2_S256_n_01_01_1.siIdx (ix1 i) ⟨List.idxOf q scatter_S32x9_S256x2_S256_n_01_01_1.scatterDimsToOperandDims, List.idxOf_lt_length_iff.2 (hm q)⟩ = ix2 i q := by
      funext b; refine Fin.ext ?_
      fin_cases q <;> fin_cases b <;> rfl
    rw [hsi]; simp
  rw [resultIdx?_eq_some]
  constructor
  · intro h; exact ⟨(hs 0).symm.trans (h 0), (hs 1).symm.trans (h 1)⟩
  · intro h a
    refine (hs a).trans ?_
    fin_cases a
    · exact h.1
    · exact h.2

theorem landsB (idx : IVec S32x2 32) (i : Fin 32) (b : Fin 32) (p : Fin 9) :
    scatter_S32x9_S32x2_S32_n_01_01_1.resultIdx? (ix1 i) idx = some (ix2 b p) ↔ (idx (ix2 i (0 : Fin 2))).toInt = (b.val : ℤ) ∧ (idx (ix2 i (1 : Fin 2))).toInt = (p.val : ℤ) := by
  have hm : ∀ q : Fin 2, q ∈ scatter_S32x9_S32x2_S32_n_01_01_1.scatterDimsToOperandDims := by decide
  have hs : ∀ q : Fin 2, scatter_S32x9_S32x2_S32_n_01_01_1.start (ix1 i) idx q + (scatter_S32x9_S32x2_S32_n_01_01_1.window (ix1 i) q : ℤ) = (idx (ix2 i q)).toInt := by
    intro q
    have hwin : scatter_S32x9_S32x2_S32_n_01_01_1.window (ix1 i) q = 0 := by
      unfold ScatterDims.window
      rw [dif_neg fun h => (of_decide_eq_true (List.mem_filter.1 h).2) (by fin_cases q <;> decide)]
    rw [hwin]
    unfold ScatterDims.start
    rw [dif_pos (hm q)]
    have hsi : scatter_S32x9_S32x2_S32_n_01_01_1.siIdx (ix1 i) ⟨List.idxOf q scatter_S32x9_S32x2_S32_n_01_01_1.scatterDimsToOperandDims, List.idxOf_lt_length_iff.2 (hm q)⟩ = ix2 i q := by
      funext b; refine Fin.ext ?_
      fin_cases q <;> fin_cases b <;> rfl
    rw [hsi]; simp
  rw [resultIdx?_eq_some]
  constructor
  · intro h; exact ⟨(hs 0).symm.trans (h 0), (hs 1).symm.trans (h 1)⟩
  · intro h a
    refine (hs a).trans ?_
    fin_cases a
    · exact h.1
    · exact h.2

/-! ## The index vectors -/

section Index
variable (V : Valuation τ sig (Elt Ideal)) (hcu : ∀ b : Fin 32, (V (Proc.devRef .tc main_arg7) : S32.Idx → BitVec 32) (ix1 b) = BitVec.ofNat 32 (8 * (b.val + 1)))
include hcu

theorem prev_at (b : Fin 32) : (concatenate S32 0 [⟨S1, (broadcastInDim S1 ![] bcast_S_S1 (constantI S_ 32 0#32))⟩, ⟨S31, (extractStridedSlice S31 ![0] (V (Proc.devRef .tc main_arg7) : S32.Idx → BitVec 32) slices_S32_S31_0)⟩] concatenates_S1_S31_S32_d0 : S32.Idx → BitVec 32) (ix1 b) = BitVec.ofNat 32 (8 * b.val) := by
  by_cases hb : b.val = 0
  · refine (concatenate_pair_apply_left (t := S32) (s₁ := S1) (s₂ := S31) 0 _ _ _ (ix1 b) rfl (ix1 (0 : Fin 1)) (fun a => by fin_cases a; exact hb.symm)).trans ?_
    rw [hb]; rfl
  · have hl := b.isLt
    refine (concatenate_pair_apply_right (t := S32) (s₁ := S1) (s₂ := S31) 0 _ _ _ (ix1 b) rfl rfl (ix1 (⟨b.val - 1, by omega⟩ : Fin 31)) (fun a h => by fin_cases a; exact absurd rfl h) (by show b.val - 1 + 1 = b.val; omega)).trans ?_
    refine (extractStridedSlice_apply (s := S32) (t := S31) _ _ _ _ (ix1 (⟨b.val - 1, by omega⟩ : Fin 32)) (fun a => by fin_cases a; simp)).trans ?_
    rw [hcu]
    exact congrArg _ (by show 8 * (b.val - 1 + 1) = _; omega)

theorem v4_at (b : Fin 32) : (res_main_v4 V : S32.Idx → BitVec 32) (ix1 b) = BitVec.ofNat 32 8 := by
  unfold res_main_v4
  refine (congrArg₂ (fun x y : BitVec 32 => x - y) (hcu b) (prev_at V hcu b)).trans ?_
  exact (sub_small _ _ (by omega)).trans (congrArg _ (by omega))
theorem v5_at (b : Fin 32) : (res_main_v5 V : S32.Idx → BitVec 32) (ix1 b) = BitVec.ofNat 32 (8 * b.val) := by
  unfold res_main_v5
  refine (congrArg₂ (fun x y : BitVec 32 => x - y) (hcu b) (v4_at V hcu b)).trans ?_
  exact (sub_small _ _ (by omega)).trans (congrArg _ (by omega))

omit hcu in
theorem v0_at (t : Fin 256) : (res_main_v0 V : S256.Idx → BitVec 32) (ix1 t) = BitVec.ofNat 32 t.val := rfl

omit hcu in
theorem count_at : ∀ t : Fin 256, (Finset.univ : Finset (Fin 32)).fold IntOp.addi 0#32 (fun k => if 8 * (k.val + 1) ≤ t.val then 1#32 else 0#32) = BitVec.ofNat 32 (t.val / 8) := by decide +kernel

theorem v12_at (t : Fin 256) : (res_main_v12 V : S256.Idx → BitVec 32) (ix1 t) = BitVec.ofNat 32 (t.val / 8) := by
  unfold res_main_v12
  refine (Host.reduce_eq_fold (s := S256x32) (t := S256) (u := S_) IntOp.addi _ _ _ _ (ix1 t)).trans ?_
  refine (Shape.ReducesTo.fold_fiber_r2_a1 reducesTo_S256x32_S256_d1 (ix1 t) IntOp.addi _ _).trans ?_
  refine Eq.trans ?_ (count_at t)
  refine congrArg (fun f => Finset.fold IntOp.addi 0#32 f Finset.univ) (funext fun k => ?_)
  have a : (broadcastInDim S256x32 ![0, 1] bcast_S1x32_S256x32_0_1 (broadcastInDim S1x32 ![1] bcast_S32_S1x32_1 (V (Proc.devRef .tc main_arg7) : S32.Idx → BitVec 32))) (ix2 t k) = BitVec.ofNat 32 (8 * (k.val + 1)) :=
    (broadcastInDim_apply (s := S1x32) (t := S256x32) _ _ _ _ (ix2 (0 : Fin 1) k) (fun a => by fin_cases a <;> rfl)).trans
      ((broadcastInDim_apply (s := S32) (t := S1x32) _ _ _ _ (ix1 k) (fun a => by fin_cases a; rfl)).trans (hcu k))
  have b : (broadcastInDim S256x32 ![0, 1] bcast_S256x1_S256x32_0_1 (broadcastInDim S256x1 ![0] bcast_S256_S256x1_0 (res_main_v0 V : S256.Idx → BitVec 32))) (ix2 t k) = BitVec.ofNat 32 t.val :=
    (broadcastInDim_apply (s := S256x1) (t := S256x32) _ _ _ _ (ix2 t (0 : Fin 1)) (fun a => by fin_cases a <;> rfl)).trans ((col256 _ t).trans (v0_at V t))
  show BitVec.setWidth 32 (BitVec.ofBool ((broadcastInDim S256x32 ![0, 1] bcast_S1x32_S256x32_0_1 (broadcastInDim S1x32 ![1] bcast_S32_S1x32_1 (V (Proc.devRef .tc main_arg7) : S32.Idx → BitVec 32)) (ix2 t k)).sle
    (broadcastInDim S256x32 ![0, 1] bcast_S256x1_S256x32_0_1 (broadcastInDim S256x1 ![0] bcast_S256_S256x1_0 (res_main_v0 V : S256.Idx → BitVec 32)) (ix2 t k)))) = _
  have hk := k.isLt
  have ht := t.isLt
  rw [a, b, sle_small _ _ (by omega) (by omega)]
  by_cases h : 8 * (k.val + 1) ≤ t.val
  · rw [if_pos h, decide_eq_true h]; rfl
  · rw [if_neg h, decide_eq_false h]; rfl

theorem req_at (K : BitVec 32) (t : Fin 256) :
    broadcastInDim S256x1 ![0] bcast_S256_S256x1_0 (select (cmpi .slt (res_main_v12 V) (broadcastInDim S256 ![] bcast_S_S256 (constantI S_ 32 0#32))) (addi (res_main_v12 V) (broadcastInDim S256 ![] bcast_S_S256 (constantI S_ 32 K))) (res_main_v12 V)) (ix2 t (0 : Fin 1)) = BitVec.ofNat 32 (t.val / 8) :=
  wrap256 K _ t _ (v12_at V hcu t) (by omega)

theorem v20_at (t : Fin 256) : (res_main_v20 V : S256.Idx → BitVec 32) (ix1 t) = BitVec.ofNat 32 (t.val % 8) := by
  unfold res_main_v20
  refine (congrArg₂ (fun x y : BitVec 32 => x - y) (v0_at V t) ((gather32 _ _ t ⟨t.val / 8, by omega⟩ (req_at V hcu _ t)).trans (v5_at V hcu _))).trans ?_
  exact (sub_small _ _ (by show 8 * (t.val / 8) ≤ _; omega)).trans (congrArg _ (by show t.val - 8 * (t.val / 8) = _; omega))
theorem v28_at (t : Fin 256) : (res_main_v28 V : S256.Idx → BitVec 1) (ix1 t) = 1#1 := by
  unfold res_main_v28
  refine (congrArg₂ (fun x y : BitVec 32 => BitVec.ofBool (x.slt y)) (v20_at V hcu t) ((gather32 _ _ t ⟨t.val / 8, by omega⟩ (req_at V hcu _ t)).trans (v4_at V hcu _))).trans ?_
  show BitVec.ofBool ((BitVec.ofNat 32 (t.val % 8)).slt (BitVec.ofNat 32 8)) = _
  rw [slt_small _ _ (by omega) (by omega), decide_eq_true (by omega)]; rfl
theorem v29_at (t : Fin 256) : (res_main_v29 V : S256.Idx → BitVec 32) (ix1 t) = BitVec.ofNat 32 (t.val + t.val / 8) := by
  unfold res_main_v29
  refine (congrArg₂ (fun x y : BitVec 32 => x + y) (v0_at V t) (v12_at V hcu t)).trans ?_
  exact (BitVec.ofNat_add _ _).symm
theorem v133_at (t : Fin 256) : (res_main_v133 V : S256.Idx → BitVec 32) (ix1 t) = BitVec.ofNat 32 (8 * (t.val / 8)) :=
  (gather32 _ _ t ⟨t.val / 8, by omega⟩ (req_at V hcu _ t)).trans (v5_at V hcu _)
theorem call7_at (t : Fin 256) : (res_main_call7_v5 V : S256x1.Idx → BitVec 32) (ix2 t (0 : Fin 1)) = BitVec.ofNat 32 (8 * (t.val / 8)) :=
  wrap256 _ _ t _ (v133_at V hcu t) (by omega)

end Index

end Cert.ReferenceIdeal.Proof
-- ==== Proof.RReal.lean ====
module

public import proofs.«01_k».proof.Proof.RIdx

@[expose] public section

set_option maxRecDepth 65536

noncomputable section

/-! The reference's distributions, recovered tokens and acceptances at an index. -/

namespace Cert.ReferenceIdeal.Proof

open Cert.ReferenceIdeal Cert.ReferenceIdeal.Gen Cert.ReferenceIdeal.Value Cert.Arith
open Idealize.ShloMosaic Idealize.ShloMosaic.StableHlo
open Idealize.ShloMosaic.TcCoe Idealize.ShloMosaic.Tactic Idealize.ShloMosaic.Routing
open Cert.KernelIdeal.Proof (minus_inf)

/-! ## The softmax of a row -/

abbrev rmax (X : FVec Ideal S256x100000 .f32) : FVec Ideal S256 .f32 :=
  Host.reduce FloatOps.maximumf X (constant S_ .f32 0xFF800000#32) reducesTo_S256x100000_S256_d1 h_S_
abbrev rc {α : Type} (x : S256.Idx → α) : S256x100000.Idx → α :=
  broadcastInDim S256x100000 ![0, 1] bcast_S256x1_S256x100000_0_1 (broadcastInDim S256x1 ![0] bcast_S256_S256x1_0 x)
abbrev expS (X : FVec Ideal S256x100000 .f32) : FVec Ideal S256x100000 .f32 :=
  Host.exp (subf X (rc (maximumf (broadcastInDim S256 ![] bcast_S_S256 (constant S_ .f32 0xFF800000#32)) (rmax X))))
abbrev smx (X : FVec Ideal S256x100000 .f32) : FVec Ideal S256x100000 .f32 :=
  Host.divf (expS X) (rc (Host.reduceAdd (expS X) (constant S_ .f32 0x00000000#32) reducesTo_S256x100000_S256_d1 h_S_))

theorem rc_at {α : Type} (x : S256.Idx → α) (t : Fin 256) (v : Fin 100000) : rc x (ix2 t v) = x (ix1 t) := rowcol x t v

theorem rmax_at (X : FVec Ideal S256x100000 .f32) (t : Fin 256) (f : ℕ → ℝ) (hx : ∀ v : Fin 100000, X (ix2 t v) = (f v.val : EReal)) (k : ℕ) (hk : IsFM f k) :
    rmax X (ix1 t) = (f k : EReal) := by
  refine (Host.reduce_eq_fold (s := S256x100000) (t := S256) (u := S_) FloatOps.maximumf _ _ _ _ (ix1 t)).trans ?_
  refine (Shape.ReducesTo.fold_fiber_r2_a1 reducesTo_S256x100000_S256_d1 (ix1 t) FloatOps.maximumf _ _).trans ?_
  show Finset.fold max (Ideal.ofBits .f32 0xFF800000#32) (fun v : Fin 100000 => X (ix2 t v)) Finset.univ = _
  rw [minus_inf]
  exact (row_first f k hk (fun v => X (ix2 t v)) hx).1

theorem hexp_at (A B : FVec Ideal S256x100000 .f32) (i : S256x100000.Idx) : Host.exp (subf A B) i = Ideal.exp (A i - B i) := rfl
theorem hdiv_at (A B : FVec Ideal S256x100000 .f32) (i : S256x100000.Idx) : Host.divf A B i = Ideal.div (A i) (B i) := rfl
theorem hmax_at (A : FVec Ideal S256 .f32) (i : S256.Idx) : maximumf (broadcastInDim S256 ![] bcast_S_S256 (constant S_ .f32 0xFF800000#32)) A i = A i := by
  show max (Ideal.ofBits .f32 0xFF800000#32) (A i) = _
  rw [minus_inf, max_eq_right bot_le]

theorem expS_at (X : FVec Ideal S256x100000 .f32) (t : Fin 256) (f : ℕ → ℝ) (hx : ∀ v : Fin 100000, X (ix2 t v) = (f v.val : EReal)) (k : ℕ) (hk : IsFM f k) (v : Fin 100000) :
    expS X (ix2 t v) = ((Real.exp (f v.val - f k) : ℝ) : EReal) := by
  have e : rc (maximumf (broadcastInDim S256 ![] bcast_S_S256 (constant S_ .f32 0xFF800000#32)) (rmax X)) (ix2 t v) = (f k : EReal) :=
    (rc_at _ t v).trans ((hmax_at (rmax X) (ix1 t)).trans (rmax_at X t f hx k hk))
  refine (hexp_at X _ (ix2 t v)).trans ?_
  rw [e, hx, ← EReal.coe_sub, Ideal.exp_coe]

theorem hsum_at (E : FVec Ideal S256x100000 .f32) (t : Fin 256) :
    Host.reduceAdd E (constant S_ .f32 0x00000000#32) reducesTo_S256x100000_S256_d1 h_S_ (ix1 t) = ∑ v : Fin 100000, E (ix2 t v) := by
  refine (Ideal.hostReduceAdd_r2_a1 reducesTo_S256x100000_S256_d1 E (Ideal.ofBits .f32 0x00000000#32) (ix1 t)).trans ?_
  rw [Ideal.ofBits_zero_f32, zero_add]
  rfl

theorem tot_shift (f : ℕ → ℝ) (c : ℝ) : tot (fun v => Real.exp (f v - c)) = tot (fun v => Real.exp (f v)) / Real.exp c := by
  unfold tot
  rw [Finset.sum_div]
  exact Finset.sum_congr rfl fun v _ => Real.exp_sub _ _

theorem esum_at (X : FVec Ideal S256x100000 .f32) (t : Fin 256) (f : ℕ → ℝ) (hx : ∀ v : Fin 100000, X (ix2 t v) = (f v.val : EReal)) (k : ℕ) (hk : IsFM f k) :
    ∑ v : Fin 100000, expS X (ix2 t v) = ((tot (fun v => Real.exp (f v - f k)) : ℝ) : EReal) := by
  refine (Finset.sum_congr rfl (fun v _ => expS_at X t f hx k hk v)).trans ?_
  rw [sum_real]
  exact congrArg Real.toEReal (Fin.sum_univ_eq_sum_range (fun v => Real.exp (f v - f k)) 100000)

theorem smx_at (X : FVec Ideal S256x100000 .f32) (t : Fin 256) (f : ℕ → ℝ) (hx : ∀ v : Fin 100000, X (ix2 t v) = (f v.val : EReal)) (v : Fin 100000) :
    smx X (ix2 t v) = ((Real.exp (f v.val) / tot (fun v => Real.exp (f v)) : ℝ) : EReal) := by
  have hk' := IsFM.exists f
  obtain ⟨k, hk⟩ := hk'
  have hp : 0 < tot (fun v => Real.exp (f v - f k)) := tot_pos _ (fun _ => Real.exp_pos _)
  have hp' : 0 < tot (fun v => Real.exp (f v)) := tot_pos _ (fun _ => Real.exp_pos _)
  have he : 0 < Real.exp (f k) := Real.exp_pos _
  refine (hdiv_at _ _ _).trans ((congrArg₂ Ideal.div (expS_at X t f hx k hk v) ((rc_at _ t v).trans ((hsum_at _ t).trans (esum_at X t f hx k hk)))).trans ?_)
  rw [div_real _ _ hp.ne', tot_shift, Real.exp_sub]
  refine congrArg Real.toEReal ?_
  generalize tot (fun v => Real.exp (f v)) = T at hp'
  generalize Real.exp (f k) = E at he
  field_simp

/-! ## The first maximum of a row -/

theorem first_at (X : FVec Ideal S256x100000 .f32) (t : Fin 256) (f : ℕ → ℝ) (hx : ∀ v : Fin 100000, X (ix2 t v) = (f v.val : EReal)) (k : ℕ) (hk : IsFM f k) :
    Host.reduce IntOp.minsi (select (cmpf .oeq X (rc (rmax X))) (iotaInDim S256x100000 32 1) (broadcastInDim S256x100000 ![] bcast_S_S256x100000 (id (constantI S_ 32 100000#32)))) (constantI S_ 32 2147483647#32) reducesTo_S256x100000_S256_d1 h_S_ (ix1 t) = BitVec.ofNat 32 k := by
  refine (Host.reduce_eq_fold (s := S256x100000) (t := S256) (u := S_) IntOp.minsi _ _ _ _ (ix1 t)).trans ?_
  refine (Shape.ReducesTo.fold_fiber_r2_a1 reducesTo_S256x100000_S256_d1 (ix1 t) IntOp.minsi _ _).trans ?_
  refine Eq.trans ?_ (row_first f k hk (fun v => X (ix2 t v)) hx).2
  refine congrArg (fun g => Finset.fold IntOp.minsi 2147483647#32 g Finset.univ) (funext fun v => ?_)
  refine (sel_at _ _ _ _ (X (ix2 t v) = (f k : EReal)) ?_).trans rfl
  have e : rc (rmax X) (ix2 t v) = (f k : EReal) := (rowcol _ t v).trans (rmax_at X t f hx k hk)
  show BitVec.ofBool (decide (X (ix2 t v) = rc (rmax X) (ix2 t v))) = _
  rw [e]

/-! ## Picking a token's entry -/

theorem cast3 {α : Type} (x : S256x1.Idx → α) (t : Fin 256) : shapeCast S256x1x1 x shapeCasts_S256x1_S256x1x1 (ix3 t (0 : Fin 1) (0 : Fin 1)) = x (ix2 t (0 : Fin 1)) := by pointwise
theorem cast1 {α : Type} (x : S256x1.Idx → α) (t : Fin 256) : shapeCast S256 x shapeCasts_S256x1_S256 (ix1 t) = x (ix2 t (0 : Fin 1)) := by pointwise

abbrev pick (P : FVec Ideal S256x100000 .f32) (I : IVec S256x1x1 32) : FVec Ideal S256 .f32 :=
  shapeCast _ (select (Host.reduce IntOp.andi (andi (cmpi .sge I (broadcastInDim S256x1x1 ![] bcast_S_S256x1x1 (constantI S_ 32 0#32))) (cmpi .sle I (broadcastInDim S256x1x1 ![0, 1, 2] bcast_S1x1x1_S256x1x1_0_1_2 (broadcastInDim S1x1x1 ![2] bcast_S1_S1x1x1_2 (constantI S1 32 99999#32))))) (constantI S_ 1 1#1) reducesTo_S256x1x1_S256x1_d2 h_S_) (Host.gather gather_S256x100000_S256x1x1_S256x1_n_1_0_0_1_2_11 P I) (broadcastInDim S256x1 ![] bcast_S_S256x1 (constant S_ .f32 0x7FC00000#32))) shapeCasts_S256x1_S256

theorem pick_at (P : FVec Ideal S256x100000 .f32) (I : IVec S256x1x1 32) (t : Fin 256) (a : ℕ) (ha : a < 100000) (hI : I (ix3 t (0 : Fin 1) (0 : Fin 1)) = BitVec.ofNat 32 a) :
    pick P I (ix1 t) = P (ix2 t ⟨a, ha⟩) := by
  refine (cast1 _ t).trans ?_
  refine (sel_at _ _ _ _ True ?_).trans ?_
  · refine (Host.reduce_eq_fold (s := S256x1x1) (t := S256x1) (u := S_) IntOp.andi _ _ _ _ (ix2 t (0 : Fin 1))).trans ?_
    refine (Shape.ReducesTo.fold_fiber_r3_a2 reducesTo_S256x1x1_S256x1_d2 (ix2 t (0 : Fin 1)) IntOp.andi _ _).trans ?_
    rw [Finset.univ_unique, Finset.fold_singleton]
    show (BitVec.ofBool ((BitVec.ofNat 32 0).sle (I (ix3 t (0 : Fin 1) (0 : Fin 1)))) &&& BitVec.ofBool ((I (ix3 t (0 : Fin 1) (0 : Fin 1))).sle (BitVec.ofNat 32 99999))) &&& 1#1 = _
    rw [hI, sle_small _ _ (by omega) (by omega), sle_small _ _ (by omega) (by omega), decide_eq_true (by omega), decide_eq_true (by omega)]
    rfl
  · rw [if_pos trivial]
    exact gatherP P I t a ha hI

theorem ids_at (x : IVec S256 32) (t : Fin 256) (a : ℕ) (ha : a < 100000) (hx : x (ix1 t) = BitVec.ofNat 32 a) :
    (shapeCast S256x1x1 (select (cmpi .slt (broadcastInDim S256x1 ![0] bcast_S256_S256x1_0 x) (broadcastInDim S256x1 ![] bcast_S_S256x1 (constantI S_ 32 0#32))) (addi (broadcastInDim S256x1 ![0] bcast_S256_S256x1_0 x) (broadcastInDim S256x1 ![] bcast_S_S256x1 (constantI S_ 32 100000#32))) (broadcastInDim S256x1 ![0] bcast_S256_S256x1_0 x)) shapeCasts_S256x1_S256x1x1 : S256x1x1.Idx → BitVec 32) (ix3 t (0 : Fin 1) (0 : Fin 1)) = BitVec.ofNat 32 a := by
  rw [cast3]
  have e := (col256 x t).trans hx
  refine (sel_at _ _ _ _ False ?_).trans ?_
  · show BitVec.ofBool ((broadcastInDim S256x1 ![0] bcast_S256_S256x1_0 x (ix2 t (0 : Fin 1))).slt (BitVec.ofNat 32 0)) = _
    rw [e, slt_small _ _ (by omega) (by norm_num)]
    exact congrArg BitVec.ofBool (decide_eq_decide.mpr (by simp))
  · rw [if_neg not_false]; exact e

/-! ## The arguments' reals -/

abbrev RData (V : Valuation τ sig (Elt Ideal)) (x0 x1 x4 : ℕ → ℕ → ℝ) (x2 : ℕ → ℝ) (u : ℕ → EReal) (d : ℕ → ℕ) (bo : ℕ → BitVec 32) : Prop :=
  Data x0 x1 x4 x2 u d bo (fun t v => (V (Proc.devRef .tc main_arg0) : S256x100000.Idx → EReal) (ix2 t v)) (fun t v => (V (Proc.devRef .tc main_arg1) : S288x100000.Idx → EReal) (ix2 t v))
    (fun b => (V (Proc.devRef .tc main_arg2) : S32.Idx → EReal) (ix1 b)) (fun t => (V (Proc.devRef .tc main_arg3) : S256.Idx → EReal) (ix1 t))
    (fun b v => (V (Proc.devRef .tc main_arg4) : S32x100000.Idx → EReal) (ix2 b v)) (fun t => (V (Proc.devRef .tc main_arg5) : S256.Idx → BitVec 32) (ix1 t))
    (fun b => (V (Proc.devRef .tc main_arg6) : S32.Idx → BitVec 32) (ix1 b))

theorem pos_at (A B : FVec Ideal S256x100000 .f32) (i : S256x100000.Idx) (a b : ℝ) (ha : A i = (a : EReal)) (hb : B i = (b : EReal)) :
    maximumf (subf A B) (broadcastInDim S256x100000 ![] bcast_S_S256x100000 (constant S_ .f32 0x00000000#32)) i = ((max (a - b) 0 : ℝ) : EReal) := by
  show max (A i - B i) (Ideal.ofBits .f32 0x00000000#32) = _
  rw [ha, hb, Ideal.ofBits_zero_f32, ← EReal.coe_sub, ← EReal.coe_zero, max_real]

/-- The acceptance test of the draft probability `p`, the target probability `q` and the uniform draw `a`. -/
abbrev test (p q a : FVec Ideal S256 .f32) : IVec S256 1 :=
  ori (cmpf .oeq p (broadcastInDim S256 ![] bcast_S_S256 (constant S_ .f32 0x00000000#32))) (cmpf .oge (Host.divf q (select (cmpf .oeq p (broadcastInDim S256 ![] bcast_S_S256 (constant S_ .f32 0x00000000#32))) (broadcastInDim S256 ![] bcast_S_S256 (id (constant S_ .f32 0x3F800000#32))) p)) a)

open Classical in
theorem test_at (p q a : FVec Ideal S256 .f32) (i : S256.Idx) (rp rq : ℝ) (hp : 0 < rp) (ep : p i = (rp : EReal)) (eq : q i = (rq : EReal)) :
    test p q a i = BitVec.ofBool (decide (a i ≤ ((rq / rp : ℝ) : EReal))) := by
  have hz : cmpf .oeq p (broadcastInDim S256 ![] bcast_S_S256 (constant S_ .f32 0x00000000#32)) i = BitVec.ofBool (decide False) := by
    show BitVec.ofBool (decide (p i = Ideal.ofBits .f32 0x00000000#32)) = _
    rw [ep, Ideal.ofBits_zero_f32, ← EReal.coe_zero]
    refine congrArg BitVec.ofBool ?_
    refine decide_eq_decide.mpr ⟨fun h => ?_, False.elim⟩
    exact hp.ne' (EReal.coe_injective h)
  have hs : select (cmpf .oeq p (broadcastInDim S256 ![] bcast_S_S256 (constant S_ .f32 0x00000000#32))) (broadcastInDim S256 ![] bcast_S_S256 (id (constant S_ .f32 0x3F800000#32 : FVec Ideal S_ .f32))) p i = (rp : EReal) :=
    (sel_at _ _ _ _ False hz).trans ((if_neg not_false).trans ep)
  show cmpf .oeq p (broadcastInDim S256 ![] bcast_S_S256 (constant S_ .f32 0x00000000#32)) i ||| BitVec.ofBool (decide (a i ≤ Ideal.div (q i)
    (select (cmpf .oeq p (broadcastInDim S256 ![] bcast_S_S256 (constant S_ .f32 0x00000000#32))) (broadcastInDim S256 ![] bcast_S_S256 (id (constant S_ .f32 0x3F800000#32 : FVec Ideal S_ .f32))) p i))) = _
  rw [hz, show BitVec.ofBool (decide False) = 0#1 from rfl, BitVec.zero_or, hs, eq, div_real _ _ hp.ne']

section Rows
variable (V : Valuation τ sig (Elt Ideal)) {x0 x1 x4 : ℕ → ℕ → ℝ} {x2 : ℕ → ℝ} {u : ℕ → EReal} {d : ℕ → ℕ} {bo : ℕ → BitVec 32}
  (H : RData V x0 x1 x4 x2 u d bo)
  (hcu : ∀ b : Fin 32, (V (Proc.devRef .tc main_arg7) : S32.Idx → BitVec 32) (ix1 b) = BitVec.ofNat 32 (8 * (b.val + 1)))
  (hgr : ∀ b : Fin 32, (V (Proc.devRef .tc main_arg8) : S32.Idx → BitVec 1) (ix1 b) = 0#1)
include H hcu

theorem v36_at (t : Fin 256) : (res_main_v36 V : S256.Idx → EReal) (ix1 t) = (x2 (t.val / 8) : EReal) := by
  unfold res_main_v36
  exact (gather32 _ _ t ⟨t.val / 8, by omega⟩ (req_at V hcu _ t)).trans (H.h2 _)

theorem v46_at (t : Fin 256) (v : Fin 100000) : (res_main_v46 V : S256x100000.Idx → EReal) (ix2 t v) = ((x1 (t.val + t.val / 8) v.val / x2 (t.val / 8) : ℝ) : EReal) := by
  unfold res_main_v46
  refine (congrArg₂ Ideal.div ((gatherT _ _ t v ⟨t.val + t.val / 8, by omega⟩ (wrap256 _ _ t _ (v29_at V hcu t) (by omega))).trans (H.h1 _ v)) ((rowcol _ t v).trans (v36_at V H hcu t))).trans ?_
  exact div_real _ _ (H.h2' _)
theorem v60_at (t : Fin 256) (v : Fin 100000) : (res_main_v60 V : S256x100000.Idx → EReal) (ix2 t v) = ((x0 t.val v.val / x2 (t.val / 8) : ℝ) : EReal) := by
  unfold res_main_v60
  refine (congrArg₂ Ideal.div (H.h0 t v) ((rowcol _ t v).trans (v36_at V H hcu t))).trans ?_
  exact div_real _ _ (H.h2' _)

theorem v57_at (t : Fin 256) (v : Fin 100000) : (res_main_v57 V : S256x100000.Idx → EReal) (ix2 t v) = ((etR x1 x2 t.val v.val / tot (etR x1 x2 t.val) : ℝ) : EReal) :=
  smx_at (res_main_v46 V) t (fun v => x1 (t.val + t.val / 8) v / x2 (t.val / 8)) (v46_at V H hcu t) v
theorem v71_at (t : Fin 256) (v : Fin 100000) : (res_main_v71 V : S256x100000.Idx → EReal) (ix2 t v) = ((edR x0 x2 t.val v.val / tot (edR x0 x2 t.val) : ℝ) : EReal) :=
  smx_at (res_main_v60 V) t (fun v => x0 t.val v / x2 (t.val / 8)) (v60_at V H hcu t) v

theorem v84_at (t : Fin 256) (v : Fin 100000) : (res_main_v84 V : S256x100000.Idx → EReal) (ix2 t v) = ((score (etR x1 x2 t.val) (edR x0 x2 t.val) (qR x4 (t.val / 8)) v.val : ℝ) : EReal) := by
  have hq : (Host.negf (Host.log (V (Proc.devRef .tc main_arg4) : FVec Ideal S32x100000 .f32)) : FVec Ideal S32x100000 .f32) (ix2 (⟨t.val / 8, by omega⟩ : Fin 32) v) = ((qR x4 (t.val / 8) v.val : ℝ) : EReal) := by
    show -Ideal.log ((V (Proc.devRef .tc main_arg4) : S32x100000.Idx → EReal) (ix2 (⟨t.val / 8, by omega⟩ : Fin 32) v)) = _
    rw [show (V (Proc.devRef .tc main_arg4) : S32x100000.Idx → EReal) (ix2 (⟨t.val / 8, by omega⟩ : Fin 32) v) = (x4 (t.val / 8) v.val : EReal) from H.h4 _ v, Ideal.log_coe,
      if_neg (not_le.mpr (H.h4p _ _)), ← EReal.coe_neg]
    rfl
  unfold res_main_v84
  refine (congrArg₂ Ideal.div (?_ : _ = ((max (etR x1 x2 t.val v.val / tot (etR x1 x2 t.val) - edR x0 x2 t.val v.val / tot (edR x0 x2 t.val)) 0 : ℝ) : EReal)) ((gatherQ _ _ t v ⟨t.val / 8, by omega⟩ (req_at V hcu _ t)).trans hq)).trans ?_
  · exact pos_at (res_main_v57 V) (res_main_v71 V) (ix2 t v) _ _ (v57_at V H hcu t v) (v71_at V H hcu t v)
  · exact div_real _ _ (qR_pos _ _ _ (H.h4p _ _) (H.h4l _ _)).ne'

/-- The recovered token. -/
theorem rec_at (t : Fin 256) (k : ℕ) (hk : Recovered x0 x1 x4 x2 t.val k) :
    Host.reduce IntOp.minsi (select (cmpf .oeq (res_main_v84 V : FVec Ideal S256x100000 .f32) (rc (rmax (res_main_v84 V)))) (iotaInDim S256x100000 32 1) (broadcastInDim S256x100000 ![] bcast_S_S256x100000 (id (constantI S_ 32 100000#32)))) (constantI S_ 32 2147483647#32) reducesTo_S256x100000_S256_d1 h_S_ (ix1 t) = BitVec.ofNat 32 k :=
  first_at (res_main_v84 V) t _ (v84_at V H hcu t) k hk

theorem v104_at (t : Fin 256) : (res_main_v104 V : S256.Idx → EReal) (ix1 t) = ((edR x0 x2 t.val (d t.val) / tot (edR x0 x2 t.val) : ℝ) : EReal) := by
  unfold res_main_v104
  refine (pick_at (res_main_v71 V) (res_main_call3_v5 V) t (d t.val) (H.h5' _) ?_).trans (v71_at V H hcu t _)
  unfold res_main_call3_v5 res_main_v102
  exact ids_at _ t _ (H.h5' _) (H.h5 t)

include hgr in
omit H in
theorem v119_at (t : Fin 256) : (res_main_v119 V : S256.Idx → BitVec 1) (ix1 t) = 0#1 := by
  unfold res_main_v119
  exact (gather32 _ _ t ⟨t.val / 8, by omega⟩ (req_at V hcu _ t)).trans (hgr _)

open Classical in
include hgr in
theorem v121_at (t : Fin 256) : (res_main_v121 V : S256.Idx → BitVec 1) (ix1 t) = BitVec.ofBool (decide (accepts (etR x1 x2 t.val) (edR x0 x2 t.val) (d t.val) (u t.val))) := by
  have hd := v104_at V H hcu t
  have hp : 0 < edR x0 x2 t.val (d t.val) / tot (edR x0 x2 t.val) := div_pos (edR_pos _ _ _ _) (tot_pos _ (edR_pos _ _ _))
  have ht : pick (res_main_v57 V) (res_main_call2_v5 V) (ix1 t) = ((etR x1 x2 t.val (d t.val) / tot (etR x1 x2 t.val) : ℝ) : EReal) := by
    refine (pick_at (res_main_v57 V) (res_main_call2_v5 V) t (d t.val) (H.h5' _) ?_).trans (v57_at V H hcu t _)
    unfold res_main_call2_v5 res_main_v99
    exact ids_at _ t _ (H.h5' _) (H.h5 t)
  unfold res_main_v121
  refine (sel_at _ _ _ _ False (v119_at V hcu hgr t)).trans ((if_neg not_false).trans ?_)
  refine (test_at (res_main_v104 V) (pick (res_main_v57 V) (res_main_call2_v5 V)) (V (Proc.devRef .tc main_arg3)) (ix1 t) _ _ hp hd ht).trans ?_
  rw [show (V (Proc.devRef .tc main_arg3) : S256.Idx → EReal) (ix1 t) = u t.val from H.h3 t]
  exact congrArg BitVec.ofBool (decide_eq_decide.mpr Iff.rfl)

end Rows

end Cert.ReferenceIdeal.Proof
-- ==== Proof.ROut.lean ====
module

public import proofs.«01_k».proof.Proof.RReal

@[expose] public section

set_option maxRecDepth 65536

noncomputable section

/-! The reference's table: which tokens it writes, and where. -/

namespace Cert.ReferenceIdeal.Proof

open Cert.ReferenceIdeal Cert.ReferenceIdeal.Gen Cert.ReferenceIdeal.Value Cert.Arith
open Idealize.ShloMosaic Idealize.ShloMosaic.StableHlo
open Idealize.ShloMosaic.TcCoe Idealize.ShloMosaic.Tactic Idealize.ShloMosaic.Routing
open Classical

/-! ## Counting rejections -/

def rej (acc : ℕ → Prop) (t : ℕ) : ℕ := if acc t then 0 else 1
def rejs (acc : ℕ → Prop) (n : ℕ) : ℕ := ((List.range n).map (rej acc)).sum

theorem rejs_succ (acc : ℕ → Prop) (n : ℕ) : rejs acc (n + 1) = rejs acc n + rej acc n := by
  unfold rejs; rw [List.range_succ, List.map_append, List.sum_append]; simp
theorem rej_le (acc : ℕ → Prop) (n : ℕ) : rej acc n ≤ 1 := by unfold rej; split <;> omega
theorem rej_zero (acc : ℕ → Prop) (n : ℕ) : rej acc n = 0 ↔ acc n := by
  unfold rej; split
  · exact ⟨fun _ => ‹_›, fun _ => rfl⟩
  · exact ⟨fun h => absurd h (by omega), fun h => absurd h ‹_›⟩
theorem rejs_le (acc : ℕ → Prop) (n : ℕ) : rejs acc n ≤ n := by
  induction n with
  | zero => exact le_refl _
  | succ n ih => rw [rejs_succ]; have := rej_le acc n; omega
theorem rejs_add (acc : ℕ → Prop) (a n : ℕ) : rejs acc a ≤ rejs acc (a + n) ∧ (rejs acc (a + n) = rejs acc a ↔ ∀ j, j < n → acc (a + j)) := by
  induction n with
  | zero => exact ⟨le_refl _, fun _ j hj => absurd hj (by omega), fun _ => rfl⟩
  | succ n ih =>
    rw [← Nat.add_assoc, rejs_succ]
    refine ⟨by omega, fun h j hj => ?_, fun h => ?_⟩
    · have h1 : rej acc (a + n) = 0 := by omega
      have h2 : rejs acc (a + n) = rejs acc a := by omega
      rcases Nat.lt_succ_iff_lt_or_eq.mp hj with hj | rfl
      · exact ih.2.mp h2 j hj
      · exact (rej_zero acc _).mp h1
    · rw [ih.2.mpr fun j hj => h j (by omega), (rej_zero acc _).mpr (h n (by omega)), Nat.add_zero]

theorem nrej_at (a b : IVec S256 1) (i : S256.Idx) (P : Prop) (ha : a i = BitVec.ofBool (decide P)) (hb : b i = 1#1) :
    extui 32 (andi (noti a) b) natLt_1_32 i = BitVec.ofNat 32 (if P then 0 else 1) := by
  show BitVec.setWidth 32 (~~~(a i) &&& b i) = _
  rw [ha, hb]
  by_cases h : P
  · rw [if_pos h, decide_eq_true h]; rfl
  · rw [if_neg h, decide_eq_false h]; rfl

abbrev recV (V : Valuation τ sig (Elt Ideal)) : IVec S256 32 :=
  Host.reduce IntOp.minsi (select (cmpf .oeq (res_main_v84 V : FVec Ideal S256x100000 .f32) (rc (rmax (res_main_v84 V)))) (iotaInDim S256x100000 32 1) (broadcastInDim S256x100000 ![] bcast_S_S256x100000 (id (constantI S_ 32 100000#32)))) (constantI S_ 32 2147483647#32) reducesTo_S256x100000_S256_d1 h_S_
abbrev emitV (V : Valuation τ sig (Elt Ideal)) : IVec S256 1 :=
  andi (cmpi .eq (subi (res_main_v126 V) (select (Host.reduce IntOp.andi (andi (cmpi .sge (res_main_call7_v5 V) (broadcastInDim S256x1 ![] bcast_S_S256x1 (constantI S_ 32 0#32))) (cmpi .sle (res_main_call7_v5 V) (broadcastInDim S256x1 ![0, 1] bcast_S1x1_S256x1_0_1 (broadcastInDim S1x1 ![1] bcast_S1_S1x1_1 (constantI S1 32 255#32))))) (constantI S_ 1 1#1) reducesTo_S256x1_S256_d1 h_S_) (Host.gather gather_S256_S256x1_S256_n_0_n_n_0_1_1 (res_main_v126 V) (res_main_call7_v5 V)) (broadcastInDim S256 ![] bcast_S_S256 (constantI S_ 32 2147483648#32)))) (broadcastInDim S256 ![] bcast_S_S256 (constantI S_ 32 0#32))) (res_main_v28 V)
abbrev tokV (V : Valuation τ sig (Elt Ideal)) : IVec S256 32 :=
  select (emitV V) (select (res_main_v119 V) (res_main_v98 V) (select (res_main_v121 V) (V (Proc.devRef .tc main_arg5)) (recV V))) (broadcastInDim S256 ![] bcast_S_S256 (id (constantI S_ 32 4294967295#32)))
abbrev bonV (V : Valuation τ sig (Elt Ideal)) : IVec S32 32 :=
  select (cmpi .eq (Host.scatter scatter_S32_S256x1_S256_n_0_0_1 IntOp.addi (broadcastInDim S32 ![] bcast_S_S32 (constantI S_ 32 0#32)) (broadcastInDim S256x1 ![0] bcast_S256_S256x1_0 (res_main_v12 V)) (res_main_v124 V)) (broadcastInDim S32 ![] bcast_S_S32 (constantI S_ 32 0#32))) (V (Proc.devRef .tc main_arg6)) (broadcastInDim S32 ![] bcast_S_S32 (id (constantI S_ 32 4294967295#32)))
abbrev idxA (V : Valuation τ sig (Elt Ideal)) : IVec S256x2 32 :=
  concatenate S256x2 1 [⟨S256x1, (broadcastInDim S256x1 ![0] bcast_S256_S256x1_0 (select (cmpi .slt (res_main_v12 V) (broadcastInDim S256 ![] bcast_S_S256 (constantI S_ 32 0#32))) (addi (res_main_v12 V) (broadcastInDim S256 ![] bcast_S_S256 (constantI S_ 32 32#32))) (res_main_v12 V)))⟩, ⟨S256x1, (broadcastInDim S256x1 ![0] bcast_S256_S256x1_0 (select (cmpi .slt (res_main_v20 V) (broadcastInDim S256 ![] bcast_S_S256 (constantI S_ 32 0#32))) (addi (res_main_v20 V) (broadcastInDim S256 ![] bcast_S_S256 (constantI S_ 32 9#32))) (res_main_v20 V)))⟩] concatenates_S256x1_S256x1_S256x2_d1
abbrev idxB (V : Valuation τ sig (Elt Ideal)) : IVec S32x2 32 :=
  concatenate S32x2 1 [⟨S32x1, (broadcastInDim S32x1 ![0] bcast_S32_S32x1_0 (select (cmpi .slt (res_main_v162 V) (broadcastInDim S32 ![] bcast_S_S32 (constantI S_ 32 0#32))) (addi (res_main_v162 V) (broadcastInDim S32 ![] bcast_S_S32 (constantI S_ 32 32#32))) (res_main_v162 V)))⟩, ⟨S32x1, (broadcastInDim S32x1 ![0] bcast_S32_S32x1_0 (select (cmpi .slt (res_main_v4 V) (broadcastInDim S32 ![] bcast_S_S32 (constantI S_ 32 0#32))) (addi (res_main_v4 V) (broadcastInDim S32 ![] bcast_S_S32 (constantI S_ 32 9#32))) (res_main_v4 V)))⟩] concatenates_S32x1_S32x1_S32x2_d1
/-- The reference's result. -/
def refOut (V : Valuation τ sig (Elt Ideal)) : S32x9.Idx → BitVec 32 :=
  Host.scatter scatter_S32x9_S32x2_S32_n_01_01_1 (fun _ b => b) (Host.scatter scatter_S32x9_S256x2_S256_n_01_01_1 (fun _ b => b) (broadcastInDim S32x9 ![] bcast_S_S32x9 (constantI S_ 32 4294967295#32)) (idxA V) (tokV V)) (idxB V) (bonV V)

/-! ## The two index pairs -/

section Table
variable (V : Valuation τ sig (Elt Ideal)) {x0 x1 x4 : ℕ → ℕ → ℝ} {x2 : ℕ → ℝ} {u : ℕ → EReal} {d : ℕ → ℕ} {bo : ℕ → BitVec 32}
  (H : RData V x0 x1 x4 x2 u d bo)
  (hcu : ∀ b : Fin 32, (V (Proc.devRef .tc main_arg7) : S32.Idx → BitVec 32) (ix1 b) = BitVec.ofNat 32 (8 * (b.val + 1)))
  (hgr : ∀ b : Fin 32, (V (Proc.devRef .tc main_arg8) : S32.Idx → BitVec 1) (ix1 b) = 0#1)

include hcu in
theorem idxA_at (i : Fin 256) : idxA V (ix2 i (0 : Fin 2)) = BitVec.ofNat 32 (i.val / 8) ∧ idxA V (ix2 i (1 : Fin 2)) = BitVec.ofNat 32 (i.val % 8) := by
  constructor
  · refine (concatenate_pair_apply_left (t := S256x2) (s₁ := S256x1) (s₂ := S256x1) 1 _ _ _ (ix2 i (0 : Fin 2)) rfl (ix2 i (0 : Fin 1)) (fun a => by fin_cases a <;> rfl)).trans ?_
    exact req_at V hcu _ i
  · refine (concatenate_pair_apply_right (t := S256x2) (s₁ := S256x1) (s₂ := S256x1) 1 _ _ _ (ix2 i (1 : Fin 2)) rfl rfl (ix2 i (0 : Fin 1)) (fun a h => by match a with | ⟨0, _⟩ => rfl | ⟨1, _⟩ => exact absurd rfl h) rfl).trans ?_
    exact wrap256 _ _ i _ (v20_at V hcu i) (by omega)
include hcu in
theorem idxB_at (i : Fin 32) : idxB V (ix2 i (0 : Fin 2)) = BitVec.ofNat 32 i.val ∧ idxB V (ix2 i (1 : Fin 2)) = BitVec.ofNat 32 8 := by
  constructor
  · refine (concatenate_pair_apply_left (t := S32x2) (s₁ := S32x1) (s₂ := S32x1) 1 _ _ _ (ix2 i (0 : Fin 2)) rfl (ix2 i (0 : Fin 1)) (fun a => by fin_cases a <;> rfl)).trans ?_
    exact wrap32 _ _ i _ rfl (by omega)
  · refine (concatenate_pair_apply_right (t := S32x2) (s₁ := S32x1) (s₂ := S32x1) 1 _ _ _ (ix2 i (1 : Fin 2)) rfl rfl (ix2 i (0 : Fin 1)) (fun a h => by match a with | ⟨0, _⟩ => rfl | ⟨1, _⟩ => exact absurd rfl h) rfl).trans ?_
    exact wrap32 _ _ i _ (v4_at V hcu i) (by omega)

include hcu in
theorem putA (i : Fin 256) (b : Fin 32) (p : Fin 9) : scatter_S32x9_S256x2_S256_n_01_01_1.resultIdx? (ix1 i) (idxA V) = some (ix2 b p) ↔ i.val / 8 = b.val ∧ i.val % 8 = p.val := by
  rw [landsA, (idxA_at V hcu i).1, (idxA_at V hcu i).2, toInt_small _ (by omega), toInt_small _ (by omega), Nat.cast_inj, Nat.cast_inj]
include hcu in
theorem putB (i : Fin 32) (b : Fin 32) (p : Fin 9) : scatter_S32x9_S32x2_S32_n_01_01_1.resultIdx? (ix1 i) (idxB V) = some (ix2 b p) ↔ i.val = b.val ∧ 8 = p.val := by
  rw [landsB, (idxB_at V hcu i).1, (idxB_at V hcu i).2, toInt_small _ (by omega), toInt_small _ (by omega), Nat.cast_inj, Nat.cast_inj]
include hcu in
theorem put1 (i : Fin 256) (b : Fin 32) : scatter_S32_S256x1_S256_n_0_0_1.resultIdx? (ix1 i) (broadcastInDim S256x1 ![0] bcast_S256_S256x1_0 (res_main_v12 V : S256.Idx → BitVec 32)) = some (ix1 b) ↔ i.val / 8 = b.val := by
  rw [lands1, col256, v12_at V hcu i, toInt_small _ (by omega), Nat.cast_inj]

/-! ## Which tokens are emitted -/

abbrev accT (x0 x1 : ℕ → ℕ → ℝ) (x2 : ℕ → ℝ) (u : ℕ → EReal) (d : ℕ → ℕ) (t : ℕ) : Prop := accepts (etR x1 x2 t) (edR x0 x2 t) (d t) (u t)

include H hcu hgr

theorem v124_at (t : Fin 256) : (res_main_v124 V : S256.Idx → BitVec 32) (ix1 t) = BitVec.ofNat 32 (rej (accT x0 x1 x2 u d) t.val) := by
  unfold res_main_v124
  exact nrej_at (res_main_v121 V) (res_main_v28 V) (ix1 t) _ ((v121_at V H hcu hgr t).trans rfl) (v28_at V hcu t)

theorem v126_at (t : Fin 256) : (res_main_v126 V : S256.Idx → BitVec 32) (ix1 t) = BitVec.ofNat 32 (rejs (accT x0 x1 x2 u d) t.val) := by
  unfold res_main_v126
  refine (congrArg₂ (fun x y : BitVec 32 => x - y) (cumsum1 (N := 256) (Nm1 := 255) rfl (res_main_v124 V) (rej (accT x0 x1 x2 u d)) (v124_at V H hcu hgr) _ rfl _ _ t) (v124_at V H hcu hgr t)).trans ?_
  show BitVec.ofNat 32 (rejs (accT x0 x1 x2 u d) (t.val + 1)) - _ = _
  rw [sub_small _ _ (by rw [rejs_succ]; omega), rejs_succ, Nat.add_sub_cancel]

theorem base_at (t : Fin 256) : (select (Host.reduce IntOp.andi (andi (cmpi .sge (res_main_call7_v5 V) (broadcastInDim S256x1 ![] bcast_S_S256x1 (constantI S_ 32 0#32))) (cmpi .sle (res_main_call7_v5 V) (broadcastInDim S256x1 ![0, 1] bcast_S1x1_S256x1_0_1 (broadcastInDim S1x1 ![1] bcast_S1_S1x1_1 (constantI S1 32 255#32))))) (constantI S_ 1 1#1) reducesTo_S256x1_S256_d1 h_S_) (Host.gather gather_S256_S256x1_S256_n_0_n_n_0_1_1 (res_main_v126 V) (res_main_call7_v5 V)) (broadcastInDim S256 ![] bcast_S_S256 (constantI S_ 32 2147483648#32)) : IVec S256 32) (ix1 t)
    = BitVec.ofNat 32 (rejs (accT x0 x1 x2 u d) (8 * (t.val / 8))) := by
  have hI := call7_at V hcu t
  refine (sel_at _ _ _ _ True ?_).trans ?_
  · refine (Host.reduce_eq_fold (s := S256x1) (t := S256) (u := S_) IntOp.andi _ _ _ _ (ix1 t)).trans ?_
    refine (Shape.ReducesTo.fold_fiber_r2_a1 reducesTo_S256x1_S256_d1 (ix1 t) IntOp.andi _ _).trans ?_
    rw [Finset.univ_unique, Finset.fold_singleton]
    show (BitVec.ofBool ((BitVec.ofNat 32 0).sle ((res_main_call7_v5 V : S256x1.Idx → BitVec 32) (ix2 t (0 : Fin 1)))) &&& BitVec.ofBool (((res_main_call7_v5 V : S256x1.Idx → BitVec 32) (ix2 t (0 : Fin 1))).sle (BitVec.ofNat 32 255))) &&& 1#1 = _
    rw [hI, sle_small _ _ (by omega) (by omega), sle_small _ _ (by omega) (by omega), decide_eq_true (by omega), decide_eq_true (by omega)]
    rw [decide_eq_true trivial]
    rfl
  · rw [if_pos trivial]
    exact (gather256 _ _ t ⟨8 * (t.val / 8), by omega⟩ hI).trans (v126_at V H hcu hgr _)

theorem emit_at (t : Fin 256) : emitV V (ix1 t) = BitVec.ofBool (decide (∀ j, j < t.val % 8 → accT x0 x1 x2 u d (8 * (t.val / 8) + j))) := by
  refine (congrArg₂ (fun x y : BitVec 1 => x &&& y) (congrArg₂ (fun x y : BitVec 32 => BitVec.ofBool (x - y == BitVec.ofNat 32 0)) (v126_at V H hcu hgr t) (base_at V H hcu hgr t)) (v28_at V hcu t)).trans ?_
  have e : t.val = 8 * (t.val / 8) + t.val % 8 := by omega
  have h := rejs_add (accT x0 x1 x2 u d) (8 * (t.val / 8)) (t.val % 8)
  rw [← e] at h
  have hl := rejs_le (accT x0 x1 x2 u d) t.val
  show BitVec.ofBool (BitVec.ofNat 32 _ - BitVec.ofNat 32 _ == BitVec.ofNat 32 0) &&& 1#1 = _
  rw [sub_small _ _ h.1, beq_small _ _ (by omega) (by omega)]
  rw [show decide (rejs (accT x0 x1 x2 u d) t.val - rejs (accT x0 x1 x2 u d) (8 * (t.val / 8)) = 0) = decide (∀ j, j < t.val % 8 → accT x0 x1 x2 u d (8 * (t.val / 8) + j)) from
    decide_eq_decide.mpr ⟨fun q => h.2.mp (by omega), fun q => by have := h.2.mpr q; omega⟩]
  generalize decide (∀ j, j < t.val % 8 → accT x0 x1 x2 u d (8 * (t.val / 8) + j)) = q
  cases q <;> rfl

theorem tok_at (t : Fin 256) (k : ℕ) (hk : Recovered x0 x1 x4 x2 t.val k) :
    tokV V (ix1 t) = if (∀ j, j < t.val % 8 → accT x0 x1 x2 u d (8 * (t.val / 8) + j)) then (if accT x0 x1 x2 u d t.val then BitVec.ofNat 32 (d t.val) else BitVec.ofNat 32 k) else 4294967295#32 := by
  refine (sel_at _ _ _ _ _ (emit_at V H hcu hgr t)).trans ?_
  split
  · refine (sel_at _ _ _ _ False (v119_at V hcu hgr t)).trans ((if_neg not_false).trans ?_)
    refine (sel_at _ _ _ _ _ (v121_at V H hcu hgr t)).trans ?_
    split
    · exact H.h5 t
    · exact rec_at V H hcu t k hk
  · rfl

theorem all_at (b : Fin 32) : (Host.scatter scatter_S32_S256x1_S256_n_0_0_1 IntOp.addi (broadcastInDim S32 ![] bcast_S_S32 (constantI S_ 32 0#32)) (broadcastInDim S256x1 ![0] bcast_S256_S256x1_0 (res_main_v12 V)) (res_main_v124 V) : IVec S32 32) (ix1 b)
    = BitVec.ofNat 32 ((List.range 256).map fun n => if n / 8 = b.val then rej (accT x0 x1 x2 u d) n else 0).sum := by
  refine (scatter_at scatter_S32_S256x1_S256_n_0_0_1 IntOp.addi _ _ _ (ix1 b)).trans ?_
  have hstep : ∀ (n : Fin S256.numel) (a : BitVec 32), (if scatter_S32_S256x1_S256_n_0_0_1.resultIdx? (S256.rowMajor.symm n) (broadcastInDim S256x1 ![0] bcast_S256_S256x1_0 (res_main_v12 V : S256.Idx → BitVec 32)) = some (ix1 b) then IntOp.addi a ((res_main_v124 V : S256.Idx → BitVec 32) (S256.rowMajor.symm n)) else a)
      = IntOp.addi a (BitVec.ofNat 32 (if n.val / 8 = b.val then rej (accT x0 x1 x2 u d) n.val else 0)) := by
    intro n a
    have es : S256.rowMajor.symm n = ix1 (n.cast (numel1 256)) := symm1 (N := 256) n
    rw [es, v124_at V H hcu hgr]
    by_cases hb : n.val / 8 = b.val
    · rw [if_pos hb, if_pos ((put1 V hcu (n.cast (numel1 256)) b).mpr hb)]; rfl
    · rw [if_neg hb, if_neg (fun q => hb ((put1 V hcu (n.cast (numel1 256)) b).mp q))]
      exact (BitVec.add_zero a).symm
  have hf : (fun (a : BitVec 32) (n : Fin S256.numel) => (if scatter_S32_S256x1_S256_n_0_0_1.resultIdx? (S256.rowMajor.symm n) (broadcastInDim S256x1 ![0] bcast_S256_S256x1_0 (res_main_v12 V : S256.Idx → BitVec 32)) = some (ix1 b) then IntOp.addi a ((res_main_v124 V : S256.Idx → BitVec 32) (S256.rowMajor.symm n)) else a))
      = fun a n => IntOp.addi a (BitVec.ofNat 32 (if n.val / 8 = b.val then rej (accT x0 x1 x2 u d) n.val else 0)) := funext fun a => funext fun n => hstep n a
  refine (congrArg (fun g => List.foldl g 0#32 (List.finRange S256.numel)) hf).trans ?_
  refine (foldl_addi_ofNat _ _ (fun n : Fin S256.numel => if n.val / 8 = b.val then rej (accT x0 x1 x2 u d) n.val else 0) (fun n _ => rfl) _ 0 rfl).trans ?_
  rw [Nat.zero_add]
  have en : S256.numel = 256 := numel1 256
  refine congrArg (fun l : List ℕ => BitVec.ofNat 32 l.sum) ((map_finRange_val S256.numel (fun n => if n / 8 = b.val then rej (accT x0 x1 x2 u d) n else 0)).trans ?_)
  rw [en]

theorem bon_at (b : Fin 32) : bonV V (ix1 b) = if (∀ j, j < 8 → accT x0 x1 x2 u d (8 * b.val + j)) then bo b.val else 4294967295#32 := by
  have hb := b.isLt
  have hsum : ((List.range 256).map fun n => if n / 8 = b.val then rej (accT x0 x1 x2 u d) n else 0).sum = 0 ↔ ∀ j, j < 8 → accT x0 x1 x2 u d (8 * b.val + j) := by
    rw [List.sum_eq_zero_iff]
    constructor
    · intro h j hj
      have := h _ (List.mem_map.mpr ⟨8 * b.val + j, List.mem_range.mpr (by omega), rfl⟩)
      rw [if_pos (by omega)] at this
      exact (rej_zero _ _).mp this
    · intro h x hx
      obtain ⟨n, hn, rfl⟩ := List.mem_map.mp hx
      split
      · have e : n = 8 * b.val + n % 8 := by omega
        rw [e]
        exact (rej_zero _ _).mpr (h _ (by omega))
      · rfl
  have hle : ((List.range 256).map fun n => if n / 8 = b.val then rej (accT x0 x1 x2 u d) n else 0).sum ≤ 256 := by
    refine (List.sum_le_card_nsmul _ 1 fun x hx => ?_).trans (by simp)
    obtain ⟨n, hn, rfl⟩ := List.mem_map.mp hx
    split
    · exact rej_le _ _
    · omega
  refine (sel_at _ _ _ _ (∀ j, j < 8 → accT x0 x1 x2 u d (8 * b.val + j)) ?_).trans ?_
  · refine (congrArg (fun x : BitVec 32 => BitVec.ofBool (x == BitVec.ofNat 32 0)) (all_at V H hcu hgr b)).trans ?_
    show BitVec.ofBool (BitVec.ofNat 32 _ == BitVec.ofNat 32 0) = _
    rw [beq_small _ _ (by omega) (by omega)]
    exact congrArg BitVec.ofBool (decide_eq_decide.mpr hsum)
  · split
    · exact H.h6 b
    · rfl

/-- The reference's table is the one the specification gives. -/
theorem ref_out : Out x0 x1 x4 x2 u d bo (fun b p => refOut V (ix2 b p)) := by
  intro n hn k hk b p
  have hb := b.isLt
  obtain ⟨h8, hlt, hrej⟩ := hn b.val hb
  have hlt' : ∀ j, j < n b.val → accT x0 x1 x2 u d (8 * b.val + j) := hlt
  have hrej' : n b.val < 8 → ¬ accT x0 x1 x2 u d (8 * b.val + n b.val) := hrej
  show refOut V (ix2 b p) = _
  unfold refOut specRow
  by_cases hp : p.val = 8
  · refine (scatter_set_hit scatter_S32x9_S32x2_S32_n_01_01_1 _ _ _ (ix2 b p) (bonV V (ix1 b)) (fun q hq => ?_) (ix1 b) ((putB V hcu b b p).mpr ⟨rfl, hp.symm⟩)).trans ?_
    · obtain ⟨i, rfl⟩ : ∃ i : Fin 32, q = ix1 i := ⟨q 0, eq_ix1 q⟩
      have := ((putB V hcu i b p).mp hq).1
      rw [Fin.ext this]
    · rw [bon_at V H hcu hgr b, hp, if_neg (by omega : ¬ 8 < n b.val)]
      by_cases ha : n b.val = 8
      · rw [if_pos (fun j hj => hlt' j (by omega)), if_pos ha.symm, if_neg (by omega)]
      · rw [if_neg (fun q => hrej' (by omega) (q _ (by omega))), if_neg (fun q => ha q.symm)]
  · have hp8 : p.val < 8 := by omega
    refine (scatter_set_miss scatter_S32x9_S32x2_S32_n_01_01_1 _ _ _ (ix2 b p) (fun q hq => ?_)).trans ?_
    · obtain ⟨i, rfl⟩ : ∃ i : Fin 32, q = ix1 i := ⟨q 0, eq_ix1 q⟩
      exact hp ((putB V hcu i b p).mp hq).2.symm
    · have ht : 8 * b.val + p.val < 256 := by omega
      have h1 : (8 * b.val + p.val) / 8 = b.val := by omega
      have h2 : (8 * b.val + p.val) % 8 = p.val := by omega
      refine (scatter_set_hit scatter_S32x9_S256x2_S256_n_01_01_1 _ _ _ (ix2 b p) (tokV V (ix1 ⟨8 * b.val + p.val, ht⟩)) (fun q hq => ?_) (ix1 ⟨8 * b.val + p.val, ht⟩) ((putA V hcu _ b p).mpr ⟨h1, h2⟩)).trans ?_
      · obtain ⟨i, rfl⟩ : ∃ i : Fin 256, q = ix1 i := ⟨q 0, eq_ix1 q⟩
        have := (putA V hcu i b p).mp hq
        rw [show i = ⟨8 * b.val + p.val, ht⟩ from Fin.ext (by show i.val = 8 * b.val + p.val; omega)]
      · rw [tok_at V H hcu hgr ⟨8 * b.val + p.val, ht⟩ (k (8 * b.val + p.val)) (hk _)]
        simp only [h1, h2]
        rcases lt_trichotomy p.val (n b.val) with h | h | h
        · rw [if_pos (fun j hj => hlt' j (by omega)), if_pos (hlt' _ h), if_pos h, if_pos hp8]
        · rw [if_pos (fun j hj => hlt' j (by omega)), if_neg (by rw [h]; exact hrej' (by omega)), if_neg (by omega), if_pos h, if_pos hp8]
        · rw [if_neg (fun q => hrej' (by omega) (q _ h)), if_neg (by omega), if_neg (by omega)]

end Table

end Cert.ReferenceIdeal.Proof
-- ==== Proof.Value.lean ====
module

public import proofs.«01_k».proof.Proof.Drawn
public import proofs.«01_k».proof.Proof.KFin
public import proofs.«01_k».proof.Proof.ROut

@[expose] public section

set_option maxRecDepth 65536

noncomputable section

/-! The two programs end with the same table. -/

namespace Cert.Value

open Idealize.ShloMosaic Idealize.SL.Sem Cert.Arith

/-! ## The arguments as real numbers -/

def e1 {α : Type} {N : ℕ} (z : α) (f : Fin N → α) (t : ℕ) : α := if h : t < N then f ⟨t, h⟩ else z
def e2 {α : Type} {N M : ℕ} (z : α) (f : Fin N → Fin M → α) (t v : ℕ) : α := if h : t < N ∧ v < M then f ⟨t, h.1⟩ ⟨v, h.2⟩ else z

theorem e1_at {α : Type} {N : ℕ} (z : α) (f : Fin N → α) (t : Fin N) : e1 z f t.val = f t := dif_pos t.isLt
theorem e2_at {α : Type} {N M : ℕ} (z : α) (f : Fin N → Fin M → α) (t : Fin N) (v : Fin M) : e2 z f t.val v.val = f t v := dif_pos ⟨t.isLt, v.isLt⟩

theorem e1_all {α : Type} {N : ℕ} (P : α → Prop) (z : α) (f : Fin N → α) (hz : P z) (hf : ∀ t, P (f t)) (t : ℕ) : P (e1 z f t) := by
  unfold e1; split
  · exact hf _
  · exact hz
theorem e2_all {α : Type} {N M : ℕ} (P : α → Prop) (z : α) (f : Fin N → Fin M → α) (hz : P z) (hf : ∀ t v, P (f t v)) (t v : ℕ) : P (e2 z f t v) := by
  unfold e2; split
  · exact hf _ _
  · exact hz

theorem data_exists (g0 : Fin 256 → Fin 100000 → EReal) (g1 : Fin 288 → Fin 100000 → EReal) (g2 : Fin 32 → EReal) (g3 : Fin 256 → EReal)
    (g4 : Fin 32 → Fin 100000 → EReal) (g5 : Fin 256 → BitVec 32) (g6 : Fin 32 → BitVec 32)
    (h0 : ∀ t v, ∃ r : ℝ, g0 t v = r) (h1 : ∀ t v, ∃ r : ℝ, g1 t v = r) (h2 : ∀ b, ∃ r : ℝ, r ≠ 0 ∧ g2 b = r)
    (h4 : ∀ b v, ∃ r : ℝ, (0 < r ∧ r < 1) ∧ g4 b v = r) (h5 : ∀ t, ∃ n : ℕ, n < 100000 ∧ g5 t = BitVec.ofNat 32 n) :
    ∃ x0 x1 x4 x2 u d bo, Data x0 x1 x4 x2 u d bo g0 g1 g2 g3 g4 g5 g6 := by
  choose f0 e0 using h0
  choose f1 q1 using h1
  choose f2 n2 q2 using h2
  choose f4 n4 q4 using h4
  choose f5 n5 q5 using h5
  refine ⟨e2 0 f0, e2 0 f1, e2 (1 / 2) f4, e1 1 f2, e1 0 g3, e1 0 f5, e1 0#32 g6, ?_⟩
  constructor
  · intro t v; rw [e2_at]; exact e0 t v
  · intro t v; rw [e2_at]; exact q1 t v
  · intro b; rw [e1_at]; exact q2 b
  · exact e1_all (fun r : ℝ => r ≠ 0) _ _ one_ne_zero n2
  · intro t; rw [e1_at]
  · intro b v; rw [e2_at]; exact q4 b v
  · exact e2_all (fun r : ℝ => 0 < r) _ _ (by norm_num) fun b v => (n4 b v).1
  · exact e2_all (fun r : ℝ => r < 1) _ _ (by norm_num) fun b v => (n4 b v).2
  · intro t; rw [e1_at]; exact q5 t
  · exact e1_all (fun n : ℕ => n < 100000) _ _ (by norm_num) n5
  · intro b; rw [e1_at]

/-! ## The tables -/

/-- The reference's buffers at its launch. -/
abbrev RV (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := StableHlo.launchContents m' c

theorem toR {a0 : Cert.ReferenceIdeal.S256x100000.Idx → EReal} {a1 : Cert.ReferenceIdeal.S288x100000.Idx → EReal} {a2 : Cert.ReferenceIdeal.S32.Idx → EReal}
    {a3 : Cert.ReferenceIdeal.S256.Idx → EReal} {a4 : Cert.ReferenceIdeal.S32x100000.Idx → EReal} {a5 : Cert.ReferenceIdeal.S256.Idx → BitVec 32} {a6 : Cert.ReferenceIdeal.S32.Idx → BitVec 32}
    (V : Valuation Cert.ReferenceIdeal.τ Cert.ReferenceIdeal.sig (Elt Ideal))
    (h0 : V (Proc.devRef .tc Cert.ReferenceIdeal.main_arg0) = a0) (h1 : V (Proc.devRef .tc Cert.ReferenceIdeal.main_arg1) = a1) (h2 : V (Proc.devRef .tc Cert.ReferenceIdeal.main_arg2) = a2)
    (h3 : V (Proc.devRef .tc Cert.ReferenceIdeal.main_arg3) = a3) (h4 : V (Proc.devRef .tc Cert.ReferenceIdeal.main_arg4) = a4) (h5 : V (Proc.devRef .tc Cert.ReferenceIdeal.main_arg5) = a5)
    (h6 : V (Proc.devRef .tc Cert.ReferenceIdeal.main_arg6) = a6)
    {x0 x1 x4 : ℕ → ℕ → ℝ} {x2 : ℕ → ℝ} {u : ℕ → EReal} {d : ℕ → ℕ} {bo : ℕ → BitVec 32}
    (H : Data x0 x1 x4 x2 u d bo (fun t v => a0 (ix2 t v)) (fun t v => a1 (ix2 t v)) (fun b => a2 (ix1 b)) (fun t => a3 (ix1 t)) (fun b v => a4 (ix2 b v)) (fun t => a5 (ix1 t)) (fun b => a6 (ix1 b))) :
    Cert.ReferenceIdeal.Proof.RData V x0 x1 x4 x2 u d bo := by
  subst h0 h1 h2 h3 h4 h5 h6
  exact H

theorem table_eq (o o' : (⟨2, ![32, 9]⟩ : Shape).Idx → BitVec 32) (h : (fun (b : Fin 32) (p : Fin 9) => o (ix2 b p)) = fun b p => o' (ix2 b p)) : o = o' := by
  funext i
  rw [eq_ix2 i]
  exact congrFun (congrFun h (i 0)) (i 1)

theorem tables (m : (ℓ : Loc Cert.KernelIdeal.nD Cert.KernelIdeal.τ Cert.KernelIdeal.sig) → Buf (Elt Ideal) ℓ) (hp : Cert.Pre_KernelIdeal_as_drawn m) (c : Dev Cert.KernelIdeal.nD)
    (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (h7 : V (Proc.devRef .tc Cert.ReferenceIdeal.main_arg7) = m ((c.tc : Thread Cert.KernelIdeal.nD Cert.KernelIdeal.τ).loc Cert.KernelIdeal.main_arg7))
    (h8 : V (Proc.devRef .tc Cert.ReferenceIdeal.main_arg8) = m ((c.tc : Thread Cert.KernelIdeal.nD Cert.KernelIdeal.τ).loc Cert.KernelIdeal.main_arg8)) :
    Cert.ReferenceIdeal.Proof.refOut V = (Cert.KernelIdeal.Proof.W5 m c (Proc.devRef .tc Cert.KernelIdeal.main_v0) : Cert.KernelIdeal.S32x9.Idx → BitVec 32) := by
  obtain ⟨r0, r1, r2, r4, r5, r7, r8⟩ := Cert.Drawn.drawn _ _ _ _ _ _ _ _ _ (hp c)
  obtain ⟨x0, x1, x4, x2, u, d, bo, H⟩ := data_exists (fun t v => Cert.KernelIdeal.Proof.g0 m c (ix2 t v)) (fun t v => Cert.KernelIdeal.Proof.g1 m c (ix2 t v)) (fun b => Cert.KernelIdeal.Proof.g2 m c (ix1 b))
    (fun t => Cert.KernelIdeal.Proof.g3 m c (ix1 t)) (fun b v => Cert.KernelIdeal.Proof.g4 m c (ix2 b v)) (fun t => Cert.KernelIdeal.Proof.g5 m c (ix1 t)) (fun b => Cert.KernelIdeal.Proof.g6 m c (ix1 b))
    (fun t v => r0 (ix2 t v)) (fun t v => r1 (ix2 t v)) (fun b => r2 (ix1 b)) (fun b v => r4 (ix2 b v)) (fun t => r5 (ix1 t))
  refine table_eq _ _ (Out.unique (Cert.ReferenceIdeal.Proof.ref_out V (toR V h0 h1 h2 h3 h4 h5 h6 H) (fun b => (congrFun h7 (ix1 b)).trans (r7 b)) (fun b => (congrFun h8 (ix1 b)).trans (r8 (ix1 b))))
    (Cert.KernelIdeal.Proof.ker_out m c H))

theorem value : Cert.algebraic_KernelIdeal_ReferenceIdeal_pre_as_drawn := by
  intro m g m' g' hp hag
  refine ⟨fun c => Cert.KernelIdeal.Proof.W5 m c (Proc.devRef .tc Cert.KernelIdeal.main_v0), ?_, ?_⟩
  · exact θ_run_mono (Cert.KernelIdeal.Proof.run_all m g) fun r h c => ⟨(h.1 c).2, (h.1 c).1⟩
  · refine θ_run_mono (Cert.ReferenceIdeal.Value.run (F := Ideal) m' g') fun r h c => ⟨(h c).1.trans ?_, (h c).2⟩
    obtain ⟨h0, h1, h2, h3, h4, h5, h6, h7, h8⟩ := hag c
    exact tables m hp c (RV m' c) h0 h1 h2 h3 h4 h5 h6 h7 h8

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunAll
public import proofs.«01_k».proof.Proof.K.RunAll
public import proofs.«01_k».proof.Proof.Value
public import Idealize.ShloMosaic.Lib.StableHlo.RunHlo
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Drawn.facts,
    fun m g _ => Cert.Kernel.Proof.run_frame m g,
    fun m g _ => Cert.KernelIdeal.Proof.run_frame m g,
    fun m g _ => Cert.KernelIdeal.Proof.run_frame m g,
    fun m g _ => θ_run_mono (Cert.ReferenceIdeal.Value.run (F := Ideal) m g) fun r h =>
      ⟨fun c => (h c).2, Idealize.ShloMosaic.sem_eq_zero_of_no_sems (by decide) r.2⟩,
    fun m g _ => θ_run_mono (Cert.ReferenceIdeal.Value.run (F := Ideal) m g) fun r h =>
      ⟨fun c => (h c).2, Idealize.ShloMosaic.sem_eq_zero_of_no_sems (by decide) r.2⟩,
    trivial,
    Cert.Value.value⟩

end Cert.Proof

end
